-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_rows_in_range [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v6_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel)
    ∧ quiescent_KernelIdeal (hKernelIdeal := hKernelIdeal)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal_pre_rows_in_range (hKernelIdeal := hKernelIdeal) (hReferenceIdeal := hReferenceIdeal) (hPre_rows_in_range := hPre_rows_in_range)
-- ==== Pre_rows_in_range.lean ====
abbrev S12x2048x2560 : Shape := ⟨3, ![12, 2048, 2560]⟩
abbrev S2x256x2560 : Shape := ⟨3, ![2, 256, 2560]⟩
abbrev S2x256 : Shape := ⟨2, ![2, 256]⟩
abbrev S2560x2x256 : Shape := ⟨3, ![2560, 2, 256]⟩
abbrev S2560 : Shape := ⟨1, ![2560]⟩
abbrev S256 : Shape := ⟨1, ![256]⟩
abbrev S12x256 : Shape := ⟨2, ![12, 256]⟩
abbrev S_ : Shape := ⟨0, ![]⟩
abbrev S12x2048 : Shape := ⟨2, ![12, 2048]⟩

class Facts : Prop where
  bitsLt_bf16_f32 : FTy.bits .bf16 < FTy.bits .f32
  reducesTo_S12x2048x2560_S12x2048_d2 : S12x2048x2560.ReducesTo [2] S12x2048
  h_S_ : 0 < S_.numel
  bcast_S_S12x2048 : S_.BroadcastsInDim S12x2048 (![] : Fin 0 → Fin S12x2048.rank)

variable [Facts]

def fn {F : FTy → Type} [FloatOps F] (main_arg0 : FVec F S12x2048x2560 .bf16) (main_arg1 : FVec F S2x256x2560 .fp8e4m3) (main_arg2 : FVec F S2x256 .f32) (main_arg3 : FVec F S2560x2x256 .fp8e4m3) (main_arg4 : FVec F S2560 .f32) (main_arg5 : FVec F S256 .f32) (main_arg6 : FVec F S256 .f32) (main_arg7 : FVec F S256 .f32) (main_arg8 : FVec F S2560 .f32) (main_arg9 : FVec F S12x256 .f32) (main_arg10 : FVec F S12x256 .f32) : IVec S12x2048 1 :=
  let main_v0 : FVec F S12x2048x2560 .f32 := (extf .f32 · bitsLt_bf16_f32) main_arg0
  let main_v1 : FVec F S12x2048x2560 .f32 := Host.absf main_v0
  let main_cst : FVec F S_ .f32 := constant S_ .f32 0xFF800000#32
  let main_v2 : FVec F S12x2048 .f32 := (fun x v => Host.reduce FloatOps.maximumf x v reducesTo_S12x2048x2560_S12x2048_d2 h_S_) main_v1 main_cst
  let main_cst_0 : FVec F S_ .f32 := constant S_ .f32 0x00000000#32
  let main_v3 : FVec F S12x2048 .f32 := broadcastInDim S12x2048 ![] bcast_S_S12x2048 main_cst_0
  let main_v4 : IVec S12x2048 1 := cmpf .oeq main_v2 main_v3
  let main_cst_1 : FVec F S_ .f32 := constant S_ .f32 0x3B124925#32
  let main_v5 : FVec F S12x2048 .f32 := broadcastInDim S12x2048 ![] bcast_S_S12x2048 main_cst_1
  let main_v6 : FVec F S12x2048 .f32 := mulf main_v2 main_v5
  let main_cst_2 : FVec F S_ .f32 := constant S_ .f32 0x00800000#32
  let main_v7 : FVec F S12x2048 .f32 := broadcastInDim S12x2048 ![] bcast_S_S12x2048 main_cst_2
  let main_v8 : IVec S12x2048 1 := cmpf .oge main_v6 main_v7
  let main_v9 : IVec S12x2048 1 := ori main_v4 main_v8
  let main_cst_3 : FVec F S_ .f32 := constant S_ .f32 0x7F7F0000#32
  let main_v10 : FVec F S12x2048 .f32 := broadcastInDim S12x2048 ![] bcast_S_S12x2048 main_cst_3
  let main_v11 : IVec S12x2048 1 := cmpf .ole main_v2 main_v10
  let main_v12 : IVec S12x2048 1 := andi main_v9 main_v11
  main_v12
-- ==== Kernel.lean ====
abbrev S12x2048x2560 : Shape := ⟨3, ![12, 2048, 2560]⟩
abbrev S2x256x2560 : Shape := ⟨3, ![2, 256, 2560]⟩
abbrev S2x256 : Shape := ⟨2, ![2, 256]⟩
abbrev S2560x2x256 : Shape := ⟨3, ![2560, 2, 256]⟩
abbrev S2560 : Shape := ⟨1, ![2560]⟩
abbrev S256 : Shape := ⟨1, ![256]⟩
abbrev S12x256 : Shape := ⟨2, ![12, 256]⟩
abbrev S512x2560 : Shape := ⟨2, ![512, 2560]⟩
abbrev S2560x512 : Shape := ⟨2, ![2560, 512]⟩
abbrev S1x2560 : Shape := ⟨2, ![1, 2560]⟩
abbrev S1x256 : Shape := ⟨2, ![1, 256]⟩
abbrev S12x2048 : Shape := ⟨2, ![12, 2048]⟩
abbrev S12x128x2560 : Shape := ⟨3, ![12, 128, 2560]⟩
abbrev S6x8x256 : Shape := ⟨3, ![6, 8, 256]⟩
abbrev S4x2064x128 : Shape := ⟨3, ![4, 2064, 128]⟩
abbrev S4x16x128 : Shape := ⟨3, ![4, 16, 128]⟩
abbrev S8x256 : Shape := ⟨2, ![8, 256]⟩
abbrev S1x8x256 : Shape := ⟨3, ![1, 8, 256]⟩
abbrev S12x128 : Shape := ⟨2, ![12, 128]⟩
abbrev S1x12x128 : Shape := ⟨3, ![1, 12, 128]⟩
abbrev S128x128 : Shape := ⟨2, ![128, 128]⟩
abbrev S1x128x2560 : Shape := ⟨3, ![1, 128, 2560]⟩
abbrev S128x2560 : Shape := ⟨2, ![128, 2560]⟩
abbrev S128 : Shape := ⟨1, ![128]⟩
abbrev S128x1 : Shape := ⟨2, ![128, 1]⟩
abbrev S128x256 : Shape := ⟨2, ![128, 256]⟩
abbrev S1x128 : Shape := ⟨2, ![1, 128]⟩
abbrev S128x512 : Shape := ⟨2, ![128, 512]⟩
abbrev S1x128x128 : Shape := ⟨3, ![1, 128, 128]⟩
abbrev S1x8x128 : Shape := ⟨3, ![1, 8, 128]⟩
abbrev S8x128 : Shape := ⟨2, ![8, 128]⟩

abbrev nBuf : Space → Nat
  | .hbm => 23
  | .vmem => 22
  | .smem => 0
  | _ => 0

abbrev bufTy : (tb : Table) → Fin (tcTables nBuf tb) → BufTy
  | .hbm, ⟨0, _⟩ => ⟨S12x2048x2560, .bf16⟩
  | .hbm, ⟨1, _⟩ => ⟨S2x256x2560, .fp8e4m3⟩
  | .hbm, ⟨2, _⟩ => ⟨S2x256, .f32⟩
  | .hbm, ⟨3, _⟩ => ⟨S2560x2x256, .fp8e4m3⟩
  | .hbm, ⟨4, _⟩ => ⟨S2560, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S2560, .f32⟩
  | .hbm, ⟨9, _⟩ => ⟨S12x256, .f32⟩
  | .hbm, ⟨10, _⟩ => ⟨S12x256, .f32⟩
  | .hbm, ⟨11, _⟩ => ⟨S512x2560, .fp8e4m3⟩
  | .hbm, ⟨12, _⟩ => ⟨S2560x512, .fp8e4m3⟩
  | .hbm, ⟨13, _⟩ => ⟨S1x2560, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x2560, .f32⟩
  | .hbm, ⟨18, _⟩ => ⟨S12x2048x2560, .bf16⟩
  | .hbm, ⟨19, _⟩ => ⟨S12x256, .f32⟩
  | .hbm, ⟨20, _⟩ => ⟨S12x256, .f32⟩
  | .hbm, ⟨21, _⟩ => ⟨S12x2048x2560, .fp8e4m3⟩
  | .hbm, ⟨22, _⟩ => ⟨S12x2048, .f32⟩
  | .local _ .vmem, ⟨0, _⟩ => ⟨S12x128x2560, .bf16⟩
  | .local _ .vmem, ⟨1, _⟩ => ⟨S12x128x2560, .bf16⟩
  | .local _ .vmem, ⟨2, _⟩ => ⟨S512x2560, .fp8e4m3⟩
  | .local _ .vmem, ⟨3, _⟩ => ⟨S2x256, .f32⟩
  | .local _ .vmem, ⟨4, _⟩ => ⟨S2560x512, .fp8e4m3⟩
  | .local _ .vmem, ⟨5, _⟩ => ⟨S1x2560, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x2560, .f32⟩
  | .local _ .vmem, ⟨10, _⟩ => ⟨S12x256, .f32⟩
  | .local _ .vmem, ⟨11, _⟩ => ⟨S12x256, .f32⟩
  | .local _ .vmem, ⟨12, _⟩ => ⟨S12x128x2560, .bf16⟩
  | .local _ .vmem, ⟨13, _⟩ => ⟨S12x128x2560, .bf16⟩
  | .local _ .vmem, ⟨14, _⟩ => ⟨S12x256, .f32⟩
  | .local _ .vmem, ⟨15, _⟩ => ⟨S12x256, .f32⟩
  | .local _ .vmem, ⟨16, _⟩ => ⟨S12x128x2560, .fp8e4m3⟩
  | .local _ .vmem, ⟨17, _⟩ => ⟨S12x128x2560, .fp8e4m3⟩
  | .local _ .vmem, ⟨18, _⟩ => ⟨S12x2048, .f32⟩
  | .local _ .vmem, ⟨19, _⟩ => ⟨S6x8x256, .f32⟩
  | .local _ .vmem, ⟨20, _⟩ => ⟨S4x2064x128, .f32⟩
  | .local _ .vmem, ⟨21, _⟩ => ⟨S4x16x128, .f32⟩
  | _, _ => ⟨S12x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c128_i32 : BitVec 32 := 128#32
  let v60 : BitVec 32 := Scalar.muli arg0 c128_i32
  v60
def k0_off1 (i : grid0.Coords) : Fin 2 → Nat :=
  let c0_18 : Index := 0#32
  let arg0 : BitVec 32 := BitVec.ofNat 32 (i 0).val
  let c128_i32 : BitVec 32 := 128#32
  let v60 : BitVec 32 := Scalar.muli arg0 c128_i32
  let v61 : BitVec 32 := v60
  let v62 : Index := Scalar.indexCast v61
  ![0, v62.toNat]
def k0_mult2 (i : grid0.Coords) : BitVec 32 :=
  let arg0 : BitVec 32 := BitVec.ofNat 32 (i 0).val
  let c128_i32_54 : BitVec 32 := 128#32
  let v142 : BitVec 32 := Scalar.muli arg0 c128_i32_54
  v142
def k0_off2 (i : grid0.Coords) : Fin 2 → Nat :=
  let c1_55 : Index := 1#32
  let arg0 : BitVec 32 := BitVec.ofNat 32 (i 0).val
  let c128_i32_54 : BitVec 32 := 128#32
  let v142 : BitVec 32 := Scalar.muli arg0 c128_i32_54
  let v143 : BitVec 32 := v142
  let v144 : Index := Scalar.indexCast v143
  ![1, v144.toNat]
def k0_mult3 (i : grid0.Coords) : BitVec 32 :=
  let arg0 : BitVec 32 := BitVec.ofNat 32 (i 0).val
  let c128_i32_93 : BitVec 32 := 128#32
  let v224 : BitVec 32 := Scalar.muli arg0 c128_i32_93
  v224
def k0_off3 (i : grid0.Coords) : Fin 2 → Nat :=
  let c2_94 : Index := 2#32
  let arg0 : BitVec 32 := BitVec.ofNat 32 (i 0).val
  let c128_i32_93 : BitVec 32 := 128#32
  let v224 : BitVec 32 := Scalar.muli arg0 c128_i32_93
  let v225 : BitVec 32 := v224
  let v226 : Index := Scalar.indexCast v225
  ![2, v226.toNat]
def k0_mult4 (i : grid0.Coords) : BitVec 32 :=
  let arg0 : BitVec 32 := BitVec.ofNat 32 (i 0).val
  let c128_i32_132 : BitVec 32 := 128#32
  let v306 : BitVec 32 := Scalar.muli arg0 c128_i32_132
  v306
def k0_off4 (i : grid0.Coords) : Fin 2 → Nat :=
  let c3_133 : Index := 3#32
  let arg0 : BitVec 32 := BitVec.ofNat 32 (i 0).val
  let c128_i32_132 : BitVec 32 := 128#32
  let v306 : BitVec 32 := Scalar.muli arg0 c128_i32_132
  let v307 : BitVec 32 := v306
  let v308 : Index := Scalar.indexCast v307
  ![3, v308.toNat]
def k0_mult5 (i : grid0.Coords) : BitVec 32 :=
  let arg0 : BitVec 32 := BitVec.ofNat 32 (i 0).val
  let c128_i32_170 : BitVec 32 := 128#32
  let v388 : BitVec 32 := Scalar.muli arg0 c128_i32_170
  v388
def k0_off5 (i : grid0.Coords) : Fin 2 → Nat :=
  let c4_171 : Index := 4#32
  let arg0 : BitVec 32 := BitVec.ofNat 32 (i 0).val
  let c128_i32_170 : BitVec 32 := 128#32
  let v388 : BitVec 32 := Scalar.muli arg0 c128_i32_170
  let v389 : BitVec 32 := v388
  let v390 : Index := Scalar.indexCast v389
  ![4, v390.toNat]
def k0_mult6 (i : grid0.Coords) : BitVec 32 :=
  let arg0 : BitVec 32 := BitVec.ofNat 32 (i 0).val
  let c128_i32_208 : BitVec 32 := 128#32
  let v470 : BitVec 32 := Scalar.muli arg0 c128_i32_208
  v470
def k0_off6 (i : grid0.Coords) : Fin 2 → Nat :=
  let c5_209 : Index := 5#32
  let arg0 : BitVec 32 := BitVec.ofNat 32 (i 0).val
  let c128_i32_208 : BitVec 32 := 128#32
  let v470 : BitVec 32 := Scalar.muli arg0 c128_i32_208
  let v471 : BitVec 32 := v470
  let v472 : Index := Scalar.indexCast v471
  ![5, v472.toNat]
def k0_mult7 (i : grid0.Coords) : BitVec 32 :=
  let arg0 : BitVec 32 := BitVec.ofNat 32 (i 0).val
  let c128_i32_246 : BitVec 32 := 128#32
  let v552 : BitVec 32 := Scalar.muli arg0 c128_i32_246
  v552
def k0_off7 (i : grid0.Coords) : Fin 2 → Nat :=
  let c6_247 : Index := 6#32
  let arg0 : BitVec 32 := BitVec.ofNat 32 (i 0).val
  let c128_i32_246 : BitVec 32 := 128#32
  let v552 : BitVec 32 := Scalar.muli arg0 c128_i32_246
  let v553 : BitVec 32 := v552
  let v554 : Index := Scalar.indexCast v553
  ![6, v554.toNat]
def k0_mult8 (i : grid0.Coords) : BitVec 32 :=
  let arg0 : BitVec 32 := BitVec.ofNat 32 (i 0).val
  let c128_i32_284 : BitVec 32 := 128#32
  let v634 : BitVec 32 := Scalar.muli arg0 c128_i32_284
  v634
def k0_off8 (i : grid0.Coords) : Fin 2 → Nat :=
  let c7_285 : Index := 7#32
  let arg0 : BitVec 32 := BitVec.ofNat 32 (i 0).val
  let c128_i32_284 : BitVec 32 := 128#32
  let v634 : BitVec 32 := Scalar.muli arg0 c128_i32_284
  let v635 : BitVec 32 := v634
  let v636 : Index := Scalar.indexCast v635
  ![7, v636.toNat]
def k0_mult9 (i : grid0.Coords) : BitVec 32 :=
  let arg0 : BitVec 32 := BitVec.ofNat 32 (i 0).val
  let c128_i32_322 : BitVec 32 := 128#32
  let v716 : BitVec 32 := Scalar.muli arg0 c128_i32_322
  v716
def k0_off9 (i : grid0.Coords) : Fin 2 → Nat :=
  let c8_323 : Index := 8#32
  let arg0 : BitVec 32 := BitVec.ofNat 32 (i 0).val
  let c128_i32_322 : BitVec 32 := 128#32
  let v716 : BitVec 32 := Scalar.muli arg0 c128_i32_322
  let v717 : BitVec 32 := v716
  let v718 : Index := Scalar.indexCast v717
  ![8, v718.toNat]
def k0_mult10 (i : grid0.Coords) : BitVec 32 :=
  let arg0 : BitVec 32 := BitVec.ofNat 32 (i 0).val
  let c128_i32_360 : BitVec 32 := 128#32
  let v798 : BitVec 32 := Scalar.muli arg0 c128_i32_360
  v798
def k0_off10 (i : grid0.Coords) : Fin 2 → Nat :=
  let c9_361 : Index := 9#32
  let arg0 : BitVec 32 := BitVec.ofNat 32 (i 0).val
  let c128_i32_360 : BitVec 32 := 128#32
  let v798 : BitVec 32 := Scalar.muli arg0 c128_i32_360
  let v799 : BitVec 32 := v798
  let v800 : Index := Scalar.indexCast v799
  ![9, v800.toNat]
def k0_mult11 (i : grid0.Coords) : BitVec 32 :=
  let arg0 : BitVec 32 := BitVec.ofNat 32 (i 0).val
  let c128_i32_398 : BitVec 32 := 128#32
  let v880 : BitVec 32 := Scalar.muli arg0 c128_i32_398
  v880
def k0_off11 (i : grid0.Coords) : Fin 2 → Nat :=
  let c10_399 : Index := 10#32
  let arg0 : BitVec 32 := BitVec.ofNat 32 (i 0).val
  let c128_i32_398 : BitVec 32 := 128#32
  let v880 : BitVec 32 := Scalar.muli arg0 c128_i32_398
  let v881 : BitVec 32 := v880
  let v882 : Index := Scalar.indexCast v881
  ![10, v882.toNat]
def k0_mult12 (i : grid0.Coords) : BitVec 32 :=
  let arg0 : BitVec 32 := BitVec.ofNat 32 (i 0).val
  let c128_i32_436 : BitVec 32 := 128#32
  let v962 : BitVec 32 := Scalar.muli arg0 c128_i32_436
  v962
def k0_off12 (i : grid0.Coords) : Fin 2 → Nat :=
  let c11_437 : Index := 11#32
  let arg0 : BitVec 32 := BitVec.ofNat 32 (i 0).val
  let c128_i32_436 : BitVec 32 := 128#32
  let v962 : BitVec 32 := Scalar.muli arg0 c128_i32_436
  let v963 : BitVec 32 := v962
  let v964 : Index := Scalar.indexCast v963
  ![11, v964.toNat]
@[reducible] def k0_t1_loop : Scf.Loop 32 :=
  let c0_i32_476 : BitVec 32 := 0#32
  let c128_i32_477 : BitVec 32 := 128#32
  let v1005 : BitVec 32 := Scalar.addi c0_i32_476 c128_i32_477
  let c1_i32_478 : BitVec 32 := 1#32
  ⟨c0_i32_476, v1005, c1_i32_478⟩
def k0_off13 (k0_t1 : Fin k0_t1_loop.trips) (c0_i32_526 : BitVec 32) : Fin 3 → Nat :=
  let c0_527 : Index := 0#32
  let c0_i32_476 : BitVec 32 := 0#32
  let c1_i32_478 : BitVec 32 := 1#32
  let arg20 : BitVec 32 := Scf.iv c0_i32_476 c1_i32_478 k0_t1
  let v1044 : BitVec 32 := Scalar.addi c0_i32_526 arg20
  let v1045 : Index := Scalar.indexCast v1044
  let c0_528 : Index := 0#32
  ![0, v1045.toNat, 0]
def k0_off14 (k0_t1 : Fin k0_t1_loop.trips) (c0_i32_526 : BitVec 32) : Fin 3 → Nat :=
  let c2_529 : Index := 2#32
  let c0_i32_476 : BitVec 32 := 0#32
  let c1_i32_478 : BitVec 32 := 1#32
  let arg20 : BitVec 32 := Scf.iv c0_i32_476 c1_i32_478 k0_t1
  let v1044 : BitVec 32 := Scalar.addi c0_i32_526 arg20
  let v1048 : Index := Scalar.indexCast v1044
  let c0_530 : Index := 0#32
  ![2, v1048.toNat, 0]
def k0_off15 (k0_t1 : Fin k0_t1_loop.trips) (c0_i32_554 : BitVec 32) : Fin 3 → Nat :=
  let c1_555 : Index := 1#32
  let c0_i32_476 : BitVec 32 := 0#32
  let c1_i32_478 : BitVec 32 := 1#32
  let arg20 : BitVec 32 := Scf.iv c0_i32_476 c1_i32_478 k0_t1
  let v1087 : BitVec 32 := Scalar.addi c0_i32_554 arg20
  let v1088 : Index := Scalar.indexCast v1087
  let c0_556 : Index := 0#32
  ![1, v1088.toNat, 0]
def k0_off16 (k0_t1 : Fin k0_t1_loop.trips) (c0_i32_554 : BitVec 32) : Fin 3 → Nat :=
  let c3_557 : Index := 3#32
  let c0_i32_476 : BitVec 32 := 0#32
  let c1_i32_478 : BitVec 32 := 1#32
  let arg20 : BitVec 32 := Scf.iv c0_i32_476 c1_i32_478 k0_t1
  let v1087 : BitVec 32 := Scalar.addi c0_i32_554 arg20
  let v1091 : Index := Scalar.indexCast v1087
  let c0_558 : Index := 0#32
  ![3, v1091.toNat, 0]
@[reducible] def k0_t2_loop : Scf.Loop 32 :=
  let c0_i32_523 : BitVec 32 := 0#32
  let c12_i32 : BitVec 32 := 12#32
  let v1043 : BitVec 32 := Scalar.addi c0_i32_523 c12_i32
  let c1_i32_524 : BitVec 32 := 1#32
  ⟨c0_i32_523, v1043, c1_i32_524⟩
def k0_off17 (k0_t2 : Fin k0_t2_loop.trips) : Fin 3 → Nat :=
  let c0_526 : Index := 0#32
  let c0_i32_523 : BitVec 32 := 0#32
  let c1_i32_524 : BitVec 32 := 1#32
  let arg20 : BitVec 32 := Scf.iv c0_i32_523 c1_i32_524 k0_t2
  let c129_i32 : BitVec 32 := 129#32
  let v1044 : BitVec 32 := Scalar.muli arg20 c129_i32
  let v1045 : Index := Scalar.indexCast v1044
  let c0_527 : Index := 0#32
  ![0, v1045.toNat, 0]
def k0_off18 (k0_t2 : Fin k0_t2_loop.trips) : Fin 3 → Nat :=
  let c1_529 : Index := 1#32
  let c0_i32_523 : BitVec 32 := 0#32
  let c1_i32_524 : BitVec 32 := 1#32
  let arg20 : BitVec 32 := Scf.iv c0_i32_523 c1_i32_524 k0_t2
  let c129_i32_528 : BitVec 32 := 129#32
  let v1049 : BitVec 32 := Scalar.muli arg20 c129_i32_528
  let v1050 : Index := Scalar.indexCast v1049
  let c0_530 : Index := 0#32
  ![1, v1050.toNat, 0]
def k0_off19 (k0_t2 : Fin k0_t2_loop.trips) : Fin 3 → Nat :=
  let c2_532 : Index := 2#32
  let c0_i32_523 : BitVec 32 := 0#32
  let c1_i32_524 : BitVec 32 := 1#32
  let arg20 : BitVec 32 := Scf.iv c0_i32_523 c1_i32_524 k0_t2
  let c129_i32_531 : BitVec 32 := 129#32
  let v1054 : BitVec 32 := Scalar.muli arg20 c129_i32_531
  let v1055 : Index := Scalar.indexCast v1054
  let c0_533 : Index := 0#32
  ![2, v1055.toNat, 0]
def k0_off20 (k0_t2 : Fin k0_t2_loop.trips) : Fin 3 → Nat :=
  let c3_535 : Index := 3#32
  let c0_i32_523 : BitVec 32 := 0#32
  let c1_i32_524 : BitVec 32 := 1#32
  let arg20 : BitVec 32 := Scf.iv c0_i32_523 c1_i32_524 k0_t2
  let c129_i32_534 : BitVec 32 := 129#32
  let v1059 : BitVec 32 := Scalar.muli arg20 c129_i32_534
  let v1060 : Index := Scalar.indexCast v1059
  let c0_536 : Index := 0#32
  ![3, v1060.toNat, 0]
def k0_off21 (k0_t2 : Fin k0_t2_loop.trips) : Fin 3 → Nat :=
  let c0_i32_523 : BitVec 32 := 0#32
  let c1_i32_524 : BitVec 32 := 1#32
  let arg20 : BitVec 32 := Scf.iv c0_i32_523 c1_i32_524 k0_t2
  let v1074 : Index := Scalar.indexCast arg20
  let c0_544 : Index := 0#32
  let c0_545 : Index := 0#32
  ![v1074.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12x128x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2560x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S12x128x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S12x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S12x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S12x128x2560 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S12x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S12x2048x2560 : Shape := ⟨3, ![12, 2048, 2560]⟩
abbrev S2x256x2560 : Shape := ⟨3, ![2, 256, 2560]⟩
abbrev S2x256 : Shape := ⟨2, ![2, 256]⟩
abbrev S2560x2x256 : Shape := ⟨3, ![2560, 2, 256]⟩
abbrev S2560 : Shape := ⟨1, ![2560]⟩
abbrev S256 : Shape := ⟨1, ![256]⟩
abbrev S12x256 : Shape := ⟨2, ![12, 256]⟩
abbrev S2560x512 : Shape := ⟨2, ![2560, 512]⟩
abbrev S1x2560 : Shape := ⟨2, ![1, 2560]⟩
abbrev S1x256 : Shape := ⟨2, ![1, 256]⟩
abbrev S12x2048 : Shape := ⟨2, ![12, 2048]⟩
abbrev S12x2048x1 : Shape := ⟨3, ![12, 2048, 1]⟩
abbrev S1x1x254 : Shape := ⟨3, ![1, 1, 254]⟩
abbrev S12x2048x254 : Shape := ⟨3, ![12, 2048, 254]⟩
abbrev S12x1x2560 : Shape := ⟨3, ![12, 1, 2560]⟩
abbrev S12x2560 : Shape := ⟨2, ![12, 2560]⟩
abbrev S12 : Shape := ⟨1, ![12]⟩
abbrev S12x1 : Shape := ⟨2, ![12, 1]⟩
abbrev S1x254 : Shape := ⟨2, ![1, 254]⟩
abbrev S12x254 : Shape := ⟨2, ![12, 254]⟩
abbrev S1x256x2560 : Shape := ⟨3, ![1, 256, 2560]⟩
abbrev S256x2560 : Shape := ⟨2, ![256, 2560]⟩
abbrev S12x512 : Shape := ⟨2, ![12, 512]⟩

abbrev nBuf : Space → Nat
  | .hbm => 22
  | .vmem => 17
  | .smem => 0
  | _ => 0

abbrev bufTy : (tb : Table) → Fin (tcTables nBuf tb) → BufTy
  | .hbm, ⟨0, _⟩ => ⟨S12x2048x2560, .bf16⟩
  | .hbm, ⟨1, _⟩ => ⟨S2x256x2560, .fp8e4m3⟩
  | .hbm, ⟨2, _⟩ => ⟨S2x256, .f32⟩
  | .hbm, ⟨3, _⟩ => ⟨S2560x2x256, .fp8e4m3⟩
  | .hbm, ⟨4, _⟩ => ⟨S2560, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S2560, .f32⟩
  | .hbm, ⟨9, _⟩ => ⟨S12x256, .f32⟩
  | .hbm, ⟨10, _⟩ => ⟨S12x256, .f32⟩
  | .hbm, ⟨11, _⟩ => ⟨S2560x512, .fp8e4m3⟩
  | .hbm, ⟨12, _⟩ => ⟨S1x2560, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x2560, .f32⟩
  | .hbm, ⟨17, _⟩ => ⟨S12x2048x2560, .bf16⟩
  | .hbm, ⟨18, _⟩ => ⟨S12x256, .f32⟩
  | .hbm, ⟨19, _⟩ => ⟨S12x256, .f32⟩
  | .hbm, ⟨20, _⟩ => ⟨S12x2048x2560, .fp8e4m3⟩
  | .hbm, ⟨21, _⟩ => ⟨S12x2048, .f32⟩
  | .local _ .vmem, ⟨0, _⟩ => ⟨S12x2048x2560, .bf16⟩
  | .local _ .vmem, ⟨1, _⟩ => ⟨S2x256x2560, .fp8e4m3⟩
  | .local _ .vmem, ⟨2, _⟩ => ⟨S2x256, .f32⟩
  | .local _ .vmem, ⟨3, _⟩ => ⟨S2560x512, .fp8e4m3⟩
  | .local _ .vmem, ⟨4, _⟩ => ⟨S1x2560, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x2560, .f32⟩
  | .local _ .vmem, ⟨9, _⟩ => ⟨S12x256, .f32⟩
  | .local _ .vmem, ⟨10, _⟩ => ⟨S12x256, .f32⟩
  | .local _ .vmem, ⟨11, _⟩ => ⟨S12x2048x2560, .bf16⟩
  | .local _ .vmem, ⟨12, _⟩ => ⟨S12x256, .f32⟩
  | .local _ .vmem, ⟨13, _⟩ => ⟨S12x256, .f32⟩
  | .local _ .vmem, ⟨14, _⟩ => ⟨S12x2048x2560, .fp8e4m3⟩
  | .local _ .vmem, ⟨15, _⟩ => ⟨S12x2048, .f32⟩
  | .local _ .vmem, ⟨16, _⟩ => ⟨S12x2048x2560, .f32⟩
  | _, _ => ⟨S12x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2048_i32 : BitVec 32 := 2048#32
  let v73 : BitVec 32 := Scalar.addi c0_i32 c2048_i32
  let c1_i32 : BitVec 32 := 1#32
  ⟨c0_i32, v73, c1_i32⟩
def k0_off1 (k0_t1 : Fin k0_t1_loop.trips) : Fin 3 → Nat :=
  let c0_44 : Index := 0#32
  let c0_i32 : BitVec 32 := 0#32
  let c1_i32 : BitVec 32 := 1#32
  let arg17 : BitVec 32 := Scf.iv c0_i32 c1_i32 k0_t1
  let v80 : Index := Scalar.indexCast arg17
  let c0_45 : Index := 0#32
  ![0, v80.toNat, 0]
abbrev stage0_0 : Fin 1 → Memref sig .tc .vmem S12x2048x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x2048x2560 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S12x2048x2560 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S12x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Kernel.Scan.lean ====
/- ONE TRIP OF THE SCAN LOOP, AND THE LOOP'S INVARIANT. A trip reads eight strided bands of the drive scratch, advances the eight
   carried state bands, and stores the advanced bands back in place. What a trip yields and stores is found by the run; the contents of
   the scratch before trip `k` are the stores of the trips before it, one after the other. -/
module

public import proofs.«01_k».proof.Proof.Gen.Kernel.Frame
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the scan loop carries: the real and the imaginary state of four groups of eight rows by 128 lanes. -/
abbrev Carry (F : FTy → Type) : Type := FVec F S8x128 .f32 × FVec F S8x128 .f32 × FVec F S8x128 .f32 × FVec F S8x128 .f32 × FVec F S8x128 .f32 × FVec F S8x128 .f32 × FVec F S8x128 .f32 × FVec F S8x128 .f32

variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (v990 v992 v994 : FVec F S8x128 .f32) (X_arg17 : BufTy.Contents (Elt F) arg17.view.ty)

/-- One trip's memory: the parameter scratch at `X_arg17`, the drive scratch at `f_arg18`. -/
abbrev ScanTrip (c : Dev nD) (arg17 : Memref sig .tc .vmem S6x8x256 .f32) (arg18 : Memref sig .tc .vmem S4x2064x128 .f32)
    (X_arg17 : BufTy.Contents (Elt F) arg17.view.ty) (f_arg18 : BufTy.Contents (Elt F) arg18.view.ty) : sProp 𝕄 :=
  iprop((arg17.view.loc (c : Thread nD τ) ↦[arg17.view.set]{fullShare} X_arg17) ∗ (arg18.view.loc (c : Thread nD τ) ↦[arg18.view.set]{fullShare} f_arg18))

/-- ONE TRIP at a symbolic `k`, from the carried bands `a21 … a28` and any contents of the two scratches: what it yields and the pieces
    it stores are the run's own finds. -/
@[irreducible] def scanTrip (k : Fin k0_t1_loop.trips) (f_arg18 : BufTy.Contents (Elt F) arg18.view.ty) (a21 a22 a23 a24 a25 a26 a27 a28 : FVec F S8x128 .f32) :
    { R : Carry F × List (View.Piece (Elt F) S4x2064x128 .f32) // ∀ (E : Set ℕ),
      ScanTrip (F := F) c arg17 arg18 X_arg17 f_arg18
      ⊢ wp frame (wpE (defs₀ (F := F)) Variants.none (c : Thread nD τ) none) E
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 k (a21, a22, a23, a24, a25, a26, a27, a28))
          (fun r => iprop(⌜r = R.1⌝ ∗ ScanTrip (F := F) c arg17 arg18 X_arg17 (arg18.view.writes (Elt F) f_arg18 R.2))) } := by
  have hk : k.val < 128 := Nat.lt_of_lt_of_le k.isLt k0_t1_abs.2.1
  refine ⟨(?_, ?_), fun E => ?run⟩
  case run =>
    unfold k0_t1_body
    iintro ⟨HP, HU⟩
    sl_exec
    sl_step
    sl_close

/-- The carried bands and the pieces written into the drive scratch after one more trip, from those before it and the scratch's contents
    at loop entry. Past the last trip nothing changes. -/
@[irreducible] def scanStep (G_arg18 : BufTy.Contents (Elt F) arg18.view.ty) (k : ℕ) (prev : Carry F × List (View.Piece (Elt F) S4x2064x128 .f32)) :
    Carry F × List (View.Piece (Elt F) S4x2064x128 .f32) :=
  if h : k < k0_t1_loop.trips then
    ((scanTrip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 ⟨k, h⟩ (arg18.view.writes (Elt F) G_arg18 prev.2) prev.1.1 prev.1.2.1 prev.1.2.2.1 prev.1.2.2.2.1 prev.1.2.2.2.2.1 prev.1.2.2.2.2.2.1 prev.1.2.2.2.2.2.2.1 prev.1.2.2.2.2.2.2.2).1.1,
      (scanTrip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 ⟨k, h⟩ (arg18.view.writes (Elt F) G_arg18 prev.2) prev.1.1 prev.1.2.1 prev.1.2.2.1 prev.1.2.2.2.1 prev.1.2.2.2.2.1 prev.1.2.2.2.2.2.1 prev.1.2.2.2.2.2.2.1 prev.1.2.2.2.2.2.2.2).1.2 ++ prev.2)
  else prev

/-- The carried bands and the pieces written into the drive scratch (last first) before trip `k`, from `init` and the scratch's contents at
    loop entry. -/
def scanAt (G_arg18 : BufTy.Contents (Elt F) arg18.view.ty) (init : Carry F) : ℕ → Carry F × List (View.Piece (Elt F) S4x2064x128 .f32)
  | 0 => (init, [])
  | k + 1 => scanStep (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 k (scanAt G_arg18 init k)

/-- One more trip of the scan is the trip's function on what the trips before it left. -/
theorem scanAt_succ (G_arg18 : BufTy.Contents (Elt F) arg18.view.ty) (init : Carry F) (k : Fin k0_t1_loop.trips) :
    scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init (k.val + 1)
      = (let prev := scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val
        ((scanTrip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 k (arg18.view.writes (Elt F) G_arg18 prev.2) prev.1.1 prev.1.2.1 prev.1.2.2.1 prev.1.2.2.2.1 prev.1.2.2.2.2.1 prev.1.2.2.2.2.2.1 prev.1.2.2.2.2.2.2.1 prev.1.2.2.2.2.2.2.2).1.1,
          (scanTrip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 k (arg18.view.writes (Elt F) G_arg18 prev.2) prev.1.1 prev.1.2.1 prev.1.2.2.1 prev.1.2.2.2.1 prev.1.2.2.2.2.1 prev.1.2.2.2.2.2.1 prev.1.2.2.2.2.2.2.1 prev.1.2.2.2.2.2.2.2).1.2 ++ prev.2)) := by
  rw [scanAt.eq_2]; unfold scanStep; exact dif_pos k.isLt

/-- THE INVARIANT before trip `k`: the parameter scratch as it was, the drive scratch and the carried bands those of `scanAt`. -/
abbrev scanInv (G_arg18 : BufTy.Contents (Elt F) arg18.view.ty) (init : Carry F) (k : ℕ) (acc : Carry F) : sProp 𝕄 :=
  iprop((arg17.view.loc (c : Thread nD τ) ↦[arg17.view.set]{fullShare} X_arg17)
    ∗ (∃ f, (arg18.view.loc (c : Thread nD τ) ↦[arg18.view.set]{fullShare} f)
        ∗ ⌜f = arg18.view.writes (Elt F) G_arg18 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k).2⌝)
    ∗ ⌜acc = (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k).1⌝)

set_option warn.classDefReducibility false in
/-- THE SCAN LOOP BY ITS INVARIANT. -/
@[sl_loop] def loopInv_k0_t1 (E : Set ℕ) (G_arg18 : BufTy.Contents (Elt F) arg18.view.ty) (init : Carry F) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 init where
  inv := scanInv (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init
  step k acc := by
    iintro ⟨HP, ⟨%f, HU, %hf⟩, %hacc⟩
    subst hacc
    iapply (wp_wand_r Idealize.ShloMosaic.frame (wpE (defs₀ (F := F)) Variants.none (c : Thread nD τ) none) E)
    isplitl [HP HU]
    · iapply ((scanTrip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 k f (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.2.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.2.2.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.2.2.2.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.2.2.2.2.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.2.2.2.2.2.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.2.2.2.2.2.2).2 E)
      isplitl [HP]; · iexact HP
      iexact HU
    · iintro %r ⟨%hr, HP, HU⟩
      isplitl [HP]; · iexact HP
      rw [scanAt_succ]
      isplitl [HU]
      · iexists _; isplitl [HU]; · iexact HU
        ipureintro; rw [hf, ← View.writes_append]
      · ipureintro; rw [hr, hf]

end Cert.Kernel.Hand

end
-- ==== Proof.Kernel.Body.lean ====
/- THE KERNEL'S BODY, RUN ONCE PER CONTROL CASE: at the first grid point, where the parameter scratch is built and the state and the drive
   scratch are initialised, and at every later point. What each output window and each scratch is left at is found by the run. -/
module

public import proofs.«01_k».proof.Proof.Gen.Kernel.Frame
public import proofs.«01_k».proof.Proof.Kernel.Scan

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
variable (f17 : BufTy.Contents (Elt F) arg17.view.ty) (f18 : BufTy.Contents (Elt F) arg18.view.ty) (f19 : BufTy.Contents (Elt F) arg19.view.ty)

/-- The memory of one run of the body: the eleven input windows, the five output windows, the three scratches, each at the contents given. -/
abbrev BodyMem (c : Dev nD) (arg1 : Memref sig .tc .vmem S12x128x2560 .bf16) (arg2 : Memref sig .tc .vmem S512x2560 .fp8e4m3) (arg3 : Memref sig .tc .vmem S2x256 .f32) (arg4 : Memref sig .tc .vmem S2560x512 .fp8e4m3) (arg5 : Memref sig .tc .vmem S1x2560 .f32) (arg6 : Memref sig .tc .vmem S1x256 .f32) (arg7 : Memref sig .tc .vmem S1x256 .f32) (arg8 : Memref sig .tc .vmem S1x256 .f32) (arg9 : Memref sig .tc .vmem S1x2560 .f32) (arg10 : Memref sig .tc .vmem S12x256 .f32) (arg11 : Memref sig .tc .vmem S12x256 .f32) (arg12 : Memref sig .tc .vmem S12x128x2560 .bf16) (arg13 : Memref sig .tc .vmem S12x256 .f32) (arg14 : Memref sig .tc .vmem S12x256 .f32) (arg15 : Memref sig .tc .vmem S12x128x2560 .fp8e4m3) (arg16 : Memref sig .tc .vmem S12x2048 .f32) (arg17 : Memref sig .tc .vmem S6x8x256 .f32) (arg18 : Memref sig .tc .vmem S4x2064x128 .f32) (arg19 : Memref sig .tc .vmem S4x16x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19))

/-- THE FIRST POINT: the pieces left in each output window, and what each scratch is left at. -/
@[irreducible] def runFirst (hc : Scalar.cmpi .ne (Scalar.extui (Scalar.cmpi .eq (BitVec.ofNat 32 (i 0).val) 0#32) : BitVec 32) 0#32 = 1#1) :
    { L : List (View.Piece (Elt F) S12x128x2560 .bf16) × List (View.Piece (Elt F) S12x256 .f32) × List (View.Piece (Elt F) S12x256 .f32) × List (View.Piece (Elt F) S12x128x2560 .fp8e4m3) × List (View.Piece (Elt F) S12x2048 .f32) × BufTy.Contents (Elt F) arg17.view.ty × BufTy.Contents (Elt F) arg18.view.ty × BufTy.Contents (Elt F) arg19.view.ty // ∀ (E : Set ℕ) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      BodyMem (F := F) c arg1 arg2 arg3 arg4 arg5 arg6 arg7 arg8 arg9 arg10 arg11 arg12 arg13 arg14 arg15 arg16 arg17 arg18 arg19 X1 X2 X3 X4 X5 X6 X7 X8 X9 X10 X11 f12 f13 f14 f15 f16 f17 f18 f19
      ⊢ wp frame (wpE (defs₀ (F := F)) Variants.none (c : Thread nD τ) none) E (cc0_s5_layer (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => BodyMem (F := F) c arg1 arg2 arg3 arg4 arg5 arg6 arg7 arg8 arg9 arg10 arg11 arg12 arg13 arg14 arg15 arg16 arg17 arg18 arg19 X1 X2 X3 X4 X5 X6 X7 X8 X9 X10 X11 (arg12.view.writes (Elt F) f12 L.1) (arg13.view.writes (Elt F) arg13.view.junk L.2.1) (arg14.view.writes (Elt F) arg14.view.junk L.2.2.1) (arg15.view.writes (Elt F) arg15.view.junk L.2.2.2.1) (arg16.view.writes (Elt F) f16 L.2.2.2.2.1) L.2.2.2.2.2.1 L.2.2.2.2.2.2.1 L.2.2.2.2.2.2.2) } := by
  refine ⟨(?_, ?_, ?_, ?_, ?_, ?_, ?_, ?_), fun E f12 f13 f14 f15 f16 => ?run⟩
  case run =>
    simp only [cc0_s5_layer_eq_skeleton]; unfold cc0_s5_layer_skel
    iintro ⟨H1, H2, H3, H4, H5, H6, H7, H8, H9, H10, H11, H12, H13, H14, H15, H16, H17, H18, H19⟩
    sl_exec
    sl_step
    sl_close

/-- A LATER POINT: the pieces left in each output window, and what each scratch is left at. -/
@[irreducible] def runLater (hc : ¬ Scalar.cmpi .ne (Scalar.extui (Scalar.cmpi .eq (BitVec.ofNat 32 (i 0).val) 0#32) : BitVec 32) 0#32 = 1#1) :
    { L : List (View.Piece (Elt F) S12x128x2560 .bf16) × List (View.Piece (Elt F) S12x256 .f32) × List (View.Piece (Elt F) S12x256 .f32) × List (View.Piece (Elt F) S12x128x2560 .fp8e4m3) × List (View.Piece (Elt F) S12x2048 .f32) × BufTy.Contents (Elt F) arg17.view.ty × BufTy.Contents (Elt F) arg18.view.ty × BufTy.Contents (Elt F) arg19.view.ty // ∀ (E : Set ℕ) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      BodyMem (F := F) c arg1 arg2 arg3 arg4 arg5 arg6 arg7 arg8 arg9 arg10 arg11 arg12 arg13 arg14 arg15 arg16 arg17 arg18 arg19 X1 X2 X3 X4 X5 X6 X7 X8 X9 X10 X11 f12 f13 f14 f15 f16 f17 f18 f19
      ⊢ wp frame (wpE (defs₀ (F := F)) Variants.none (c : Thread nD τ) none) E (cc0_s5_layer (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => BodyMem (F := F) c arg1 arg2 arg3 arg4 arg5 arg6 arg7 arg8 arg9 arg10 arg11 arg12 arg13 arg14 arg15 arg16 arg17 arg18 arg19 X1 X2 X3 X4 X5 X6 X7 X8 X9 X10 X11 (arg12.view.writes (Elt F) f12 L.1) (arg13.view.writes (Elt F) arg13.view.junk L.2.1) (arg14.view.writes (Elt F) arg14.view.junk L.2.2.1) (arg15.view.writes (Elt F) arg15.view.junk L.2.2.2.1) (arg16.view.writes (Elt F) f16 L.2.2.2.2.1) L.2.2.2.2.2.1 L.2.2.2.2.2.2.1 L.2.2.2.2.2.2.2) } := by
  refine ⟨(?_, ?_, ?_, ?_, ?_, ?_, ?_, ?_), fun E f12 f13 f14 f15 f16 => ?run⟩
  case run =>
    simp only [cc0_s5_layer_eq_skeleton]; unfold cc0_s5_layer_skel
    iintro ⟨H1, H2, H3, H4, H5, H6, H7, H8, H9, H10, H11, H12, H13, H14, H15, H16, H17, H18, H19⟩
    sl_exec
    sl_step
    sl_close

end Cert.Kernel.Hand

end
-- ==== Proof.Kernel.Run.lean ====
/- THE LAUNCH. Relational proof data for the one pipeline: an input window is left as found, an output window is related to what the body
   found there by a relation given, and the three scratches are tracked by an invariant given. From the pure step (one run of the body
   keeps the invariant and leaves related windows) the launch follows for every relation and invariant; the frame is the instance that
   says nothing of them. -/
module

public import proofs.«01_k».proof.Proof.Gen.Kernel.Frame
public import proofs.«01_k».proof.Proof.Kernel.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (RDat)

variable [∀ e, Nonempty (Elt F e)]
variable (m : (ℓ : Loc nD τ sig) → Buf (Elt F) ℓ) (ρ : Dev nD → PrngReg)

/-- The body's run at a point: the first point's, or a later one's. -/
def runAt (c : Dev nD) (t : Fin cfg0.N) (X : (w : Fin cfg0.W) → BufTy.Contents (Elt F) ((cfg0.win w).stage (cfg0.slots t w)).view.ty) (s17 : BufTy.Contents (Elt F) (Memref.whole cc0_scratch0 : Memref sig .tc .vmem S6x8x256 .f32).view.ty) (s18 : BufTy.Contents (Elt F) (Memref.whole cc0_scratch1 : Memref sig .tc .vmem S4x2064x128 .f32).view.ty) (s19 : BufTy.Contents (Elt F) (Memref.whole cc0_scratch2 : Memref sig .tc .vmem S4x16x128 .f32).view.ty) :=
  if hc : Scalar.cmpi .ne (Scalar.extui (Scalar.cmpi .eq (BitVec.ofNat 32 (grid0.coords t 0).val) 0#32) : BitVec 32) 0#32 = 1#1 then
    runFirst (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (X 0) (X 1) (X 2) (X 3) (X 4) (X 5) (X 6) (X 7) (X 8) (X 9) (X 10) s17 s18 s19 hc
  else runLater (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (X 0) (X 1) (X 2) (X 3) (X 4) (X 5) (X 6) (X 7) (X 8) (X 9) (X 10) s17 s18 s19 hc

/-- A buffer of one of the three scratches, as the body's memrefs see it. -/
abbrev Sc0 (F : FTy → Type) : Type := BufTy.Contents (Elt F) (Memref.whole cc0_scratch0 : Memref sig .tc .vmem S6x8x256 .f32).view.ty
/-- What the second scratch, the drives and states, may hold. -/
abbrev Sc1 (F : FTy → Type) : Type := BufTy.Contents (Elt F) (Memref.whole cc0_scratch1 : Memref sig .tc .vmem S4x2064x128 .f32).view.ty
/-- What the third scratch, the carried state, may hold. -/
abbrev Sc2 (F : FTy → Type) : Type := BufTy.Contents (Elt F) (Memref.whole cc0_scratch2 : Memref sig .tc .vmem S4x16x128 .f32).view.ty

/-- What a certificate says of the body: what an output window is left at, given what was found there, and what the scratches hold before
    each point. -/
structure Track (F : FTy → Type) where
  rel : (w : Fin cfg0.W) → Fin cfg0.N → (Y X : (cfg0.win w).block.Idx → Elt F (cfg0.win w).elt) → Prop
  inv : ℕ → Sc0 F → Sc1 F → Sc2 F → Prop

variable (T : Dev nD → Track F)

/-- The scratches at some contents satisfying the invariant, and the generator register. -/
def trackInv (c : Dev nD) (k : ℕ) : sProp 𝕄 :=
  iprop((∃ (s17 : Sc0 F) (s18 : Sc1 F) (s19 : Sc2 F), ⌜(T c).inv k s17 s18 s19⌝
      ∗ ((Memref.whole cc0_scratch0).view.loc (c : Thread nD τ) ↦[(Memref.whole cc0_scratch0).view.set]{fullShare} s17)
      ∗ ((Memref.whole cc0_scratch1).view.loc (c : Thread nD τ) ↦[(Memref.whole cc0_scratch1).view.set]{fullShare} s18)
      ∗ ((Memref.whole cc0_scratch2).view.loc (c : Thread nD τ) ↦[(Memref.whole cc0_scratch2).view.set]{fullShare} s19))
    ∗ (∃ r, prngReg c r))

/-- The proof data on core `c`. -/
def rdat (c : Dev nD) : RDat τ (Elt F) Unit ℕ (UR sig nD τ) ℕ cfg0 c where
  A w := V m c (Pipeline.arrRef spec0 w)
  after w t Y X := if w.val < 11 then X = Y else (T c).rel w t Y X
  Φ t := trackInv T c t.val
  q _ := fullShare
  owed _ := 0

/-- An input's window left as it was found is left as it may be. -/
theorem after_of_in (c : Dev nD) {w : Fin cfg0.W} (h : w.val < 11) {t : Fin cfg0.N} {Y X : (cfg0.win w).block.Idx → Elt F (cfg0.win w).elt} (e : X = Y) :
    (rdat m T c).after w t Y X := (if_pos h).mpr e
/-- An output's window left in the relation the track asks for is left as it may be. -/
theorem after_of_out (c : Dev nD) {w : Fin cfg0.W} (h : ¬ w.val < 11) {t : Fin cfg0.N} {Y X : (cfg0.win w).block.Idx → Elt F (cfg0.win w).elt}
    (e : (T c).rel w t Y X) : (rdat m T c).after w t Y X := (if_neg h).mpr e

/-- THE PURE STEP: from scratches satisfying the invariant and windows at what they may hold, one run of the body leaves scratches
    satisfying the next invariant and related output windows. -/
def Step (c : Dev nD) : Prop :=
  ∀ (t : Fin cfg0.N) (X : (w : Fin cfg0.W) → BufTy.Contents (Elt F) ((cfg0.win w).stage (cfg0.slots t w)).view.ty), (∀ w, (rdat m T c).Finds w t (((cfg0.win w).stage (cfg0.slots t w)).view.read (Elt F) (X w))) →
    ∀ (s17 : Sc0 F) (s18 : Sc1 F) (s19 : Sc2 F), (T c).inv t.val s17 s18 s19 →
      (T c).inv (t.val + 1) (runAt c t X s17 s18 s19).1.2.2.2.2.2.1 (runAt c t X s17 s18 s19).1.2.2.2.2.2.2.1 (runAt c t X s17 s18 s19).1.2.2.2.2.2.2.2
      ∧ (T c).rel 11 t ((st0_11 t).view.read (Elt F) (X 11)) ((st0_11 t).view.read (Elt F) ((st0_11 t).view.writes (Elt F) (X 11) (runAt c t X s17 s18 s19).1.1))
      ∧ (T c).rel 12 t ((st0_12 t).view.read (Elt F) (X 12)) ((st0_12 t).view.read (Elt F) ((st0_12 t).view.writes (Elt F) (st0_12 t).view.junk (runAt c t X s17 s18 s19).1.2.1))
      ∧ (T c).rel 13 t ((st0_13 t).view.read (Elt F) (X 13)) ((st0_13 t).view.read (Elt F) ((st0_13 t).view.writes (Elt F) (st0_13 t).view.junk (runAt c t X s17 s18 s19).1.2.2.1))
      ∧ (T c).rel 14 t ((st0_14 t).view.read (Elt F) (X 14)) ((st0_14 t).view.read (Elt F) ((st0_14 t).view.writes (Elt F) (st0_14 t).view.junk (runAt c t X s17 s18 s19).1.2.2.2.1))
      ∧ (T c).rel 15 t ((st0_15 t).view.read (Elt F) (X 15)) ((st0_15 t).view.read (Elt F) ((st0_15 t).view.writes (Elt F) (X 15) (runAt c t X s17 s18 s19).1.2.2.2.2.1))

/-- The windows' memory and the scratches at a point, as one run of the body takes them. -/
abbrev pointMem (c : Dev nD) (t : Fin cfg0.N) (X : (w : Fin cfg0.W) → BufTy.Contents (Elt F) ((cfg0.win w).stage (cfg0.slots t w)).view.ty) (s17 : Sc0 F) (s18 : Sc1 F) (s19 : Sc2 F) : sProp 𝕄 :=
  BodyMem (F := F) c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (Memref.whole cc0_scratch0) (Memref.whole cc0_scratch1) (Memref.whole cc0_scratch2) (X 0) (X 1) (X 2) (X 3) (X 4) (X 5) (X 6) (X 7) (X 8) (X 9) (X 10) (X 11) (X 12) (X 13) (X 14) (X 15) s17 s18 s19

/-- The memory a run leaves. -/
abbrev pointMem' (c : Dev nD) (t : Fin cfg0.N) (X : (w : Fin cfg0.W) → BufTy.Contents (Elt F) ((cfg0.win w).stage (cfg0.slots t w)).view.ty) (s17 : Sc0 F) (s18 : Sc1 F) (s19 : Sc2 F) : sProp 𝕄 :=
  BodyMem (F := F) c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (Memref.whole cc0_scratch0) (Memref.whole cc0_scratch1) (Memref.whole cc0_scratch2) (X 0) (X 1) (X 2) (X 3) (X 4) (X 5) (X 6) (X 7) (X 8) (X 9) (X 10) ((st0_11 t).view.writes (Elt F) (X 11) (runAt c t X s17 s18 s19).1.1) ((st0_12 t).view.writes (Elt F) (st0_12 t).view.junk (runAt c t X s17 s18 s19).1.2.1) ((st0_13 t).view.writes (Elt F) (st0_13 t).view.junk (runAt c t X s17 s18 s19).1.2.2.1) ((st0_14 t).view.writes (Elt F) (st0_14 t).view.junk (runAt c t X s17 s18 s19).1.2.2.2.1) ((st0_15 t).view.writes (Elt F) (X 15) (runAt c t X s17 s18 s19).1.2.2.2.2.1) (runAt c t X s17 s18 s19).1.2.2.2.2.2.1 (runAt c t X s17 s18 s19).1.2.2.2.2.2.2.1 (runAt c t X s17 s18 s19).1.2.2.2.2.2.2.2

/-- The body's run at a grid point, over the windows as it finds them. -/
theorem runAt_wp (c : Dev nD) (t : Fin cfg0.N) (X : (w : Fin cfg0.W) → BufTy.Contents (Elt F) ((cfg0.win w).stage (cfg0.slots t w)).view.ty) (s17 : Sc0 F) (s18 : Sc1 F) (s19 : Sc2 F) :
    pointMem c t X s17 s18 s19
      ⊢ wp frame (wpE (defs₀ (F := F)) Variants.none (c : Thread nD τ) none) Set.univ (bodyAt0 t) (fun _ => pointMem' c t X s17 s18 s19) :=
  (runAt c t X s17 s18 s19).2 Set.univ (X 11) (X 12) (X 13) (X 14) (X 15)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 8000000 in
/-- The body obligation from the pure step. -/
theorem body_obligation (c : Dev nD) (hS : Step m T c) :
    (rdat m T c).BodyObligation (defs₀ (F := F)) Variants.none () Set.univ := by
  intro t Y hY
  rw [bigSep_W0, bigSep_W0, defs₀_row, show (rdat m T c).Φ t.castSucc = trackInv T c t.val from rfl,
    show (rdat m T c).Φ t.succ = trackInv T c (t.val + 1) from rfl,
    show (rdat m T c).owesAt () t.succ = (rdat m T c).owesAt () t.castSucc from rfl]
  unfold trackInv owns
  iintro ⟨⟨⟨%s17, %s18, %s19, %hI, HS0, HS1, HS2⟩, Hr⟩, HO, ⟨%g0, %e0, H0⟩, ⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, ⟨%g11, %e11, H11⟩, ⟨%g12, %e12, H12⟩, ⟨%g13, %e13, H13⟩, ⟨%g14, %e14, H14⟩, ⟨%g15, %e15, H15⟩⟩
  obtain ⟨X, hX⟩ : ∃ X : (w : Fin cfg0.W) → BufTy.Contents (Elt F) ((cfg0.win w).stage (cfg0.slots t w)).view.ty,
      X 0 = g0 ∧ X 1 = g1 ∧ X 2 = g2 ∧ X 3 = g3 ∧ X 4 = g4 ∧ X 5 = g5 ∧ X 6 = g6 ∧ X 7 = g7 ∧ X 8 = g8 ∧ X 9 = g9 ∧ X 10 = g10 ∧ X 11 = g11 ∧ X 12 = g12 ∧ X 13 = g13 ∧ X 14 = g14 ∧ X 15 = g15 :=
    ⟨Fin.cons g0 (Fin.cons g1 (Fin.cons g2 (Fin.cons g3 (Fin.cons g4 (Fin.cons g5 (Fin.cons g6 (Fin.cons g7 (Fin.cons g8 (Fin.cons g9
      (Fin.cons g10 (Fin.cons g11 (Fin.cons g12 (Fin.cons g13 (Fin.cons g14 (Fin.cons g15 finZeroElim))))))))))))))), by
      refine ⟨rfl, rfl, rfl, rfl, rfl, rfl, rfl, rfl, rfl, rfl, rfl, rfl, rfl, rfl, rfl, rfl⟩⟩
  obtain ⟨rfl, rfl, rfl, rfl, rfl, rfl, rfl, rfl, rfl, rfl, rfl, rfl, rfl, rfl, rfl, rfl⟩ := hX
  have hF : ∀ w, (rdat m T c).Finds w t (((cfg0.win w).stage (cfg0.slots t w)).view.read (Elt F) (X w)) := by
    intro w
    have := hY w
    fin_cases w
    · exact e0 ▸ this
    · exact e1 ▸ this
    · exact e2 ▸ this
    · exact e3 ▸ this
    · exact e4 ▸ this
    · exact e5 ▸ this
    · exact e6 ▸ this
    · exact e7 ▸ this
    · exact e8 ▸ this
    · exact e9 ▸ this
    · exact e10 ▸ this
    · exact e11 ▸ this
    · exact e12 ▸ this
    · exact e13 ▸ this
    · exact e14 ▸ this
    · exact e15 ▸ this
  obtain ⟨hI', h11, h12, h13, h14, h15⟩ := hS t X hF s17 s18 s19 hI
  iapply (wp_wand_r Idealize.ShloMosaic.frame (wpE (defs₀ (F := F)) Variants.none (c : Thread nD τ) none) Set.univ)
  isplitl [H0 H1 H2 H3 H4 H5 H6 H7 H8 H9 H10 H11 H12 H13 H14 H15 HS0 HS1 HS2]
  · iapply (runAt_wp c t X s17 s18 s19)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    iexact HS2
  iintro %r ⟨H0, H1, H2, H3, H4, H5, H6, H7, H8, H9, H10, H11, H12, H13, H14, H15, HS0, HS1, HS2⟩
  isplitl [HS0 HS1 HS2 Hr]
  · isplitl [HS0 HS1 HS2]
    · iexists _, _, _
      isplitr; swap
      · isplitl [HS0]; · iexact HS0
        isplitl [HS1]; · iexact HS1
        iexact HS2
      ipureintro; exact hI'
    iexact Hr
  isplitl [HO]; · iexact HO
  isplitl [H0]
  · iexists Y 0; isplitr; swap
    · iexists _; isplitr; swap; · iexact H0
      ipureintro; exact e0
    ipureintro; exact after_of_in m T c (w := 0) (by decide) rfl
  isplitl [H1]
  · iexists Y 1; isplitr; swap
    · iexists _; isplitr; swap; · iexact H1
      ipureintro; exact e1
    ipureintro; exact after_of_in m T c (w := 1) (by decide) rfl
  isplitl [H2]
  · iexists Y 2; isplitr; swap
    · iexists _; isplitr; swap; · iexact H2
      ipureintro; exact e2
    ipureintro; exact after_of_in m T c (w := 2) (by decide) rfl
  isplitl [H3]
  · iexists Y 3; isplitr; swap
    · iexists _; isplitr; swap; · iexact H3
      ipureintro; exact e3
    ipureintro; exact after_of_in m T c (w := 3) (by decide) rfl
  isplitl [H4]
  · iexists Y 4; isplitr; swap
    · iexists _; isplitr; swap; · iexact H4
      ipureintro; exact e4
    ipureintro; exact after_of_in m T c (w := 4) (by decide) rfl
  isplitl [H5]
  · iexists Y 5; isplitr; swap
    · iexists _; isplitr; swap; · iexact H5
      ipureintro; exact e5
    ipureintro; exact after_of_in m T c (w := 5) (by decide) rfl
  isplitl [H6]
  · iexists Y 6; isplitr; swap
    · iexists _; isplitr; swap; · iexact H6
      ipureintro; exact e6
    ipureintro; exact after_of_in m T c (w := 6) (by decide) rfl
  isplitl [H7]
  · iexists Y 7; isplitr; swap
    · iexists _; isplitr; swap; · iexact H7
      ipureintro; exact e7
    ipureintro; exact after_of_in m T c (w := 7) (by decide) rfl
  isplitl [H8]
  · iexists Y 8; isplitr; swap
    · iexists _; isplitr; swap; · iexact H8
      ipureintro; exact e8
    ipureintro; exact after_of_in m T c (w := 8) (by decide) rfl
  isplitl [H9]
  · iexists Y 9; isplitr; swap
    · iexists _; isplitr; swap; · iexact H9
      ipureintro; exact e9
    ipureintro; exact after_of_in m T c (w := 9) (by decide) rfl
  isplitl [H10]
  · iexists Y 10; isplitr; swap
    · iexists _; isplitr; swap; · iexact H10
      ipureintro; exact e10
    ipureintro; exact after_of_in m T c (w := 10) (by decide) rfl
  isplitl [H11]
  · iexists _; isplitr; swap
    · iexists _; isplitr; swap; · iexact H11
      ipureintro; rfl
    ipureintro; exact after_of_out m T c (w := 11) (by decide) (by rw [← e11]; exact h11)
  isplitl [H12]
  · iexists _; isplitr; swap
    · iexists _; isplitr; swap; · iexact H12
      ipureintro; rfl
    ipureintro; exact after_of_out m T c (w := 12) (by decide) (by rw [← e12]; exact h12)
  isplitl [H13]
  · iexists _; isplitr; swap
    · iexists _; isplitr; swap; · iexact H13
      ipureintro; rfl
    ipureintro; exact after_of_out m T c (w := 13) (by decide) (by rw [← e13]; exact h13)
  isplitl [H14]
  · iexists _; isplitr; swap
    · iexists _; isplitr; swap; · iexact H14
      ipureintro; rfl
    ipureintro; exact after_of_out m T c (w := 14) (by decide) (by rw [← e14]; exact h14)
  iexists _; isplitr; swap
  · iexists _; isplitr; swap; · iexact H15
    ipureintro; rfl
  ipureintro; exact after_of_out m T c (w := 15) (by decide) (by rw [← e15]; exact h15)

/-- At launch the scratches and the generator register hold anything. -/
theorem trackInv_zero (c : Dev nD) (h0 : ∀ s17 s18 s19, (T c).inv 0 s17 s18 s19) : (Pipeline.ΦA spec0 c : sProp 𝕄) ⊢ trackInv T c 0 := by
  unfold Pipeline.ΦA trackInv
  rw [scopedRest0_eq]
  simp only [Memref.view_whole, View.set_whole]
  iintro ⟨⟨⟨%s17, H0⟩, ⟨%s18, H1⟩, ⟨%s19, H2⟩⟩, Hr⟩
  isplitl [H0 H1 H2]
  · iexists s17, s18, s19
    isplitr; · ipureintro; exact h0 _ _ _
    isplitl [H0]; · iexact H0
    isplitl [H1]; · iexact H1
    iexact H2
  iexact Hr

/-- After the last point what they hold is forgotten. -/
theorem trackInv_last (c : Dev nD) (k : ℕ) : trackInv T c k ⊢ (Pipeline.ΦA spec0 c : sProp 𝕄) := by
  unfold Pipeline.ΦA trackInv
  rw [scopedRest0_eq]
  simp only [Memref.view_whole, View.set_whole]
  iintro ⟨⟨%s17, %s18, %s19, -, H0, H1, H2⟩, Hr⟩
  isplitl [H0 H1 H2]
  · isplitl [H0]; · iexists s17; iexact H0
    isplitl [H1]; · iexists s18; iexact H1
    iexists s19; iexact H2
  iexact Hr

set_option backward.isDefEq.respectTransparency.types false in
/-- THE RUN: from the pure step on every core, every fair execution of @main terminates with the arrays at what the relations allow and
    every semaphore at zero. -/
theorem run_main (hS : ∀ c, Step m T c) (h0 : ∀ c s17 s18 s19, (T c).inv 0 s17 s18 s19) :
    θ_run defs (onTc (τ := τ) (main (F := F))) (s₀ m ρ)
      (fun r => RDat.FramePost (cfgs 0) (fun c => rdat m T c) (V m) r ∧ r.2.sem = fun _ => 0) :=
  Pipeline.RDat.θ_run_frame_track (Q' := _) cfgs (0 : Fin 1) launch0 defs₀ Variants.none (fun c => rdat m T c) m ρ main
    (hbody := fun c => body_obligation m T c (hS c)) (hshare := fun c => (rdat m T c).share_full fun _ => rfl)
    (howed := fun _ _ => rfl) (V := V m) (hmain := hmain m Variants.none) (hA := fun _ _ => rfl)
    (hin := fun c => trackInv_zero T c (h0 c)) (hout := fun c => trackInv_last T c _)

/-- What the run says of the arguments and the semaphores. -/
theorem args_kept {r : PUnit × MemSt nD τ sig (Elt F)} (h : RDat.FramePost (cfgs 0) (fun c => rdat m T c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(RDat.FramePost.arr_in h c 0 rfl).trans (V_main_arg0 m c),
    ((h c).2 main_arg1 (Pipeline.mem_restRefs_of main_arg1 (by decide) (by decide))).trans (V_main_arg1 m c),
    (RDat.FramePost.arr_in h c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    (RDat.FramePost.arr_in h c 9 rfl).trans (V_main_arg9 m c),
    (RDat.FramePost.arr_in h c 10 rfl).trans (V_main_arg10 m c)⟩

/-- The tracking that says nothing. -/
def noTrack : Track F where
  rel _ _ _ _ := True
  inv _ _ _ _ := True

/-- A track that says nothing is kept by every step. -/
theorem step_noTrack (c : Dev nD) : Step m (fun _ => noTrack) c := fun _ _ _ _ _ _ _ => ⟨trivial, trivial, trivial, trivial, trivial, trivial⟩

/-- THE FRAME: the arguments end as they were and every semaphore ends at zero. -/
theorem frame_run :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun _ h => ⟨fun c => args_kept m _ h.1 c, h.2⟩)
    (run_main m ρ (fun _ => noTrack) (fun c => step_noTrack m c) (fun _ _ _ _ => trivial))

end Cert.Kernel.Hand

end
-- ==== Proof.KernelIdeal.Scan.lean ====
/- ONE TRIP OF THE SCAN LOOP, AND THE LOOP'S INVARIANT. A trip reads eight strided bands of the drive scratch, advances the eight
   carried state bands, and stores the advanced bands back in place. What a trip yields and stores is found by the run; the contents of
   the scratch before trip `k` are the stores of the trips before it, one after the other. -/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the scan loop carries: the real and the imaginary state of four groups of eight rows by 128 lanes. -/
abbrev Carry (F : FTy → Type) : Type := FVec F S8x128 .f32 × FVec F S8x128 .f32 × FVec F S8x128 .f32 × FVec F S8x128 .f32 × FVec F S8x128 .f32 × FVec F S8x128 .f32 × FVec F S8x128 .f32 × FVec F S8x128 .f32

variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (v990 v992 v994 : FVec F S8x128 .f32) (X_arg17 : BufTy.Contents (Elt F) arg17.view.ty)

/-- One trip's memory: the parameter scratch at `X_arg17`, the drive scratch at `f_arg18`. -/
abbrev ScanTrip (c : Dev nD) (arg17 : Memref sig .tc .vmem S6x8x256 .f32) (arg18 : Memref sig .tc .vmem S4x2064x128 .f32)
    (X_arg17 : BufTy.Contents (Elt F) arg17.view.ty) (f_arg18 : BufTy.Contents (Elt F) arg18.view.ty) : sProp 𝕄 :=
  iprop((arg17.view.loc (c : Thread nD τ) ↦[arg17.view.set]{fullShare} X_arg17) ∗ (arg18.view.loc (c : Thread nD τ) ↦[arg18.view.set]{fullShare} f_arg18))

/-- ONE TRIP at a symbolic `k`, from the carried bands `a21 … a28` and any contents of the two scratches: what it yields and the pieces
    it stores are the run's own finds. -/
@[irreducible] def scanTrip (k : Fin k0_t1_loop.trips) (f_arg18 : BufTy.Contents (Elt F) arg18.view.ty) (a21 a22 a23 a24 a25 a26 a27 a28 : FVec F S8x128 .f32) :
    { R : Carry F × List (View.Piece (Elt F) S4x2064x128 .f32) // ∀ (E : Set ℕ),
      ScanTrip (F := F) c arg17 arg18 X_arg17 f_arg18
      ⊢ wp frame (wpE (defs₀ (F := F)) Variants.none (c : Thread nD τ) none) E
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 k (a21, a22, a23, a24, a25, a26, a27, a28))
          (fun r => iprop(⌜r = R.1⌝ ∗ ScanTrip (F := F) c arg17 arg18 X_arg17 (arg18.view.writes (Elt F) f_arg18 R.2))) } := by
  have hk : k.val < 128 := Nat.lt_of_lt_of_le k.isLt k0_t1_abs.2.1
  refine ⟨(?_, ?_), fun E => ?run⟩
  case run =>
    unfold k0_t1_body
    iintro ⟨HP, HU⟩
    sl_exec
    sl_step
    sl_close

/-- The carried bands and the pieces written into the drive scratch after one more trip, from those before it and the scratch's contents
    at loop entry. Past the last trip nothing changes. -/
@[irreducible] def scanStep (G_arg18 : BufTy.Contents (Elt F) arg18.view.ty) (k : ℕ) (prev : Carry F × List (View.Piece (Elt F) S4x2064x128 .f32)) :
    Carry F × List (View.Piece (Elt F) S4x2064x128 .f32) :=
  if h : k < k0_t1_loop.trips then
    ((scanTrip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 ⟨k, h⟩ (arg18.view.writes (Elt F) G_arg18 prev.2) prev.1.1 prev.1.2.1 prev.1.2.2.1 prev.1.2.2.2.1 prev.1.2.2.2.2.1 prev.1.2.2.2.2.2.1 prev.1.2.2.2.2.2.2.1 prev.1.2.2.2.2.2.2.2).1.1,
      (scanTrip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 ⟨k, h⟩ (arg18.view.writes (Elt F) G_arg18 prev.2) prev.1.1 prev.1.2.1 prev.1.2.2.1 prev.1.2.2.2.1 prev.1.2.2.2.2.1 prev.1.2.2.2.2.2.1 prev.1.2.2.2.2.2.2.1 prev.1.2.2.2.2.2.2.2).1.2 ++ prev.2)
  else prev

/-- The carried bands and the pieces written into the drive scratch (last first) before trip `k`, from `init` and the scratch's contents at
    loop entry. -/
def scanAt (G_arg18 : BufTy.Contents (Elt F) arg18.view.ty) (init : Carry F) : ℕ → Carry F × List (View.Piece (Elt F) S4x2064x128 .f32)
  | 0 => (init, [])
  | k + 1 => scanStep (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 k (scanAt G_arg18 init k)

/-- One more trip of the scan is the trip's function on what the trips before it left. -/
theorem scanAt_succ (G_arg18 : BufTy.Contents (Elt F) arg18.view.ty) (init : Carry F) (k : Fin k0_t1_loop.trips) :
    scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init (k.val + 1)
      = (let prev := scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val
        ((scanTrip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 k (arg18.view.writes (Elt F) G_arg18 prev.2) prev.1.1 prev.1.2.1 prev.1.2.2.1 prev.1.2.2.2.1 prev.1.2.2.2.2.1 prev.1.2.2.2.2.2.1 prev.1.2.2.2.2.2.2.1 prev.1.2.2.2.2.2.2.2).1.1,
          (scanTrip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 k (arg18.view.writes (Elt F) G_arg18 prev.2) prev.1.1 prev.1.2.1 prev.1.2.2.1 prev.1.2.2.2.1 prev.1.2.2.2.2.1 prev.1.2.2.2.2.2.1 prev.1.2.2.2.2.2.2.1 prev.1.2.2.2.2.2.2.2).1.2 ++ prev.2)) := by
  rw [scanAt.eq_2]; unfold scanStep; exact dif_pos k.isLt

/-- THE INVARIANT before trip `k`: the parameter scratch as it was, the drive scratch and the carried bands those of `scanAt`. -/
abbrev scanInv (G_arg18 : BufTy.Contents (Elt F) arg18.view.ty) (init : Carry F) (k : ℕ) (acc : Carry F) : sProp 𝕄 :=
  iprop((arg17.view.loc (c : Thread nD τ) ↦[arg17.view.set]{fullShare} X_arg17)
    ∗ (∃ f, (arg18.view.loc (c : Thread nD τ) ↦[arg18.view.set]{fullShare} f)
        ∗ ⌜f = arg18.view.writes (Elt F) G_arg18 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k).2⌝)
    ∗ ⌜acc = (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k).1⌝)

set_option warn.classDefReducibility false in
/-- THE SCAN LOOP BY ITS INVARIANT. -/
@[sl_loop] def loopInv_k0_t1 (E : Set ℕ) (G_arg18 : BufTy.Contents (Elt F) arg18.view.ty) (init : Carry F) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 init where
  inv := scanInv (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init
  step k acc := by
    iintro ⟨HP, ⟨%f, HU, %hf⟩, %hacc⟩
    subst hacc
    iapply (wp_wand_r Idealize.ShloMosaic.frame (wpE (defs₀ (F := F)) Variants.none (c : Thread nD τ) none) E)
    isplitl [HP HU]
    · iapply ((scanTrip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 k f (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.2.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.2.2.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.2.2.2.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.2.2.2.2.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.2.2.2.2.2.1 (scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G_arg18 init k.val).1.2.2.2.2.2.2.2).2 E)
      isplitl [HP]; · iexact HP
      iexact HU
    · iintro %r ⟨%hr, HP, HU⟩
      isplitl [HP]; · iexact HP
      rw [scanAt_succ]
      isplitl [HU]
      · iexists _; isplitl [HU]; · iexact HU
        ipureintro; rw [hf, ← View.writes_append]
      · ipureintro; rw [hr, hf]

end Cert.KernelIdeal.Hand

end
-- ==== Proof.KernelIdeal.Body.lean ====
/- THE KERNEL'S BODY, RUN ONCE PER CONTROL CASE: at the first grid point, where the parameter scratch is built and the state and the drive
   scratch are initialised, and at every later point. What each output window and each scratch is left at is found by the run. -/
module

public import proofs.«01_k».proof.Proof.Gen.KernelIdeal.Frame
public import proofs.«01_k».proof.Proof.KernelIdeal.Scan

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
variable (f17 : BufTy.Contents (Elt F) arg17.view.ty) (f18 : BufTy.Contents (Elt F) arg18.view.ty) (f19 : BufTy.Contents (Elt F) arg19.view.ty)

/-- The memory of one run of the body: the eleven input windows, the five output windows, the three scratches, each at the contents given. -/
abbrev BodyMem (c : Dev nD) (arg1 : Memref sig .tc .vmem S12x128x2560 .bf16) (arg2 : Memref sig .tc .vmem S512x2560 .fp8e4m3) (arg3 : Memref sig .tc .vmem S2x256 .f32) (arg4 : Memref sig .tc .vmem S2560x512 .fp8e4m3) (arg5 : Memref sig .tc .vmem S1x2560 .f32) (arg6 : Memref sig .tc .vmem S1x256 .f32) (arg7 : Memref sig .tc .vmem S1x256 .f32) (arg8 : Memref sig .tc .vmem S1x256 .f32) (arg9 : Memref sig .tc .vmem S1x2560 .f32) (arg10 : Memref sig .tc .vmem S12x256 .f32) (arg11 : Memref sig .tc .vmem S12x256 .f32) (arg12 : Memref sig .tc .vmem S12x128x2560 .bf16) (arg13 : Memref sig .tc .vmem S12x256 .f32) (arg14 : Memref sig .tc .vmem S12x256 .f32) (arg15 : Memref sig .tc .vmem S12x128x2560 .fp8e4m3) (arg16 : Memref sig .tc .vmem S12x2048 .f32) (arg17 : Memref sig .tc .vmem S6x8x256 .f32) (arg18 : Memref sig .tc .vmem S4x2064x128 .f32) (arg19 : Memref sig .tc .vmem S4x16x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19))

/-- THE FIRST POINT: the pieces left in each output window, and what each scratch is left at. -/
@[irreducible] def runFirst (hc : Scalar.cmpi .ne (Scalar.extui (Scalar.cmpi .eq (BitVec.ofNat 32 (i 0).val) 0#32) : BitVec 32) 0#32 = 1#1) :
    { L : List (View.Piece (Elt F) S12x128x2560 .bf16) × List (View.Piece (Elt F) S12x256 .f32) × List (View.Piece (Elt F) S12x256 .f32) × List (View.Piece (Elt F) S12x128x2560 .fp8e4m3) × List (View.Piece (Elt F) S12x2048 .f32) × BufTy.Contents (Elt F) arg17.view.ty × BufTy.Contents (Elt F) arg18.view.ty × BufTy.Contents (Elt F) arg19.view.ty // ∀ (E : Set ℕ) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      BodyMem (F := F) c arg1 arg2 arg3 arg4 arg5 arg6 arg7 arg8 arg9 arg10 arg11 arg12 arg13 arg14 arg15 arg16 arg17 arg18 arg19 X1 X2 X3 X4 X5 X6 X7 X8 X9 X10 X11 f12 f13 f14 f15 f16 f17 f18 f19
      ⊢ wp frame (wpE (defs₀ (F := F)) Variants.none (c : Thread nD τ) none) E (cc0_s5_layer (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => BodyMem (F := F) c arg1 arg2 arg3 arg4 arg5 arg6 arg7 arg8 arg9 arg10 arg11 arg12 arg13 arg14 arg15 arg16 arg17 arg18 arg19 X1 X2 X3 X4 X5 X6 X7 X8 X9 X10 X11 (arg12.view.writes (Elt F) f12 L.1) (arg13.view.writes (Elt F) arg13.view.junk L.2.1) (arg14.view.writes (Elt F) arg14.view.junk L.2.2.1) (arg15.view.writes (Elt F) arg15.view.junk L.2.2.2.1) (arg16.view.writes (Elt F) f16 L.2.2.2.2.1) L.2.2.2.2.2.1 L.2.2.2.2.2.2.1 L.2.2.2.2.2.2.2) } := by
  refine ⟨(?_, ?_, ?_, ?_, ?_, ?_, ?_, ?_), fun E f12 f13 f14 f15 f16 => ?run⟩
  case run =>
    simp only [cc0_s5_layer_eq_skeleton]; unfold cc0_s5_layer_skel
    iintro ⟨H1, H2, H3, H4, H5, H6, H7, H8, H9, H10, H11, H12, H13, H14, H15, H16, H17, H18, H19⟩
    sl_exec
    sl_step
    sl_close

/-- A LATER POINT: the pieces left in each output window, and what each scratch is left at. -/
@[irreducible] def runLater (hc : ¬ Scalar.cmpi .ne (Scalar.extui (Scalar.cmpi .eq (BitVec.ofNat 32 (i 0).val) 0#32) : BitVec 32) 0#32 = 1#1) :
    { L : List (View.Piece (Elt F) S12x128x2560 .bf16) × List (View.Piece (Elt F) S12x256 .f32) × List (View.Piece (Elt F) S12x256 .f32) × List (View.Piece (Elt F) S12x128x2560 .fp8e4m3) × List (View.Piece (Elt F) S12x2048 .f32) × BufTy.Contents (Elt F) arg17.view.ty × BufTy.Contents (Elt F) arg18.view.ty × BufTy.Contents (Elt F) arg19.view.ty // ∀ (E : Set ℕ) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      BodyMem (F := F) c arg1 arg2 arg3 arg4 arg5 arg6 arg7 arg8 arg9 arg10 arg11 arg12 arg13 arg14 arg15 arg16 arg17 arg18 arg19 X1 X2 X3 X4 X5 X6 X7 X8 X9 X10 X11 f12 f13 f14 f15 f16 f17 f18 f19
      ⊢ wp frame (wpE (defs₀ (F := F)) Variants.none (c : Thread nD τ) none) E (cc0_s5_layer (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => BodyMem (F := F) c arg1 arg2 arg3 arg4 arg5 arg6 arg7 arg8 arg9 arg10 arg11 arg12 arg13 arg14 arg15 arg16 arg17 arg18 arg19 X1 X2 X3 X4 X5 X6 X7 X8 X9 X10 X11 (arg12.view.writes (Elt F) f12 L.1) (arg13.view.writes (Elt F) arg13.view.junk L.2.1) (arg14.view.writes (Elt F) arg14.view.junk L.2.2.1) (arg15.view.writes (Elt F) arg15.view.junk L.2.2.2.1) (arg16.view.writes (Elt F) f16 L.2.2.2.2.1) L.2.2.2.2.2.1 L.2.2.2.2.2.2.1 L.2.2.2.2.2.2.2) } := by
  refine ⟨(?_, ?_, ?_, ?_, ?_, ?_, ?_, ?_), fun E f12 f13 f14 f15 f16 => ?run⟩
  case run =>
    simp only [cc0_s5_layer_eq_skeleton]; unfold cc0_s5_layer_skel
    iintro ⟨H1, H2, H3, H4, H5, H6, H7, H8, H9, H10, H11, H12, H13, H14, H15, H16, H17, H18, H19⟩
    sl_exec
    sl_step
    sl_close

end Cert.KernelIdeal.Hand

end
-- ==== Proof.KernelIdeal.Run.lean ====
/- THE LAUNCH. Relational proof data for the one pipeline: an input window is left as found, an output window is related to what the body
   found there by a relation given, and the three scratches are tracked by an invariant given. From the pure step (one run of the body
   keeps the invariant and leaves related windows) the launch follows for every relation and invariant; the frame is the instance that
   says nothing of them. -/
module

public import proofs.«01_k».proof.Proof.Gen.KernelIdeal.Frame
public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (RDat)

variable [∀ e, Nonempty (Elt F e)]
variable (m : (ℓ : Loc nD τ sig) → Buf (Elt F) ℓ) (ρ : Dev nD → PrngReg)

/-- The body's run at a point: the first point's, or a later one's. -/
def runAt (c : Dev nD) (t : Fin cfg0.N) (X : (w : Fin cfg0.W) → BufTy.Contents (Elt F) ((cfg0.win w).stage (cfg0.slots t w)).view.ty) (s17 : BufTy.Contents (Elt F) (Memref.whole cc0_scratch0 : Memref sig .tc .vmem S6x8x256 .f32).view.ty) (s18 : BufTy.Contents (Elt F) (Memref.whole cc0_scratch1 : Memref sig .tc .vmem S4x2064x128 .f32).view.ty) (s19 : BufTy.Contents (Elt F) (Memref.whole cc0_scratch2 : Memref sig .tc .vmem S4x16x128 .f32).view.ty) :=
  if hc : Scalar.cmpi .ne (Scalar.extui (Scalar.cmpi .eq (BitVec.ofNat 32 (grid0.coords t 0).val) 0#32) : BitVec 32) 0#32 = 1#1 then
    runFirst (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (X 0) (X 1) (X 2) (X 3) (X 4) (X 5) (X 6) (X 7) (X 8) (X 9) (X 10) s17 s18 s19 hc
  else runLater (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (X 0) (X 1) (X 2) (X 3) (X 4) (X 5) (X 6) (X 7) (X 8) (X 9) (X 10) s17 s18 s19 hc

/-- A buffer of one of the three scratches, as the body's memrefs see it. -/
abbrev Sc0 (F : FTy → Type) : Type := BufTy.Contents (Elt F) (Memref.whole cc0_scratch0 : Memref sig .tc .vmem S6x8x256 .f32).view.ty
/-- What the second scratch, the drives and states, may hold. -/
abbrev Sc1 (F : FTy → Type) : Type := BufTy.Contents (Elt F) (Memref.whole cc0_scratch1 : Memref sig .tc .vmem S4x2064x128 .f32).view.ty
/-- What the third scratch, the carried state, may hold. -/
abbrev Sc2 (F : FTy → Type) : Type := BufTy.Contents (Elt F) (Memref.whole cc0_scratch2 : Memref sig .tc .vmem S4x16x128 .f32).view.ty

/-- What a certificate says of the body: what an output window is left at, given what was found there, and what the scratches hold before
    each point. -/
structure Track (F : FTy → Type) where
  rel : (w : Fin cfg0.W) → Fin cfg0.N → (Y X : (cfg0.win w).block.Idx → Elt F (cfg0.win w).elt) → Prop
  inv : ℕ → Sc0 F → Sc1 F → Sc2 F → Prop

variable (T : Dev nD → Track F)

/-- The scratches at some contents satisfying the invariant, and the generator register. -/
def trackInv (c : Dev nD) (k : ℕ) : sProp 𝕄 :=
  iprop((∃ (s17 : Sc0 F) (s18 : Sc1 F) (s19 : Sc2 F), ⌜(T c).inv k s17 s18 s19⌝
      ∗ ((Memref.whole cc0_scratch0).view.loc (c : Thread nD τ) ↦[(Memref.whole cc0_scratch0).view.set]{fullShare} s17)
      ∗ ((Memref.whole cc0_scratch1).view.loc (c : Thread nD τ) ↦[(Memref.whole cc0_scratch1).view.set]{fullShare} s18)
      ∗ ((Memref.whole cc0_scratch2).view.loc (c : Thread nD τ) ↦[(Memref.whole cc0_scratch2).view.set]{fullShare} s19))
    ∗ (∃ r, prngReg c r))

/-- The proof data on core `c`. -/
def rdat (c : Dev nD) : RDat τ (Elt F) Unit ℕ (UR sig nD τ) ℕ cfg0 c where
  A w := V m c (Pipeline.arrRef spec0 w)
  after w t Y X := if w.val < 11 then X = Y else (T c).rel w t Y X
  Φ t := trackInv T c t.val
  q _ := fullShare
  owed _ := 0

/-- An input's window left as it was found is left as it may be. -/
theorem after_of_in (c : Dev nD) {w : Fin cfg0.W} (h : w.val < 11) {t : Fin cfg0.N} {Y X : (cfg0.win w).block.Idx → Elt F (cfg0.win w).elt} (e : X = Y) :
    (rdat m T c).after w t Y X := (if_pos h).mpr e
/-- An output's window left in the relation the track asks for is left as it may be. -/
theorem after_of_out (c : Dev nD) {w : Fin cfg0.W} (h : ¬ w.val < 11) {t : Fin cfg0.N} {Y X : (cfg0.win w).block.Idx → Elt F (cfg0.win w).elt}
    (e : (T c).rel w t Y X) : (rdat m T c).after w t Y X := (if_neg h).mpr e

/-- THE PURE STEP: from scratches satisfying the invariant and windows at what they may hold, one run of the body leaves scratches
    satisfying the next invariant and related output windows. -/
def Step (c : Dev nD) : Prop :=
  ∀ (t : Fin cfg0.N) (X : (w : Fin cfg0.W) → BufTy.Contents (Elt F) ((cfg0.win w).stage (cfg0.slots t w)).view.ty), (∀ w, (rdat m T c).Finds w t (((cfg0.win w).stage (cfg0.slots t w)).view.read (Elt F) (X w))) →
    ∀ (s17 : Sc0 F) (s18 : Sc1 F) (s19 : Sc2 F), (T c).inv t.val s17 s18 s19 →
      (T c).inv (t.val + 1) (runAt c t X s17 s18 s19).1.2.2.2.2.2.1 (runAt c t X s17 s18 s19).1.2.2.2.2.2.2.1 (runAt c t X s17 s18 s19).1.2.2.2.2.2.2.2
      ∧ (T c).rel 11 t ((st0_11 t).view.read (Elt F) (X 11)) ((st0_11 t).view.read (Elt F) ((st0_11 t).view.writes (Elt F) (X 11) (runAt c t X s17 s18 s19).1.1))
      ∧ (T c).rel 12 t ((st0_12 t).view.read (Elt F) (X 12)) ((st0_12 t).view.read (Elt F) ((st0_12 t).view.writes (Elt F) (st0_12 t).view.junk (runAt c t X s17 s18 s19).1.2.1))
      ∧ (T c).rel 13 t ((st0_13 t).view.read (Elt F) (X 13)) ((st0_13 t).view.read (Elt F) ((st0_13 t).view.writes (Elt F) (st0_13 t).view.junk (runAt c t X s17 s18 s19).1.2.2.1))
      ∧ (T c).rel 14 t ((st0_14 t).view.read (Elt F) (X 14)) ((st0_14 t).view.read (Elt F) ((st0_14 t).view.writes (Elt F) (st0_14 t).view.junk (runAt c t X s17 s18 s19).1.2.2.2.1))
      ∧ (T c).rel 15 t ((st0_15 t).view.read (Elt F) (X 15)) ((st0_15 t).view.read (Elt F) ((st0_15 t).view.writes (Elt F) (X 15) (runAt c t X s17 s18 s19).1.2.2.2.2.1))

/-- The windows' memory and the scratches at a point, as one run of the body takes them. -/
abbrev pointMem (c : Dev nD) (t : Fin cfg0.N) (X : (w : Fin cfg0.W) → BufTy.Contents (Elt F) ((cfg0.win w).stage (cfg0.slots t w)).view.ty) (s17 : Sc0 F) (s18 : Sc1 F) (s19 : Sc2 F) : sProp 𝕄 :=
  BodyMem (F := F) c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (Memref.whole cc0_scratch0) (Memref.whole cc0_scratch1) (Memref.whole cc0_scratch2) (X 0) (X 1) (X 2) (X 3) (X 4) (X 5) (X 6) (X 7) (X 8) (X 9) (X 10) (X 11) (X 12) (X 13) (X 14) (X 15) s17 s18 s19

/-- The memory a run leaves. -/
abbrev pointMem' (c : Dev nD) (t : Fin cfg0.N) (X : (w : Fin cfg0.W) → BufTy.Contents (Elt F) ((cfg0.win w).stage (cfg0.slots t w)).view.ty) (s17 : Sc0 F) (s18 : Sc1 F) (s19 : Sc2 F) : sProp 𝕄 :=
  BodyMem (F := F) c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (Memref.whole cc0_scratch0) (Memref.whole cc0_scratch1) (Memref.whole cc0_scratch2) (X 0) (X 1) (X 2) (X 3) (X 4) (X 5) (X 6) (X 7) (X 8) (X 9) (X 10) ((st0_11 t).view.writes (Elt F) (X 11) (runAt c t X s17 s18 s19).1.1) ((st0_12 t).view.writes (Elt F) (st0_12 t).view.junk (runAt c t X s17 s18 s19).1.2.1) ((st0_13 t).view.writes (Elt F) (st0_13 t).view.junk (runAt c t X s17 s18 s19).1.2.2.1) ((st0_14 t).view.writes (Elt F) (st0_14 t).view.junk (runAt c t X s17 s18 s19).1.2.2.2.1) ((st0_15 t).view.writes (Elt F) (X 15) (runAt c t X s17 s18 s19).1.2.2.2.2.1) (runAt c t X s17 s18 s19).1.2.2.2.2.2.1 (runAt c t X s17 s18 s19).1.2.2.2.2.2.2.1 (runAt c t X s17 s18 s19).1.2.2.2.2.2.2.2

/-- The body's run at a grid point, over the windows as it finds them. -/
theorem runAt_wp (c : Dev nD) (t : Fin cfg0.N) (X : (w : Fin cfg0.W) → BufTy.Contents (Elt F) ((cfg0.win w).stage (cfg0.slots t w)).view.ty) (s17 : Sc0 F) (s18 : Sc1 F) (s19 : Sc2 F) :
    pointMem c t X s17 s18 s19
      ⊢ wp frame (wpE (defs₀ (F := F)) Variants.none (c : Thread nD τ) none) Set.univ (bodyAt0 t) (fun _ => pointMem' c t X s17 s18 s19) :=
  (runAt c t X s17 s18 s19).2 Set.univ (X 11) (X 12) (X 13) (X 14) (X 15)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 8000000 in
/-- The body obligation from the pure step. -/
theorem body_obligation (c : Dev nD) (hS : Step m T c) :
    (rdat m T c).BodyObligation (defs₀ (F := F)) Variants.none () Set.univ := by
  intro t Y hY
  rw [bigSep_W0, bigSep_W0, defs₀_row, show (rdat m T c).Φ t.castSucc = trackInv T c t.val from rfl,
    show (rdat m T c).Φ t.succ = trackInv T c (t.val + 1) from rfl,
    show (rdat m T c).owesAt () t.succ = (rdat m T c).owesAt () t.castSucc from rfl]
  unfold trackInv owns
  iintro ⟨⟨⟨%s17, %s18, %s19, %hI, HS0, HS1, HS2⟩, Hr⟩, HO, ⟨%g0, %e0, H0⟩, ⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, ⟨%g11, %e11, H11⟩, ⟨%g12, %e12, H12⟩, ⟨%g13, %e13, H13⟩, ⟨%g14, %e14, H14⟩, ⟨%g15, %e15, H15⟩⟩
  obtain ⟨X, hX⟩ : ∃ X : (w : Fin cfg0.W) → BufTy.Contents (Elt F) ((cfg0.win w).stage (cfg0.slots t w)).view.ty,
      X 0 = g0 ∧ X 1 = g1 ∧ X 2 = g2 ∧ X 3 = g3 ∧ X 4 = g4 ∧ X 5 = g5 ∧ X 6 = g6 ∧ X 7 = g7 ∧ X 8 = g8 ∧ X 9 = g9 ∧ X 10 = g10 ∧ X 11 = g11 ∧ X 12 = g12 ∧ X 13 = g13 ∧ X 14 = g14 ∧ X 15 = g15 :=
    ⟨Fin.cons g0 (Fin.cons g1 (Fin.cons g2 (Fin.cons g3 (Fin.cons g4 (Fin.cons g5 (Fin.cons g6 (Fin.cons g7 (Fin.cons g8 (Fin.cons g9
      (Fin.cons g10 (Fin.cons g11 (Fin.cons g12 (Fin.cons g13 (Fin.cons g14 (Fin.cons g15 finZeroElim))))))))))))))), by
      refine ⟨rfl, rfl, rfl, rfl, rfl, rfl, rfl, rfl, rfl, rfl, rfl, rfl, rfl, rfl, rfl, rfl⟩⟩
  obtain ⟨rfl, rfl, rfl, rfl, rfl, rfl, rfl, rfl, rfl, rfl, rfl, rfl, rfl, rfl, rfl, rfl⟩ := hX
  have hF : ∀ w, (rdat m T c).Finds w t (((cfg0.win w).stage (cfg0.slots t w)).view.read (Elt F) (X w)) := by
    intro w
    have := hY w
    fin_cases w
    · exact e0 ▸ this
    · exact e1 ▸ this
    · exact e2 ▸ this
    · exact e3 ▸ this
    · exact e4 ▸ this
    · exact e5 ▸ this
    · exact e6 ▸ this
    · exact e7 ▸ this
    · exact e8 ▸ this
    · exact e9 ▸ this
    · exact e10 ▸ this
    · exact e11 ▸ this
    · exact e12 ▸ this
    · exact e13 ▸ this
    · exact e14 ▸ this
    · exact e15 ▸ this
  obtain ⟨hI', h11, h12, h13, h14, h15⟩ := hS t X hF s17 s18 s19 hI
  iapply (wp_wand_r Idealize.ShloMosaic.frame (wpE (defs₀ (F := F)) Variants.none (c : Thread nD τ) none) Set.univ)
  isplitl [H0 H1 H2 H3 H4 H5 H6 H7 H8 H9 H10 H11 H12 H13 H14 H15 HS0 HS1 HS2]
  · iapply (runAt_wp c t X s17 s18 s19)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    iexact HS2
  iintro %r ⟨H0, H1, H2, H3, H4, H5, H6, H7, H8, H9, H10, H11, H12, H13, H14, H15, HS0, HS1, HS2⟩
  isplitl [HS0 HS1 HS2 Hr]
  · isplitl [HS0 HS1 HS2]
    · iexists _, _, _
      isplitr; swap
      · isplitl [HS0]; · iexact HS0
        isplitl [HS1]; · iexact HS1
        iexact HS2
      ipureintro; exact hI'
    iexact Hr
  isplitl [HO]; · iexact HO
  isplitl [H0]
  · iexists Y 0; isplitr; swap
    · iexists _; isplitr; swap; · iexact H0
      ipureintro; exact e0
    ipureintro; exact after_of_in m T c (w := 0) (by decide) rfl
  isplitl [H1]
  · iexists Y 1; isplitr; swap
    · iexists _; isplitr; swap; · iexact H1
      ipureintro; exact e1
    ipureintro; exact after_of_in m T c (w := 1) (by decide) rfl
  isplitl [H2]
  · iexists Y 2; isplitr; swap
    · iexists _; isplitr; swap; · iexact H2
      ipureintro; exact e2
    ipureintro; exact after_of_in m T c (w := 2) (by decide) rfl
  isplitl [H3]
  · iexists Y 3; isplitr; swap
    · iexists _; isplitr; swap; · iexact H3
      ipureintro; exact e3
    ipureintro; exact after_of_in m T c (w := 3) (by decide) rfl
  isplitl [H4]
  · iexists Y 4; isplitr; swap
    · iexists _; isplitr; swap; · iexact H4
      ipureintro; exact e4
    ipureintro; exact after_of_in m T c (w := 4) (by decide) rfl
  isplitl [H5]
  · iexists Y 5; isplitr; swap
    · iexists _; isplitr; swap; · iexact H5
      ipureintro; exact e5
    ipureintro; exact after_of_in m T c (w := 5) (by decide) rfl
  isplitl [H6]
  · iexists Y 6; isplitr; swap
    · iexists _; isplitr; swap; · iexact H6
      ipureintro; exact e6
    ipureintro; exact after_of_in m T c (w := 6) (by decide) rfl
  isplitl [H7]
  · iexists Y 7; isplitr; swap
    · iexists _; isplitr; swap; · iexact H7
      ipureintro; exact e7
    ipureintro; exact after_of_in m T c (w := 7) (by decide) rfl
  isplitl [H8]
  · iexists Y 8; isplitr; swap
    · iexists _; isplitr; swap; · iexact H8
      ipureintro; exact e8
    ipureintro; exact after_of_in m T c (w := 8) (by decide) rfl
  isplitl [H9]
  · iexists Y 9; isplitr; swap
    · iexists _; isplitr; swap; · iexact H9
      ipureintro; exact e9
    ipureintro; exact after_of_in m T c (w := 9) (by decide) rfl
  isplitl [H10]
  · iexists Y 10; isplitr; swap
    · iexists _; isplitr; swap; · iexact H10
      ipureintro; exact e10
    ipureintro; exact after_of_in m T c (w := 10) (by decide) rfl
  isplitl [H11]
  · iexists _; isplitr; swap
    · iexists _; isplitr; swap; · iexact H11
      ipureintro; rfl
    ipureintro; exact after_of_out m T c (w := 11) (by decide) (by rw [← e11]; exact h11)
  isplitl [H12]
  · iexists _; isplitr; swap
    · iexists _; isplitr; swap; · iexact H12
      ipureintro; rfl
    ipureintro; exact after_of_out m T c (w := 12) (by decide) (by rw [← e12]; exact h12)
  isplitl [H13]
  · iexists _; isplitr; swap
    · iexists _; isplitr; swap; · iexact H13
      ipureintro; rfl
    ipureintro; exact after_of_out m T c (w := 13) (by decide) (by rw [← e13]; exact h13)
  isplitl [H14]
  · iexists _; isplitr; swap
    · iexists _; isplitr; swap; · iexact H14
      ipureintro; rfl
    ipureintro; exact after_of_out m T c (w := 14) (by decide) (by rw [← e14]; exact h14)
  iexists _; isplitr; swap
  · iexists _; isplitr; swap; · iexact H15
    ipureintro; rfl
  ipureintro; exact after_of_out m T c (w := 15) (by decide) (by rw [← e15]; exact h15)

/-- At launch the scratches and the generator register hold anything. -/
theorem trackInv_zero (c : Dev nD) (h0 : ∀ s17 s18 s19, (T c).inv 0 s17 s18 s19) : (Pipeline.ΦA spec0 c : sProp 𝕄) ⊢ trackInv T c 0 := by
  unfold Pipeline.ΦA trackInv
  rw [scopedRest0_eq]
  simp only [Memref.view_whole, View.set_whole]
  iintro ⟨⟨⟨%s17, H0⟩, ⟨%s18, H1⟩, ⟨%s19, H2⟩⟩, Hr⟩
  isplitl [H0 H1 H2]
  · iexists s17, s18, s19
    isplitr; · ipureintro; exact h0 _ _ _
    isplitl [H0]; · iexact H0
    isplitl [H1]; · iexact H1
    iexact H2
  iexact Hr

/-- After the last point what they hold is forgotten. -/
theorem trackInv_last (c : Dev nD) (k : ℕ) : trackInv T c k ⊢ (Pipeline.ΦA spec0 c : sProp 𝕄) := by
  unfold Pipeline.ΦA trackInv
  rw [scopedRest0_eq]
  simp only [Memref.view_whole, View.set_whole]
  iintro ⟨⟨%s17, %s18, %s19, -, H0, H1, H2⟩, Hr⟩
  isplitl [H0 H1 H2]
  · isplitl [H0]; · iexists s17; iexact H0
    isplitl [H1]; · iexists s18; iexact H1
    iexists s19; iexact H2
  iexact Hr

set_option backward.isDefEq.respectTransparency.types false in
/-- THE RUN: from the pure step on every core, every fair execution of @main terminates with the arrays at what the relations allow and
    every semaphore at zero. -/
theorem run_main (hS : ∀ c, Step m T c) (h0 : ∀ c s17 s18 s19, (T c).inv 0 s17 s18 s19) :
    θ_run defs (onTc (τ := τ) (main (F := F))) (s₀ m ρ)
      (fun r => RDat.FramePost (cfgs 0) (fun c => rdat m T c) (V m) r ∧ r.2.sem = fun _ => 0) :=
  Pipeline.RDat.θ_run_frame_track (Q' := _) cfgs (0 : Fin 1) launch0 defs₀ Variants.none (fun c => rdat m T c) m ρ main
    (hbody := fun c => body_obligation m T c (hS c)) (hshare := fun c => (rdat m T c).share_full fun _ => rfl)
    (howed := fun _ _ => rfl) (V := V m) (hmain := hmain m Variants.none) (hA := fun _ _ => rfl)
    (hin := fun c => trackInv_zero T c (h0 c)) (hout := fun c => trackInv_last T c _)

/-- What the run says of the arguments and the semaphores. -/
theorem args_kept {r : PUnit × MemSt nD τ sig (Elt F)} (h : RDat.FramePost (cfgs 0) (fun c => rdat m T c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(RDat.FramePost.arr_in h c 0 rfl).trans (V_main_arg0 m c),
    ((h c).2 main_arg1 (Pipeline.mem_restRefs_of main_arg1 (by decide) (by decide))).trans (V_main_arg1 m c),
    (RDat.FramePost.arr_in h c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    (RDat.FramePost.arr_in h c 9 rfl).trans (V_main_arg9 m c),
    (RDat.FramePost.arr_in h c 10 rfl).trans (V_main_arg10 m c)⟩

/-- The tracking that says nothing. -/
def noTrack : Track F where
  rel _ _ _ _ := True
  inv _ _ _ _ := True

/-- A track that says nothing is kept by every step. -/
theorem step_noTrack (c : Dev nD) : Step m (fun _ => noTrack) c := fun _ _ _ _ _ _ _ => ⟨trivial, trivial, trivial, trivial, trivial, trivial⟩

/-- THE FRAME: the arguments end as they were and every semaphore ends at zero. -/
theorem frame_run :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun _ h => ⟨fun c => args_kept m _ h.1 c, h.2⟩)
    (run_main m ρ (fun _ => noTrack) (fun c => step_noTrack m c) (fun _ _ _ _ => trivial))

end Cert.KernelIdeal.Hand

end
-- ==== Proof.Spec.lean ====
/- WHAT THE LAYER COMPUTES, over the extended reals, and the quantiser in the two forms the programs write it in. -/
module

public import Idealize.ShloMosaic.Lib.Pointwise
public import Idealize.ShloMosaic.Lib.Pipeline.ValueKit
public import Idealize.ShloMosaic.Lib.IdealHost

@[expose] public section

set_option maxRecDepth 16384

noncomputable section

namespace Cert.Spec

open Idealize.ShloMosaic

/-- One row of the input. -/
abbrev Row : Type := Fin 2560 → EReal

/-- The largest magnitude of a row. -/
def amax (v : Row) : EReal := Finset.fold max (Ideal.ofBits .f32 4286578688#32) (fun x => max (v x) (-v x)) Finset.univ

/-- The same over the constant `1/448`. -/
def scaled (v : Row) : EReal := amax v * Ideal.ofBits .f32 991054117#32

/-- The kernel's exponent field: how many of the binades `0 … 255` the row's scaled magnitude reaches, less one; 126 for a zero field. -/
def field (v : Row) : BitVec 32 := IntOp.subi (Finset.fold IntOp.addi (0#32) (fun x : Fin 256 =>
  if Ideal.ofBits .f32 (IntOp.shli ArithUnit.vector (BitVec.ofNat 32 x.val) 23#32) ≤ scaled v then 1#32 else 0#32) Finset.univ) 1#32
/-- The exponent field the kernel's scale is made from: 126 where the field is zero. -/
def expo (v : Row) : BitVec 32 := Scalar.select (IntOp.cmpi CmpIPredicate.eq (field v) 0#32) (126#32) (field v)

/-- The kernel's scale of a row and its reciprocal. -/
def scaleK (v : Row) : EReal := Ideal.ofBits .f32 (IntOp.shli ArithUnit.vector (IntOp.addi (expo v) 1#32) 23#32)
/-- The kernel's inverse scale: the float whose exponent field is 253 less the row's. -/
def invK (v : Row) : EReal := Ideal.ofBits .f32 (IntOp.shli ArithUnit.vector (IntOp.subi (253#32) (expo v)) 23#32)

/-- The reference's exponent of a row. -/
def expR (v : Row) : EReal := if amax v = 0 then 0 else
  (∑ x : Fin 254, if Ideal.exp2 (((BitVec.ofNat 32 x.val).toInt : ℝ) - Ideal.ofBits .f32 1123811328#32) ≤ scaled v then (1 : EReal) else 0) - Ideal.ofBits .f32 1123811328#32

/-- The reference's scale of a row and its reciprocal. -/
def scaleR (v : Row) : EReal := Ideal.exp2 (expR v)
/-- The reference's inverse scale: two to minus the row's exponent. -/
def invR (v : Row) : EReal := Ideal.exp2 (0 - expR v)

/-- A row the quantiser reads in range. -/
def InRange (v : Row) : Prop :=
  (amax v = 0 ∨ Ideal.ofBits .f32 0x00800000#32 ≤ scaled v) ∧ amax v ≤ Ideal.ofBits .f32 0x7F7F0000#32

/-- The word whose exponent field is `k`. -/
def word (k : ℕ) : BitVec 32 := IntOp.shli ArithUnit.vector (BitVec.ofNat 32 k) 23#32

/-- A word of field `k` has exponent bits `k` and fraction bits zero. -/
theorem word_parts : ∀ k : Fin 256, ((word k.val).extractLsb' 23 8).toNat = k.val ∧ ((word k.val).extractLsb' 0 23).toNat = 0
    ∧ ((word k.val).extractLsb' (8 + 23) 1 == 1#1) = false := by decide +kernel

/-- What a positive normal pattern denotes. -/
theorem ofBits_normal (b : BitVec 32) (E T : ℕ) (h : (b.extractLsb' 23 8).toNat = E ∧ (b.extractLsb' 0 23).toNat = T ∧ (b.extractLsb' (8 + 23) 1 == 1#1) = false)
    (h0 : E ≠ 0) (h1 : E ≠ 255) : Ideal.ofBits .f32 b = ((((2 ^ 23 + T : ℕ) : ℝ) * (2 : ℝ) ^ ((E : ℤ) - 127 - 23) : ℝ) : EReal) := by
  obtain ⟨e1, e2, e3⟩ := h
  simp only [Ideal.ofBits, Ideal.ieee]
  rw [e1, e2, e3, if_neg (show ¬ E = 2 ^ 8 - 1 by omega), if_neg h0, if_neg Bool.false_ne_true, one_mul]
  rfl

/-- A normal word is a power of two. -/
theorem word_pow (k : ℕ) (h0 : 0 < k) (h1 : k < 255) : Ideal.ofBits .f32 (word k) = (((2 : ℝ) ^ ((k : ℤ) - 127) : ℝ) : EReal) := by
  rw [ofBits_normal (word k) k 0 (word_parts ⟨k, by omega⟩) (by omega) (by omega)]
  have : (((2 ^ 23 + 0 : ℕ) : ℝ)) = (2 : ℝ) ^ (23 : ℤ) := by norm_num
  rw [this, ← zpow_add₀ (by norm_num)]
  congr 2
  ring

/-- The word of field 0 is the number zero. -/
theorem word_zero : Ideal.ofBits .f32 (word 0) = 0 := by
  rw [show word 0 = 0x00000000#32 by decide +kernel]; exact Ideal.ofBits_zero_f32
/-- The word of field 255 is infinity. -/
theorem word_top : Ideal.ofBits .f32 (word 255) = ⊤ := by
  obtain ⟨e1, e2, e3⟩ := word_parts ⟨255, by omega⟩
  simp only [Ideal.ofBits, Ideal.ieee]
  rw [e1, e2, e3]; simp

/-- The constant 126 is the number 126. -/
theorem const_126 : Ideal.ofBits .f32 1123811328#32 = ((126 : ℝ) : EReal) := by
  rw [ofBits_normal _ 133 0x7C0000 (by decide +kernel) (by omega) (by omega)]
  norm_num

/-- The least normal float is `2^-126`. -/
theorem const_min : Ideal.ofBits .f32 0x00800000#32 = (((2 : ℝ) ^ (-126 : ℤ) : ℝ) : EReal) := by
  rw [show (0x00800000#32 : BitVec 32) = word 1 by decide +kernel, word_pow 1 (by omega) (by omega)]; norm_num

/-- The greatest finite bf16 is at most `2^128`. -/
theorem const_max : Ideal.ofBits .f32 0x7F7F0000#32 ≤ (((2 : ℝ) ^ (128 : ℤ) : ℝ) : EReal) := by
  rw [ofBits_normal _ 254 0x7F0000 (by decide +kernel) (by omega) (by omega)]
  refine EReal.coe_le_coe_iff.2 ?_
  norm_num

/-- The constant for `1/448` is a positive number below `2^-8`. -/
theorem const_448 : ∃ r : ℝ, Ideal.ofBits .f32 991054117#32 = (r : EReal) ∧ 0 < r ∧ r < (2 : ℝ) ^ (-8 : ℤ) := by
  refine ⟨_, ofBits_normal _ 118 0x124925 (by decide +kernel) (by omega) (by omega), by positivity, ?_⟩
  norm_num

/-- Adding up a word one for each member of a set that has a property counts those members. -/
theorem fold_count {ι : Type} [DecidableEq ι] (s : Finset ι) (p : ι → Prop) [DecidablePred p] :
    Finset.fold IntOp.addi (0#32) (fun x => if p x then 1#32 else 0#32) s = BitVec.ofNat 32 (∑ x ∈ s, if p x then 1 else 0) := by
  induction s using Finset.induction_on with
  | empty => rfl
  | insert a s ha ih =>
    rw [Finset.fold_insert ha, Finset.sum_insert ha, ih, BitVec.ofNat_add]
    by_cases h : p a <;> simp [h, IntOp.addi]

/-- Summing a one for each member of a set that has a property counts those members. -/
theorem sum_count {ι : Type} [DecidableEq ι] (s : Finset ι) (p : ι → Prop) [DecidablePred p] :
    (∑ x ∈ s, if p x then (1 : EReal) else 0) = ((((∑ x ∈ s, if p x then 1 else 0 : ℕ) : ℕ) : ℝ) : EReal) := by
  induction s using Finset.induction_on with
  | empty => simp
  | insert a s ha ih =>
    rw [Finset.sum_insert ha, Finset.sum_insert ha, ih]
    by_cases h : p a <;> simp [h]

/-- How many of the binades `2^(-126) … 2^127` a magnitude reaches. -/
def binades (s : EReal) : ℕ := ∑ x : Fin 254, if (((2 : ℝ) ^ ((x.val : ℤ) - 126) : ℝ) : EReal) ≤ s then 1 else 0

/-- The kernel's exponent field of a finite row is the number of binades its scaled magnitude reaches. -/
theorem field_eq (v : Row) (h : scaled v ≠ ⊤) (h0 : 0 ≤ scaled v) : field v = BitVec.ofNat 32 (binades (scaled v)) := by
  unfold field
  rw [fold_count, Fin.sum_univ_succ, Fin.sum_univ_castSucc]
  have e0 : Ideal.ofBits .f32 (IntOp.shli ArithUnit.vector (BitVec.ofNat 32 (0 : Fin 256).val) 23#32) = 0 := word_zero
  have eT : Ideal.ofBits .f32 (IntOp.shli ArithUnit.vector (BitVec.ofNat 32 (Fin.succ (Fin.last 254)).val) 23#32) = ⊤ := word_top
  have eM : ∀ x : Fin 254, Ideal.ofBits .f32 (IntOp.shli ArithUnit.vector (BitVec.ofNat 32 (Fin.succ (Fin.castSucc x)).val) 23#32)
      = (((2 : ℝ) ^ ((x.val : ℤ) - 126) : ℝ) : EReal) := fun x => by
    refine (word_pow (x.val + 1) (by omega) (by omega)).trans ?_
    congr 2; push_cast; ring
  rw [e0, eT, if_pos h0, if_neg (by simpa using h)]
  simp only [eM]
  rw [add_zero]
  show IntOp.subi (BitVec.ofNat 32 (1 + binades (scaled v))) 1#32 = _
  rw [BitVec.ofNat_add]
  show 1#32 + _ - 1#32 = _
  rw [BitVec.add_comm, BitVec.add_sub_cancel]

/-- The reference's exponent of a row that is not zero is that number of binades less 126. -/
theorem expR_eq (v : Row) (h : amax v ≠ 0) : expR v = (((binades (scaled v) : ℝ) - 126 : ℝ) : EReal) := by
  unfold expR
  rw [if_neg h, const_126]
  have e : ∀ x : Fin 254, Ideal.exp2 (((BitVec.ofNat 32 x.val).toInt : ℝ) - ((126 : ℝ) : EReal)) = (((2 : ℝ) ^ ((x.val : ℤ) - 126) : ℝ) : EReal) := fun x => by
    have hx : (BitVec.ofNat 32 x.val).toInt = (x.val : ℤ) := by
      revert x; decide +kernel
    rw [hx, ← EReal.coe_sub, Ideal.exp2_coe, ← Real.rpow_intCast]
    push_cast
    rfl
  simp only [e]
  rw [sum_count, ← EReal.coe_sub]
  rfl

/-- A row's greatest magnitude is not negative. -/
theorem amax_nonneg (v : Row) : 0 ≤ amax v := by
  unfold amax
  rw [Finset.le_fold_max]
  right
  refine ⟨0, Finset.mem_univ _, ?_⟩
  rcases le_total 0 (v 0) with h | h
  · exact le_max_of_le_left h
  · exact le_max_of_le_right (by simpa using h)

/-- Where the row's field is `n`, not zero, the fields of the kernel's scale and inverse scale are `n + 1` and `253 - n`. -/
theorem words_later : ∀ n : Fin 253, 0 < n.val →
    IntOp.addi (Scalar.select (IntOp.cmpi CmpIPredicate.eq (BitVec.ofNat 32 n.val) 0#32) (126#32) (BitVec.ofNat 32 n.val)) 1#32 = BitVec.ofNat 32 (n.val + 1)
    ∧ IntOp.subi (253#32) (Scalar.select (IntOp.cmpi CmpIPredicate.eq (BitVec.ofNat 32 n.val) 0#32) (126#32) (BitVec.ofNat 32 n.val)) = BitVec.ofNat 32 (253 - n.val) := by
  decide +kernel

/-- Zero reaches no binade. -/
theorem binades_zero : binades 0 = 0 := by
  unfold binades
  refine Finset.sum_eq_zero fun x _ => if_neg ?_
  rw [not_le]
  exact_mod_cast (by positivity : (0 : ℝ) < (2 : ℝ) ^ ((x.val : ℤ) - 126))

/-- A number from `2^-126` on and below `2^126` reaches at least one binade and not all of them. -/
theorem binades_bounds (s : EReal) (h1 : (((2 : ℝ) ^ (-126 : ℤ) : ℝ) : EReal) ≤ s) (h2 : s < (((2 : ℝ) ^ (126 : ℤ) : ℝ) : EReal)) :
    0 < binades s ∧ binades s < 253 := by
  unfold binades
  constructor
  · refine Finset.sum_pos' (fun _ _ => Nat.zero_le _) ⟨0, Finset.mem_univ _, ?_⟩
    rw [if_pos (by simpa using h1)]; exact one_pos
  · have : (∑ x : Fin 254, if (((2 : ℝ) ^ ((x.val : ℤ) - 126) : ℝ) : EReal) ≤ s then 1 else 0) ≤ ∑ x : Fin 254, if x.val < 252 then 1 else 0 := by
      refine Finset.sum_le_sum fun x _ => ?_
      by_cases hx : x.val < 252
      · rw [if_pos hx]; split <;> omega
      · rw [if_neg hx, if_neg]
        rw [not_le]
        refine h2.trans_le ?_
        exact_mod_cast zpow_le_zpow_right₀ (by norm_num : (1 : ℝ) ≤ 2) (by omega : (126 : ℤ) ≤ (x.val : ℤ) - 126)
    refine this.trans_lt ?_
    decide +kernel

/-- IN RANGE, THE TWO QUANTISERS AGREE. -/
theorem quant_eq (v : Row) (h : InRange v) : scaleK v = scaleR v ∧ invK v = invR v := by
  obtain ⟨hlow, hhigh⟩ := h
  obtain ⟨r, hr, r0, r8⟩ := const_448
  by_cases ha : amax v = 0
  · have hs : scaled v = 0 := by unfold scaled; rw [ha, zero_mul]
    have hf : field v = 0#32 := by rw [field_eq v (by rw [hs]; simp) (by rw [hs]), hs, binades_zero]
    have he : expR v = 0 := by unfold expR; rw [if_pos ha]
    have h1 : Ideal.exp2 0 = 1 := by
      rw [← EReal.coe_zero, Ideal.exp2_coe]; simp
    unfold scaleK invK scaleR invR expo
    rw [hf, he, sub_zero, h1]
    have hw : Ideal.ofBits .f32 (word 127) = 1 := by rw [word_pow 127 (by omega) (by omega)]; norm_num
    exact ⟨hw, hw⟩
  · have hmin : (((2 : ℝ) ^ (-126 : ℤ) : ℝ) : EReal) ≤ scaled v := by
      rcases hlow with h | h
      · exact absurd h ha
      · rwa [const_min] at h
    have hmax : scaled v < (((2 : ℝ) ^ (126 : ℤ) : ℝ) : EReal) := by
      have hA := hhigh.trans const_max
      have hA0 := amax_nonneg v
      unfold scaled
      rw [hr]
      revert hA hA0
      generalize amax v = a
      intro hA hA0
      induction a using EReal.rec with
      | bot => simp at hA0
      | top => exact absurd hA (not_le.2 (EReal.coe_lt_top _))
      | coe a =>
        rw [← EReal.coe_mul]
        have hA' : a ≤ (2 : ℝ) ^ (128 : ℤ) := by exact_mod_cast hA
        have hA0' : 0 ≤ a := by exact_mod_cast hA0
        refine EReal.coe_lt_coe_iff.2 ?_
        calc a * r ≤ (2 : ℝ) ^ (128 : ℤ) * r := mul_le_mul_of_nonneg_right hA' r0.le
          _ < (2 : ℝ) ^ (128 : ℤ) * (2 : ℝ) ^ (-8 : ℤ) := mul_lt_mul_of_pos_left r8 (by positivity)
          _ ≤ (2 : ℝ) ^ (126 : ℤ) := by norm_num
    obtain ⟨b0, b1⟩ := binades_bounds _ hmin hmax
    have hne : scaled v ≠ ⊤ := ne_top_of_lt hmax
    have hge : 0 ≤ scaled v := le_trans (by exact_mod_cast (by positivity : (0 : ℝ) ≤ (2 : ℝ) ^ (-126 : ℤ))) hmin
    obtain ⟨w1, w2⟩ := words_later ⟨binades (scaled v), b1⟩ b0
    unfold scaleK invK scaleR invR expo
    rw [field_eq v hne hge, expR_eq v ha, w1, w2]
    constructor
    · refine (word_pow (binades (scaled v) + 1) (by omega) (by omega)).trans ?_
      rw [Ideal.exp2_coe]
      refine congrArg _ ?_
      show _ = (2 : ℝ) ^ ((binades (scaled v) : ℝ) - 126)
      rw [← Real.rpow_intCast]
      congr 1; push_cast; ring
    · refine (word_pow (253 - binades (scaled v)) (by omega) (by omega)).trans ?_
      rw [← EReal.coe_zero, ← EReal.coe_sub, Ideal.exp2_coe]
      refine congrArg _ ?_
      show _ = (2 : ℝ) ^ (0 - ((binades (scaled v) : ℝ) - 126))
      rw [← Real.rpow_intCast]
      congr 1; push_cast [Nat.cast_sub (show binades (scaled v) ≤ 253 by omega)]; ring

/-- Minus infinity is the same number in bf16 and in f32. -/
theorem ninf_bf16 : Ideal.ofBits .bf16 65408#16 = Ideal.ofBits .f32 4286578688#32 := by
  simp [Ideal.ofBits, Ideal.ieee]

/-! ### The layer -/

/-- The layer's arguments as plain functions. -/
structure Args where
  x : Fin 12 → Fin 2048 → Row
  bw : Fin 512 → Row
  bs : Fin 2 → Fin 256 → EReal
  cw : Fin 2560 → Fin 512 → EReal
  cs : Fin 2560 → EReal
  lre : Fin 256 → EReal
  lim : Fin 256 → EReal
  ldt : Fin 256 → EReal
  d : Fin 2560 → EReal
  hre : Fin 12 → Fin 256 → EReal
  him : Fin 12 → Fin 256 → EReal

/-- The arguments from the arrays. -/
def argsOf (a0 : (⟨3, ![12, 2048, 2560]⟩ : Shape).Idx → EReal) (a1 : (⟨3, ![2, 256, 2560]⟩ : Shape).Idx → EReal)
    (a2 : (⟨2, ![2, 256]⟩ : Shape).Idx → EReal) (a3 : (⟨3, ![2560, 2, 256]⟩ : Shape).Idx → EReal) (a4 : (⟨1, ![2560]⟩ : Shape).Idx → EReal)
    (a5 a6 a7 : (⟨1, ![256]⟩ : Shape).Idx → EReal) (a8 : (⟨1, ![2560]⟩ : Shape).Idx → EReal) (a9 a10 : (⟨2, ![12, 256]⟩ : Shape).Idx → EReal) : Args where
  x b t := fun k => a0 (ix3 b t k)
  bw s := fun k => a1 (ix3 ⟨s.val / 256, by omega⟩ ⟨s.val % 256, by omega⟩ k)
  bs p n := a2 (ix2 p n)
  cw o s := a3 (ix3 o ⟨s.val / 256, by omega⟩ ⟨s.val % 256, by omega⟩)
  cs o := a4 (ix1 o)
  lre n := a5 (ix1 n)
  lim n := a6 (ix1 n)
  ldt n := a7 (ix1 n)
  d o := a8 (ix1 o)
  hre b n := a9 (ix2 b n)
  him b n := a10 (ix2 b n)

/-- A row's codes, by the reciprocal of its scale. -/
def code (inv : Row → EReal) (v : Row) (k : Fin 2560) : EReal :=
  min (Ideal.ofBits .f32 1138753536#32) (max (Ideal.ofBits .f32 3286237184#32) (v k * inv v))

/-- The discretised eigenvalue and the input's coefficient. -/
def rad (A : Args) (n : Fin 256) : EReal := Ideal.exp (A.lre n * Ideal.exp (A.ldt n))
/-- The angle a state turns by in one step. -/
def ang (A : Args) (n : Fin 256) : EReal := A.lim n * Ideal.exp (A.ldt n)
/-- The discrete eigenvalue's real part. -/
def lamRe (A : Args) (n : Fin 256) : EReal := rad A n * Ideal.cos (ang A n)
/-- The discrete eigenvalue's imaginary part. -/
def lamIm (A : Args) (n : Fin 256) : EReal := rad A n * Ideal.sin (ang A n)
/-- The squared modulus of the continuous eigenvalue. -/
def den (A : Args) (n : Fin 256) : EReal := A.lre n * A.lre n + A.lim n * A.lim n
/-- The real part of the factor on a state's input. -/
def coRe (A : Args) (n : Fin 256) : EReal := Ideal.div ((lamRe A n - 1) * A.lre n + lamIm A n * A.lim n) (den A n)
/-- The imaginary part of the factor on a state's input. -/
def coIm (A : Args) (n : Fin 256) : EReal := Ideal.div (lamIm A n * A.lre n - (lamRe A n - 1) * A.lim n) (den A n)

/-- The codes' product with the input matrix. -/
def bu (inv : Row → EReal) (A : Args) (b : Fin 12) (t : Fin 2048) (s : Fin 512) : EReal := ∑ k, code inv (A.x b t) k * A.bw s k
/-- The real half of a position's projection. -/
def buRe (inv : Row → EReal) (A : Args) (b : Fin 12) (t : Fin 2048) (n : Fin 256) : EReal := bu inv A b t ⟨n.val, by omega⟩
/-- The imaginary half of a position's projection. -/
def buIm (inv : Row → EReal) (A : Args) (b : Fin 12) (t : Fin 2048) (n : Fin 256) : EReal := bu inv A b t ⟨256 + n.val, by omega⟩

/-- The drive of the state. -/
def driveR (sc inv : Row → EReal) (A : Args) (b : Fin 12) (t : Fin 2048) (n : Fin 256) : EReal :=
  coRe A n * (buRe inv A b t n * (sc (A.x b t) * A.bs 0 n)) - coIm A n * (buIm inv A b t n * (sc (A.x b t) * A.bs 1 n))
/-- The imaginary part of what a position adds to a state. -/
def driveI (sc inv : Row → EReal) (A : Args) (b : Fin 12) (t : Fin 2048) (n : Fin 256) : EReal :=
  coRe A n * (buIm inv A b t n * (sc (A.x b t) * A.bs 1 n)) + coIm A n * (buRe inv A b t n * (sc (A.x b t) * A.bs 0 n))

/-- The state after `t` steps. -/
def state (sc inv : Row → EReal) (A : Args) : ℕ → Fin 12 → Fin 256 → EReal × EReal
  | 0 => fun b n => (A.hre b n, A.him b n)
  | t + 1 => fun b n =>
    ((lamRe A n * (state sc inv A t b n).1 - lamIm A n * (state sc inv A t b n).2) + driveR sc inv A b (Fin.ofNat 2048 t) n,
      (lamRe A n * (state sc inv A t b n).2 + lamIm A n * (state sc inv A t b n).1) + driveI sc inv A b (Fin.ofNat 2048 t) n)

/-- What the output matrix meets: the real parts, then the negated imaginary parts. -/
def both (h : Fin 256 → EReal × EReal) (s : Fin 512) : EReal :=
  if hs : s.val < 256 then (h ⟨s.val, hs⟩).1 else -(h ⟨s.val - 256, by omega⟩).2

/-- The output at one step. -/
def out (A : Args) (h : Fin 256 → EReal × EReal) (v : Row) (o : Fin 2560) : EReal :=
  (∑ s, both h s * A.cw o s) * A.cs o + A.d o * v o

/-- The layer's five results. -/
def resY (sc inv : Row → EReal) (A : Args) (j : (⟨3, ![12, 2048, 2560]⟩ : Shape).Idx) : EReal := out A (state sc inv A ((j 1).val + 1) (j 0)) (A.x (j 0) (j 1)) (j 2)
/-- The second result: the last state's real part. -/
def resRe (sc inv : Row → EReal) (A : Args) (j : (⟨2, ![12, 256]⟩ : Shape).Idx) : EReal := (state sc inv A 2048 (j 0) (j 1)).1
/-- The third result: the last state's imaginary part. -/
def resIm (sc inv : Row → EReal) (A : Args) (j : (⟨2, ![12, 256]⟩ : Shape).Idx) : EReal := (state sc inv A 2048 (j 0) (j 1)).2
/-- The fourth result: the codes of the input. -/
def resC (inv : Row → EReal) (A : Args) (j : (⟨3, ![12, 2048, 2560]⟩ : Shape).Idx) : EReal := code inv (A.x (j 0) (j 1)) (j 2)
/-- The fifth result: the scales of the input's rows. -/
def resS (sc : Row → EReal) (A : Args) (j : (⟨2, ![12, 2048]⟩ : Shape).Idx) : EReal := sc (A.x (j 0) (j 1))

/-- Two quantisers that agree on the rows of the input give the same states. -/
theorem state_congr (sc inv sc' inv' : Row → EReal) (A : Args) (h : ∀ b t, sc (A.x b t) = sc' (A.x b t) ∧ inv (A.x b t) = inv' (A.x b t)) :
    ∀ t, state sc inv A t = state sc' inv' A t
  | 0 => rfl
  | t + 1 => by
    funext b n
    simp only [state, state_congr sc inv sc' inv' A h t, driveR, driveI, buRe, buIm, bu, code, (h _ _).1, (h _ _).2]

end Cert.Spec
-- ==== Proof.Range.lean ====
/- THE PRECONDITION READ ROW BY ROW: every row of the input is one the quantiser reads in range. -/
module

public import proofs.«01_k».proof.Defs
public import proofs.«01_k».proof.Proof.Spec
public import Idealize.ShloMosaic.Lib.Pointwise
public import Idealize.ShloMosaic.Lib.Decide
public import Idealize.ShloMosaic.PureOps.Ideal.Laws

@[expose] public section

set_option maxRecDepth 16384

noncomputable section

namespace Cert.Range

open Cert.Pre_rows_in_range
open Idealize.ShloMosaic Idealize.ShloMosaic.TcCoe Idealize.ShloMosaic.Tactic

open Facts

/-- The side conditions the precondition's own operations take. -/
instance facts : Cert.Pre_rows_in_range.Facts where
  bitsLt_bf16_f32 := by decide
  reducesTo_S12x2048x2560_S12x2048_d2 := by decide
  h_S_ := by decide
  bcast_S_S12x2048 := by decide

/-- The greatest magnitude of a row, as the precondition computes it, is the row's greatest magnitude. -/
theorem amax_at (a0 : FVec Ideal S12x2048x2560 .bf16) (b : Fin 12) (t : Fin 2048) :
    (Host.reduce FloatOps.maximumf (Host.absf (extf .f32 a0 bitsLt_bf16_f32)) (constant (F := Ideal) S_ .f32 0xFF800000#32) reducesTo_S12x2048x2560_S12x2048_d2 h_S_ : FVec Ideal S12x2048 .f32) (ix2 b t) = Cert.Spec.amax (fun k => a0 (ix3 b t k)) := by
  pointwise []
  rfl

/-- A truth value whose bit is one is true. -/
theorem ofBool_true {p : Bool} (h : BitVec.ofBool p = 1#1) : p = true := by
  cases p
  · exact absurd h (by decide)
  · rfl

/-- If the conjunction of two bits is one, both are. -/
theorem and_one {x y : BitVec 1} (h : IntOp.andi x y = 1#1) : x = 1#1 ∧ y = 1#1 := by
  revert x y
  decide

/-- If the disjunction of two bits is one, one of them is. -/
theorem or_one {x y : BitVec 1} (h : IntOp.ori x y = 1#1) : x = 1#1 ∨ y = 1#1 := by
  revert x y
  decide

/-- The precondition's test at one row, in words about numbers: the constants are left free. -/
theorem test_at (M : FVec Ideal S12x2048 .f32) (w0 w1 w2 w3 : BitVec 32) (j : S12x2048.Idx)
    (h : andi (ori (cmpf .oeq M (broadcastInDim S12x2048 ![] bcast_S_S12x2048 (constant (F := Ideal) S_ .f32 w0)))
        (cmpf .oge (mulf M (broadcastInDim S12x2048 ![] bcast_S_S12x2048 (constant (F := Ideal) S_ .f32 w1))) (broadcastInDim S12x2048 ![] bcast_S_S12x2048 (constant (F := Ideal) S_ .f32 w2))))
      (cmpf .ole M (broadcastInDim S12x2048 ![] bcast_S_S12x2048 (constant (F := Ideal) S_ .f32 w3))) j = 1#1) :
    (M j = Ideal.ofBits .f32 w0 ∨ Ideal.ofBits .f32 w2 ≤ M j * Ideal.ofBits .f32 w1) ∧ M j ≤ Ideal.ofBits .f32 w3 := by
  have e1 := and_one (x := IntOp.ori (Ideal.cmp .oeq (M j) (Ideal.ofBits .f32 w0)) (Ideal.cmp .oge (M j * Ideal.ofBits .f32 w1) (Ideal.ofBits .f32 w2))) (y := Ideal.cmp .ole (M j) (Ideal.ofBits .f32 w3)) h
  exact ⟨(or_one e1.1).imp (fun q => of_decide_eq_true (ofBool_true q)) (fun q => of_decide_eq_true (ofBool_true q)), of_decide_eq_true (ofBool_true e1.2)⟩

/-- Under the precondition every row is one the quantiser reads in range. -/
theorem range_of (a0 : FVec Ideal S12x2048x2560 .bf16) (a1 a2 a3 a4 a5 a6 a7 a8 a9 a10)
    (h : fn (F := Ideal) a0 a1 a2 a3 a4 a5 a6 a7 a8 a9 a10 = fun _ => 1#1) (b : Fin 12) (t : Fin 2048) : Cert.Spec.InRange (fun k => a0 (ix3 b t k)) := by
  have e := test_at (Host.reduce FloatOps.maximumf (Host.absf (extf .f32 a0 bitsLt_bf16_f32)) (constant (F := Ideal) S_ .f32 0xFF800000#32) reducesTo_S12x2048x2560_S12x2048_d2 h_S_)
    0x00000000#32 0x3B124925#32 0x00800000#32 0x7F7F0000#32 (ix2 b t) (congrFun h (ix2 b t))
  rw [amax_at, Ideal.ofBits_zero_f32] at e
  exact e

end Cert.Range
-- ==== Proof.KernelIdeal.Canon.lean ====
/- ONE RUN OF THE BODY IN COMMON TERMS: the twelve rows of the batch are handled alike. -/
module

public import proofs.«01_k».proof.Proof.KernelIdeal.Body
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
variable (f17 : BufTy.Contents (Elt F) arg17.view.ty) (f18 : BufTy.Contents (Elt F) arg18.view.ty) (f19 : BufTy.Contents (Elt F) arg19.view.ty)

/-- The twelve rows of the batch, last first: the order in which the pieces of one run lie. -/
def rows : List (Fin 12) := [11, 10, 9, 8, 7, 6, 5, 4, 3, 2, 1, 0]

/-- A batch row's slab lies inside the tile of the input. -/
theorem slab_inb (b : Fin 12) : ∀ a, (![b.val, 0, 0] : Fin 3 → ℕ) a + S1x128x2560.size a ≤ S12x128x2560.size a := by
  revert b; decide +kernel

/-- A batch row's rows of a group's plane lie inside the second scratch. -/
theorem plane_inb (g : Fin 4) (b : Fin 12) : ∀ a, (![g.val, 129 * b.val, 0] : Fin 3 → ℕ) a + S1x128x128.size a ≤ S4x2064x128.size a := by
  revert g b; decide +kernel

/-- Where row `b`'s scales of the point go. -/
def scaleOff (i : grid0.Coords) (b : Fin 12) : Fin 2 → ℕ := ![b.val, (Scalar.indexCast (Scalar.muli (BitVec.ofNat 32 (i 0).val) 128#32)).toNat]

/-- A batch row's scales are stored at its row and at the tile's first column. -/
theorem scaleOff_eq : ∀ (i : grid0.Coords) (b : Fin 12), scaleOff i b = ![b.val, 128 * (i 0).val] := by decide +kernel

/-- They lie inside the array of scales. -/
theorem scale_inb (i : grid0.Coords) (b : Fin 12) : ∀ a, scaleOff i b a + S1x128.size a ≤ S12x2048.size a := by
  revert i b; decide +kernel

/-- Row `b` of the point's block of `x`. -/
def slab (b : Fin 12) : Vec F S1x128x2560 .bf16 := (arg1.view.readAt (Elt F) (Rect.unit (s := S12x128x2560) ![b.val, 0, 0] S1x128x2560.size (slab_inb b)).toLoadRect X1)

/-- The input matrix. -/
def bmat : Vec F S512x2560 .fp8e4m3 := arg2.view.readAt (Elt F) (Rect.unit (s := S512x2560) ![0, 0] S512x2560.size inb_S512x2560_S512x2560_0_0).toLoadRect X2

/-- What `project` stores of one row's block: the codes, the scales, and the four planes of the drive. -/
def codesOf (v : Vec F S1x128x2560 .bf16) : FVec F S1x128x2560 .fp8e4m3 := k0_pay69 (k0_pay64 v) (k0_pay67 v)
/-- The scales of one batch row's slab, laid along a row. -/
def scalesOf (v : Vec F S1x128x2560 .bf16) : FVec F S1x128 .f32 :=
  k0_pay71 (iota .tc S128x128 32 [1] iota_S128x128_d1_w32) (iota .tc S128x128 32 [0] iota_S128x128_d0_w32) (k0_pay66 v)
/-- The drives' first plane for one slab: real parts of the states 0 to 127. -/
def plane0 (v : Vec F S1x128x2560 .bf16) (w : Vec F S512x2560 .fp8e4m3) : FVec F S1x128x128 .f32 := k0_pay73 (k0_pay64 v) (k0_pay66 v) (k0_pay67 v) w
/-- The second plane: real parts of the states 128 to 255. -/
def plane1 (v : Vec F S1x128x2560 .bf16) (w : Vec F S512x2560 .fp8e4m3) : FVec F S1x128x128 .f32 := k0_pay74 (k0_pay64 v) (k0_pay66 v) (k0_pay67 v) w
/-- The third plane: imaginary parts of the states 0 to 127. -/
def plane2 (v : Vec F S1x128x2560 .bf16) (w : Vec F S512x2560 .fp8e4m3) : FVec F S1x128x128 .f32 := k0_pay76 (k0_pay70 (k0_pay66 v)) (k0_pay75 (k0_pay64 v) (k0_pay67 v) w)
/-- The fourth plane: imaginary parts of the states 128 to 255. -/
def plane3 (v : Vec F S1x128x2560 .bf16) (w : Vec F S512x2560 .fp8e4m3) : FVec F S1x128x128 .f32 := k0_pay77 (k0_pay70 (k0_pay66 v)) (k0_pay72 (k0_pay64 v) (k0_pay67 v) w)

/-- The pieces `project` writes into the drive scratch. -/
def drivePieces : List (View.Piece (Elt F) S4x2064x128 .f32) := rows.flatMap fun b =>
  [⟨Rect.unit (s := S4x2064x128) ![(3 : Fin 4).val, 129 * b.val, 0] S1x128x128.size (plane_inb 3 b), plane3 (slab arg1 X1 b) (bmat arg2 X2)⟩,
    ⟨Rect.unit (s := S4x2064x128) ![(2 : Fin 4).val, 129 * b.val, 0] S1x128x128.size (plane_inb 2 b), plane2 (slab arg1 X1 b) (bmat arg2 X2)⟩,
    ⟨Rect.unit (s := S4x2064x128) ![(1 : Fin 4).val, 129 * b.val, 0] S1x128x128.size (plane_inb 1 b), plane1 (slab arg1 X1 b) (bmat arg2 X2)⟩,
    ⟨Rect.unit (s := S4x2064x128) ![(0 : Fin 4).val, 129 * b.val, 0] S1x128x128.size (plane_inb 0 b), plane0 (slab arg1 X1 b) (bmat arg2 X2)⟩]

/-- The pieces of the codes' block. -/
def codePieces : List (View.Piece (Elt F) S12x128x2560 .fp8e4m3) := rows.map fun b =>
  ⟨Rect.unit (s := S12x128x2560) ![b.val, 0, 0] S1x128x2560.size (slab_inb b), codesOf (slab arg1 X1 b)⟩

/-- The pieces of the scales. -/
def scalePieces : List (View.Piece (Elt F) S12x2048 .f32) := rows.map fun b =>
  ⟨Rect.unit (s := S12x2048) (scaleOff i b) S1x128.size (scale_inb i b), scalesOf (slab arg1 X1 b)⟩

/-- The bands the scan starts from, read off the state scratch. -/
def initOf : Carry F := (k0_pay223 (arg19.view.readAt (Elt F) (Rect.unit (s := S4x16x128) ![0, 0, 0] S1x8x128.size inb_S4x16x128_S1x8x128_0_0_0).toLoadRect f19), k0_pay224 (arg19.view.readAt (Elt F) (Rect.unit (s := S4x16x128) ![2, 0, 0] S1x8x128.size inb_S4x16x128_S1x8x128_2_0_0).toLoadRect f19), k0_pay225 (arg19.view.readAt (Elt F) (Rect.unit (s := S4x16x128) ![1, 0, 0] S1x8x128.size inb_S4x16x128_S1x8x128_1_0_0).toLoadRect f19), k0_pay226 (arg19.view.readAt (Elt F) (Rect.unit (s := S4x16x128) ![3, 0, 0] S1x8x128.size inb_S4x16x128_S1x8x128_3_0_0).toLoadRect f19), k0_pay227 (arg19.view.readAt (Elt F) (Rect.unit (s := S4x16x128) ![0, 8, 0] S1x8x128.size inb_S4x16x128_S1x8x128_0_8_0).toLoadRect f19), k0_pay228 (arg19.view.readAt (Elt F) (Rect.unit (s := S4x16x128) ![2, 8, 0] S1x8x128.size inb_S4x16x128_S1x8x128_2_8_0).toLoadRect f19), k0_pay229 (arg19.view.readAt (Elt F) (Rect.unit (s := S4x16x128) ![1, 8, 0] S1x8x128.size inb_S4x16x128_S1x8x128_1_8_0).toLoadRect f19), k0_pay230 (arg19.view.readAt (Elt F) (Rect.unit (s := S4x16x128) ![3, 8, 0] S1x8x128.size inb_S4x16x128_S1x8x128_3_8_0).toLoadRect f19))

/-- The scan loop, run over the drive scratch `G` from the state scratch `f19`. -/
def scanned (G : BufTy.Contents (Elt F) arg18.view.ty) : Carry F × List (View.Piece (Elt F) S4x2064x128 .f32) :=
  scanAt (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (initOf arg19 f19).1 (initOf arg19 f19).2.1 (initOf arg19 f19).2.2.1 f17 G (initOf arg19 f19) (Scf.trips k0_t1_loop.lb k0_t1_loop.ub k0_t1_loop.st)

/-- The pieces of the state scratch: the bands the scan ends at. -/
def statePieces (S : Carry F) : List (View.Piece (Elt F) S4x16x128 .f32) :=
  [⟨Rect.unit (s := S4x16x128) ![3, 8, 0] S1x8x128.size inb_S4x16x128_S1x8x128_3_8_0, shapeCast S1x8x128 S.2.2.2.2.2.2.2 shapeCasts_S8x128_S1x8x128⟩,
    ⟨Rect.unit (s := S4x16x128) ![1, 8, 0] S1x8x128.size inb_S4x16x128_S1x8x128_1_8_0, shapeCast S1x8x128 S.2.2.2.2.2.2.1 shapeCasts_S8x128_S1x8x128⟩,
    ⟨Rect.unit (s := S4x16x128) ![2, 8, 0] S1x8x128.size inb_S4x16x128_S1x8x128_2_8_0, shapeCast S1x8x128 S.2.2.2.2.2.1 shapeCasts_S8x128_S1x8x128⟩,
    ⟨Rect.unit (s := S4x16x128) ![0, 8, 0] S1x8x128.size inb_S4x16x128_S1x8x128_0_8_0, shapeCast S1x8x128 S.2.2.2.2.1 shapeCasts_S8x128_S1x8x128⟩,
    ⟨Rect.unit (s := S4x16x128) ![3, 0, 0] S1x8x128.size inb_S4x16x128_S1x8x128_3_0_0, k0_pay239 S.2.2.2.1⟩,
    ⟨Rect.unit (s := S4x16x128) ![1, 0, 0] S1x8x128.size inb_S4x16x128_S1x8x128_1_0_0, k0_pay238 S.2.2.1⟩,
    ⟨Rect.unit (s := S4x16x128) ![2, 0, 0] S1x8x128.size inb_S4x16x128_S1x8x128_2_0_0, k0_pay237 S.2.1⟩,
    ⟨Rect.unit (s := S4x16x128) ![0, 0, 0] S1x8x128.size inb_S4x16x128_S1x8x128_0_0_0, k0_pay236 S.1⟩]

/-- The pieces of a final state: its two halves, read off two planes of the state scratch. -/
def finalRe (f : BufTy.Contents (Elt F) arg19.view.ty) : List (View.Piece (Elt F) S12x256 .f32) :=
  [⟨Rect.unit (s := S12x256) ![0, 128] S12x128.size inb_S12x256_S12x128_0_128, shapeCast S12x128 (arg19.view.readAt (Elt F) (Rect.unit (s := S4x16x128) ![1, 0, 0] S1x12x128.size inb_S4x16x128_S1x12x128_1_0_0).toLoadRect f) shapeCasts_S1x12x128_S12x128⟩,
    ⟨Rect.unit (s := S12x256) ![0, 0] S12x128.size inb_S12x256_S12x128_0_0, shapeCast S12x128 (arg19.view.readAt (Elt F) (Rect.unit (s := S4x16x128) ![0, 0, 0] S1x12x128.size inb_S4x16x128_S1x12x128_0_0_0).toLoadRect f) shapeCasts_S1x12x128_S12x128⟩]
/-- The two stores of the last state's imaginary part. -/
def finalIm (f : BufTy.Contents (Elt F) arg19.view.ty) : List (View.Piece (Elt F) S12x256 .f32) :=
  [⟨Rect.unit (s := S12x256) ![0, 128] S12x128.size inb_S12x256_S12x128_0_128, shapeCast S12x128 (arg19.view.readAt (Elt F) (Rect.unit (s := S4x16x128) ![3, 0, 0] S1x12x128.size inb_S4x16x128_S1x12x128_3_0_0).toLoadRect f) shapeCasts_S1x12x128_S12x128⟩,
    ⟨Rect.unit (s := S12x256) ![0, 0] S12x128.size inb_S12x256_S12x128_0_0, shapeCast S12x128 (arg19.view.readAt (Elt F) (Rect.unit (s := S4x16x128) ![2, 0, 0] S1x12x128.size inb_S4x16x128_S1x12x128_2_0_0).toLoadRect f) shapeCasts_S1x12x128_S12x128⟩]

/-- The pieces of the output's block, over the drive scratch the scan leaves. -/
def outPieces (G : BufTy.Contents (Elt F) arg18.view.ty) : List (View.Piece (Elt F) S12x128x2560 .bf16) :=
  pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X4 X5 X9 G (Scf.trips k0_t2_loop.lb k0_t2_loop.ub k0_t2_loop.st)

/-- What one run of the body leaves, from the parameter scratch `f17`, the drive scratch `f18` before `project`, the state scratch `f19`, whose
    contents under the stored bands are `J`. -/
def bodyVal (J : BufTy.Contents (Elt F) arg19.view.ty) : List (View.Piece (Elt F) S12x128x2560 .bf16) × List (View.Piece (Elt F) S12x256 .f32) × List (View.Piece (Elt F) S12x256 .f32) × List (View.Piece (Elt F) S12x128x2560 .fp8e4m3) × List (View.Piece (Elt F) S12x2048 .f32) × BufTy.Contents (Elt F) arg17.view.ty × BufTy.Contents (Elt F) arg18.view.ty × BufTy.Contents (Elt F) arg19.view.ty :=
  let G := arg18.view.writes (Elt F) f18 (drivePieces arg1 arg2 X1 X2)
  let S := scanned c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f17 f19 G
  let G' := arg18.view.writes (Elt F) G S.2
  let T := arg19.view.writes (Elt F) J (statePieces S.1)
  (outPieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X4 X5 X9 G', finalRe arg19 T, finalIm arg19 T, codePieces arg1 X1, scalePieces i arg1 X1, f17, G', T)

set_option maxHeartbeats 4000000 in
/-- A LATER POINT is that. -/
theorem runLater_eq (hc) :
    (runLater (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X5 X6 X7 X8 X9 X10 X11 f17 f18 f19 hc).1 = bodyVal c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X4 X5 X9 f17 f18 f19 arg19.view.junk := by
  unfold runLater
  simp only [View.writes_append]
  rfl

end Cert.KernelIdeal.Hand
-- ==== Proof.KernelIdeal.Quant.lean ====
/- WHAT ONE ROW OF THE BATCH GIVES AT A POINT: codes, scales and the drive, at an index. -/
module

public import proofs.«01_k».proof.Proof.KernelIdeal.Canon
public import proofs.«01_k».proof.Proof.Spec
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Row `t` of a slab. -/
def rowOf (v : S1x128x2560.Idx → EReal) (t : Fin 128) : Cert.Spec.Row := fun k => v (ix3 0 t k)

/-- The scales the kernel computes of a slab are its rows' scales. -/
theorem pay66_apply (v : Vec Ideal S1x128x2560 .bf16) (j0 : Fin 128) (j1 : Fin 1) : k0_pay66 (F := Ideal) v (ix2 j0 j1) = Cert.Spec.scaleK (rowOf v j0) := by
  pointwise [k0_pay66, k0_pay65, k0_pay64]
  rw [Cert.Spec.ninf_bf16]
  rfl

/-- The codes the kernel computes of a slab are its rows' codes. -/
theorem codesOf_apply (v : Vec Ideal S1x128x2560 .bf16) (j0 : Fin 1) (j1 : Fin 128) (j2 : Fin 2560) :
    codesOf (F := Ideal) v (ix3 j0 j1 j2) = Cert.Spec.code Cert.Spec.invK (rowOf v j1) j2 := by
  pointwise [codesOf, k0_pay69, k0_pay68, k0_pay67, k0_pay65, k0_pay64]
  rw [Cert.Spec.ninf_bf16]
  rfl

/-- The inverse scales the kernel computes of a slab are its rows' inverse scales. -/
theorem pay67_apply (v : Vec Ideal S1x128x2560 .bf16) (j0 : Fin 128) (j1 : Fin 1) : k0_pay67 (F := Ideal) v (ix2 j0 j1) = Cert.Spec.invK (rowOf v j0) := by
  pointwise [k0_pay67, k0_pay65, k0_pay64]
  rw [Cert.Spec.ninf_bf16]
  rfl

/-- The diagonal of a scale broadcast along its row, summed over rows, is the scale. -/
theorem diag_sum (f : Fin 128 → EReal) (j : Fin 128) :
    (∑ x : Fin 128, Scalar.select (IntOp.cmpi CmpIPredicate.eq (BitVec.ofNat 32 j.val) (BitVec.ofNat 32 x.val)) (f x) (0 : EReal)) = f j := by
  have hc : ∀ x j : Fin 128, IntOp.cmpi CmpIPredicate.eq (BitVec.ofNat 32 j.val) (BitVec.ofNat 32 x.val) = if x = j then 1#1 else 0#1 := by decide +kernel
  rw [Finset.sum_eq_single j]
  · rw [hc, if_pos rfl]; rfl
  · intro x _ hx; rw [hc, if_neg hx]; rfl
  · intro h; exact absurd (Finset.mem_univ _) h

/-- Laid along a row, the scales are still the rows' scales. -/
theorem scalesOf_apply (v : Vec Ideal S1x128x2560 .bf16) (j0 : Fin 1) (j1 : Fin 128) :
    scalesOf (F := Ideal) v (ix2 j0 j1) = Cert.Spec.scaleK (rowOf v j1) := by
  have h : scalesOf (F := Ideal) v (ix2 j0 j1) = ∑ x : Fin 128, Scalar.select (IntOp.cmpi CmpIPredicate.eq (BitVec.ofNat 32 j1.val) (BitVec.ofNat 32 x.val)) (k0_pay66 (F := Ideal) v (ix2 x 0)) (0 : EReal) := by
    pointwise [scalesOf, k0_pay71, k0_pay70]
  rw [h, diag_sum (fun x => k0_pay66 (F := Ideal) v (ix2 x 0)) j1, pay66_apply]

/-- One entry of the drive: the codes' product with a row of the input matrix, scaled. -/
def driveAt (v : S1x128x2560.Idx → EReal) (w : S512x2560.Idx → EReal) (t : Fin 128) (s : Fin 512) : EReal :=
  (∑ k, Cert.Spec.code Cert.Spec.invK (rowOf v t) k * w (ix2 s k)) * Cert.Spec.scaleK (rowOf v t)

/-- The first plane holds the scaled projection on the states 0 to 127, real half. -/
theorem plane0_apply (v : Vec Ideal S1x128x2560 .bf16) (w : Vec Ideal S512x2560 .fp8e4m3) (j0 : Fin 1) (j1 j2 : Fin 128) :
    plane0 (F := Ideal) v w (ix3 j0 j1 j2) = driveAt v w j1 ⟨j2.val, by omega⟩ := by
  pointwise [plane0, k0_pay73, k0_pay72, k0_pay70, k0_pay68, k0_pay64]
  simp only [pay66_apply, pay67_apply]
  rfl
/-- The second plane holds it on the states 128 to 255, real half. -/
theorem plane1_apply (v : Vec Ideal S1x128x2560 .bf16) (w : Vec Ideal S512x2560 .fp8e4m3) (j0 : Fin 1) (j1 j2 : Fin 128) :
    plane1 (F := Ideal) v w (ix3 j0 j1 j2) = driveAt v w j1 ⟨128 + j2.val, by omega⟩ := by
  pointwise [plane1, k0_pay74, k0_pay72, k0_pay70, k0_pay68, k0_pay64]
  simp only [pay66_apply, pay67_apply]
  rfl
/-- The third plane holds it on the states 0 to 127, imaginary half. -/
theorem plane2_apply (v : Vec Ideal S1x128x2560 .bf16) (w : Vec Ideal S512x2560 .fp8e4m3) (j0 : Fin 1) (j1 j2 : Fin 128) :
    plane2 (F := Ideal) v w (ix3 j0 j1 j2) = driveAt v w j1 ⟨256 + j2.val, by omega⟩ := by
  pointwise [plane2, k0_pay76, k0_pay75, k0_pay72, k0_pay70, k0_pay68, k0_pay64]
  simp only [pay66_apply, pay67_apply]
  rfl
/-- The fourth plane holds it on the states 128 to 255, imaginary half. -/
theorem plane3_apply (v : Vec Ideal S1x128x2560 .bf16) (w : Vec Ideal S512x2560 .fp8e4m3) (j0 : Fin 1) (j1 j2 : Fin 128) :
    plane3 (F := Ideal) v w (ix3 j0 j1 j2) = driveAt v w j1 ⟨384 + j2.val, by omega⟩ := by
  pointwise [plane3, k0_pay77, k0_pay72, k0_pay70, k0_pay68, k0_pay64]
  simp only [pay66_apply, pay67_apply]
  rfl

end Cert.KernelIdeal.Hand
-- ==== Proof.KernelIdeal.ScanValue.lean ====
/- WHAT THE SCAN LOOP COMPUTES, over the extended reals. The drive scratch holds sixteen rows of 129 slots in each of its four planes; a trip
   takes slot `k` of every row of every plane as the drive, advances the sixteen states of 256 lanes by it, and leaves the advanced states in
   that slot, the imaginary planes negated. -/
module

public import proofs.«01_k».proof.Proof.KernelIdeal.Scan
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The sixteen states of 256 lanes, each a real and an imaginary part. -/
abbrev States : Type := Fin 16 → Fin 256 → EReal × EReal

/-- Slot `k` of row `b` of plane `g`, lane `l`, as an index of the drive scratch. -/
def slot (g : Fin 4) (b : ℕ) (k : ℕ) (l : Fin 128) : S4x2064x128.Idx := ix3 g (Fin.ofNat 2064 (129 * b + k)) l

/-- The real drive of state `s` of row `b` in slot `k`. -/
def driveRe (U : S4x2064x128.Idx → EReal) (k : ℕ) (b : Fin 16) (s : Fin 256) : EReal := U (slot ⟨s.val / 128, by omega⟩ b.val k ⟨s.val % 128, by omega⟩)
/-- The imaginary drive of state `s` of row `b` in slot `k`. -/
def driveIm (U : S4x2064x128.Idx → EReal) (k : ℕ) (b : Fin 16) (s : Fin 256) : EReal := U (slot ⟨2 + s.val / 128, by omega⟩ b.val k ⟨s.val % 128, by omega⟩)

/-- One step of the recurrence, the parameters of row `b` read from the parameter scratch's row `b mod 8`. -/
def stepRe (P : S6x8x256.Idx → EReal) (br bi : EReal) (h : EReal × EReal) (b : Fin 16) (s : Fin 256) : EReal :=
  (P (ix3 2 ⟨b.val % 8, by omega⟩ s) * br - P (ix3 3 ⟨b.val % 8, by omega⟩ s) * bi) + (P (ix3 0 ⟨b.val % 8, by omega⟩ s) * h.1 - P (ix3 1 ⟨b.val % 8, by omega⟩ s) * h.2)
/-- The imaginary part of the same step. -/
def stepIm (P : S6x8x256.Idx → EReal) (br bi : EReal) (h : EReal × EReal) (b : Fin 16) (s : Fin 256) : EReal :=
  (P (ix3 4 ⟨b.val % 8, by omega⟩ s) * bi + P (ix3 5 ⟨b.val % 8, by omega⟩ s) * br) + (P (ix3 0 ⟨b.val % 8, by omega⟩ s) * h.2 + P (ix3 1 ⟨b.val % 8, by omega⟩ s) * h.1)

/-- One step of all states, driven by slot `k`. -/
def stepAll (P : S6x8x256.Idx → EReal) (U : S4x2064x128.Idx → EReal) (k : ℕ) (H : States) : States :=
  fun b s => (stepRe P (driveRe U k b s) (driveIm U k b s) (H b s) b s, stepIm P (driveRe U k b s) (driveIm U k b s) (H b s) b s)

/-- Half `g` of band `q` of a plane of states: eight rows by 128 lanes. -/
def bandOf (H : Fin 16 → Fin 256 → EReal) (q : Fin 2) (g : Fin 2) : S8x128.Idx → EReal :=
  fun x => H ⟨8 * q.val + (x 0).val, by have := (x 0).isLt; have : (x 0).val < 8 := this; omega⟩ ⟨128 * g.val + (x 1).val, by have := (x 1).isLt; have : (x 1).val < 128 := this; omega⟩

/-- The states as the loop carries them. -/
def carryOf (H : States) : Carry Ideal :=
  (bandOf (fun b s => (H b s).1) 0 0, bandOf (fun b s => (H b s).2) 0 0, bandOf (fun b s => (H b s).1) 0 1, bandOf (fun b s => (H b s).2) 0 1,
    bandOf (fun b s => (H b s).1) 1 0, bandOf (fun b s => (H b s).2) 1 0, bandOf (fun b s => (H b s).1) 1 1, bandOf (fun b s => (H b s).2) 1 1)

/-- A trip's counter, added to a band's first row, is the band's row at that trip. -/
theorem scf_iv_k0_t1 (k : Fin k0_t1_loop.trips) (b : ℕ) (hb : b ≤ 1032) :
    (Scalar.indexCast (Scalar.addi (BitVec.ofNat 32 b) (Scf.iv (0#32 : BitVec 32) 1#32 k.val))).toNat = b + k.val := by
  have hk : k.val < 128 := Nat.lt_of_lt_of_le k.isLt k0_t1_abs.2.1
  simp only [Scalar.indexCast, Scalar.addi, Scf.iv, IntOp.addi, IntOp.muli]
  simp
  omega

/-- The rows a trip reads and writes of the first plane. -/
theorem off13_eq (k : Fin k0_t1_loop.trips) (b : ℕ) (hb : b ≤ 1032) : k0_off13 k (BitVec.ofNat 32 b) = ![0, b + k.val, 0] := by
  unfold k0_off13; simp only [scf_iv_k0_t1 k b hb]
/-- The rows a trip reads and writes of the third plane. -/
theorem off14_eq (k : Fin k0_t1_loop.trips) (b : ℕ) (hb : b ≤ 1032) : k0_off14 k (BitVec.ofNat 32 b) = ![2, b + k.val, 0] := by
  unfold k0_off14; simp only [scf_iv_k0_t1 k b hb]
/-- The rows a trip reads and writes of the second plane. -/
theorem off15_eq (k : Fin k0_t1_loop.trips) (b : ℕ) (hb : b ≤ 1032) : k0_off15 k (BitVec.ofNat 32 b) = ![1, b + k.val, 0] := by
  unfold k0_off15; simp only [scf_iv_k0_t1 k b hb]
/-- The rows a trip reads and writes of the fourth plane. -/
theorem off16_eq (k : Fin k0_t1_loop.trips) (b : ℕ) (hb : b ≤ 1032) : k0_off16 k (BitVec.ofNat 32 b) = ![3, b + k.val, 0] := by
  unfold k0_off16; simp only [scf_iv_k0_t1 k b hb]

/-- A strided band read at an index: slot `k` of row `8 q + r` of plane `g`. -/
theorem readAt_band (v : View sig .tc .vmem S4x2064x128 .f32) (f : BufTy.Contents (Elt Ideal) v.ty) (off : Fin 3 → ℕ) (g : Fin 4) (q : Fin 2) (k : ℕ) (hk : k < 128)
    (hoff : off = ![g.val, 1032 * q.val + k, 0]) (inb : ∀ a, S1x8x128.size a = 0 ∨ off a + (![1, 129, 1] : Fin 3 → Nat) a * (S1x8x128.size a - 1) < S4x2064x128.size a) :
    v.readAt (Elt Ideal) (⟨off, S1x8x128.size, ![1, 129, 1], inb⟩ : LoadRect S4x2064x128) f
      = fun x : S1x8x128.Idx => v.read (Elt Ideal) f (slot g (8 * q.val + (x 1).val) k (x 2)) := by
  subst hoff
  funext x
  show v.read (Elt Ideal) f _ = _
  congr 1
  have h1 : (x 1).val < 8 := (x 1).isLt
  have h0 : (x 0).val < 1 := (x 0).isLt
  funext a
  apply Fin.ext
  unfold slot
  fin_cases a
  · show g.val + 1 * (x 0).val = g.val; omega
  · show 1032 * q.val + k + 129 * (x 1).val = (129 * (8 * q.val + (x 1).val) + k) % 2064
    have := q.isLt; omega
  · show 0 + 1 * (x 2).val = (x 2).val; omega

variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (v990 v992 v994 : FVec Ideal S8x128 .f32) (X_arg17 : BufTy.Contents (Elt Ideal) arg17.view.ty)

set_option maxHeartbeats 2000000 in
/-- ONE TRIP'S YIELD: the states one step on. -/
theorem scanTrip_carry (k : Fin k0_t1_loop.trips) (f : BufTy.Contents (Elt Ideal) arg18.view.ty) (H : States) :
    (scanTrip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 k f (carryOf H).1 (carryOf H).2.1 (carryOf H).2.2.1 (carryOf H).2.2.2.1 (carryOf H).2.2.2.2.1 (carryOf H).2.2.2.2.2.1 (carryOf H).2.2.2.2.2.2.1 (carryOf H).2.2.2.2.2.2.2).1.1
      = carryOf (stepAll (arg17.view.read (Elt Ideal) X_arg17) (arg18.view.read (Elt Ideal) f) k.val H) := by
  have hk : k.val < 128 := Nat.lt_of_lt_of_le k.isLt k0_t1_abs.2.1
  unfold scanTrip
  sl_unfold_run_names
  simp only [readAt_band _ f _ 0 0 k.val hk (off13_eq k 0 (by omega)), readAt_band _ f _ 2 0 k.val hk (off14_eq k 0 (by omega)),
    readAt_band _ f _ 1 0 k.val hk (off15_eq k 0 (by omega)), readAt_band _ f _ 3 0 k.val hk (off16_eq k 0 (by omega)),
    readAt_band _ f _ 0 1 k.val hk (off13_eq k 1032 (by omega)), readAt_band _ f _ 2 1 k.val hk (off14_eq k 1032 (by omega)),
    readAt_band _ f _ 1 1 k.val hk (off15_eq k 1032 (by omega)), readAt_band _ f _ 3 1 k.val hk (off16_eq k 1032 (by omega)), View.readAt_eq_ld]
  unfold carryOf
  refine Prod.ext ?_ (Prod.ext ?_ (Prod.ext ?_ (Prod.ext ?_ (Prod.ext ?_ (Prod.ext ?_ (Prod.ext ?_ ?_))))))
  all_goals
    funext x
    dsimp only
    idx_vars x
    unfold_payloads
    pointwise [bandOf, stepAll, stepRe, stepIm, driveRe, driveIm]
    have e0 : x0.val % 8 = x0.val := Nat.mod_eq_of_lt x0.isLt
    have e0' : (8 + x0.val) % 8 = x0.val := by omega
    have e1 : x1.val / 128 = 0 := by omega
    have e1' : (128 + x1.val) / 128 = 1 := by omega
    have e2 : x1.val % 128 = x1.val := Nat.mod_eq_of_lt x1.isLt
    have e2' : (128 + x1.val) % 128 = x1.val := by omega
    simp only [e0, e0', e1, e1', e2, e2']
    rfl

/-- What a trip leaves in slot `k` of a plane: the new real states in planes 0 and 1, the new imaginary states negated in planes 2 and 3. -/
def bandsNew (H : States) (y : S4x2064x128.Idx) : EReal :=
  if (y 0).val < 2 then (H (Fin.ofNat 16 ((y 1).val / 129)) (Fin.ofNat 256 (128 * (y 0).val + (y 2).val))).1
  else -(H (Fin.ofNat 16 ((y 1).val / 129)) (Fin.ofNat 256 (128 * ((y 0).val - 2) + (y 2).val))).2

/-- What a trip stores in a real plane, at a band's row: the new state's real part. -/
theorem bandsNew_re (H : States) (g : Fin 4) (q : Fin 2) (r : Fin 8) (k : ℕ) (hk : k < 128) (l : Fin 128) (hg : g.val < 2) :
    bandsNew H (slot g (8 * q.val + r.val) k l) = bandOf (fun b s => (H b s).1) q ⟨g.val, hg⟩ (ix2 r l) := by
  unfold bandsNew slot bandOf
  have h1 : (129 * (8 * q.val + r.val) + k) % 2064 = 129 * (8 * q.val + r.val) + k := Nat.mod_eq_of_lt (by have := q.isLt; have := r.isLt; omega)
  have h2 : (129 * (8 * q.val + r.val) + k) / 129 = 8 * q.val + r.val := by omega
  simp only [ix3, ix2, Matrix.cons_val_zero, Matrix.cons_val_one, Matrix.cons_val, Fin.val_ofNat, h1, h2]
  rw [if_pos hg]
  congr 2
  · apply Fin.ext; show (8 * q.val + r.val) % 16 = _; have := q.isLt; have := r.isLt; exact Nat.mod_eq_of_lt (by omega)
  · apply Fin.ext; show (128 * g.val + l.val) % 256 = _; have := l.isLt; exact Nat.mod_eq_of_lt (by omega)

/-- What a trip stores in an imaginary plane, at a band's row: minus the new state's imaginary part. -/
theorem bandsNew_im (H : States) (g : Fin 4) (q : Fin 2) (r : Fin 8) (k : ℕ) (hk : k < 128) (l : Fin 128) (hg : 2 ≤ g.val) :
    bandsNew H (slot g (8 * q.val + r.val) k l) = -bandOf (fun b s => (H b s).2) q ⟨g.val - 2, by omega⟩ (ix2 r l) := by
  unfold bandsNew slot bandOf
  have h1 : (129 * (8 * q.val + r.val) + k) % 2064 = 129 * (8 * q.val + r.val) + k := Nat.mod_eq_of_lt (by have := q.isLt; have := r.isLt; omega)
  have h2 : (129 * (8 * q.val + r.val) + k) / 129 = 8 * q.val + r.val := by omega
  simp only [ix3, ix2, Matrix.cons_val_zero, Matrix.cons_val_one, Matrix.cons_val, Fin.val_ofNat, h1, h2]
  rw [if_neg (by omega)]
  congr 3
  · apply Fin.ext; show (8 * q.val + r.val) % 16 = _; have := q.isLt; have := r.isLt; exact Nat.mod_eq_of_lt (by omega)
  · apply Fin.ext; show (128 * (g.val - 2) + l.val) % 256 = _; have := l.isLt; exact Nat.mod_eq_of_lt (by omega)

/-- Where a strided band's store puts an element. -/
theorem emb_band (off : Fin 3 → ℕ) (g : Fin 4) (q : Fin 2) (k : ℕ) (hk : k < 128)
    (hoff : off = ![g.val, 1032 * q.val + k, 0]) (inb : ∀ a, S1x8x128.size a = 0 ∨ off a + (![1, 129, 1] : Fin 3 → Nat) a * (S1x8x128.size a - 1) < S4x2064x128.size a)
    (hp : ∀ a, 0 < (![1, 129, 1] : Fin 3 → Nat) a) (x : S1x8x128.Idx) :
    (⟨⟨off, S1x8x128.size, ![1, 129, 1], inb⟩, hp⟩ : Rect S4x2064x128).emb x = slot g (8 * q.val + (x 1).val) k (x 2) := by
  subst hoff
  have h1 : (x 1).val < 8 := (x 1).isLt
  have h0 : (x 0).val < 1 := (x 0).isLt
  funext a
  apply Fin.ext
  unfold slot
  fin_cases a
  · show g.val + 1 * (x 0).val = g.val; omega
  · show 1032 * q.val + k + 129 * (x 1).val = (129 * (8 * q.val + (x 1).val) + k) % 2064
    have := q.isLt; omega
  · show 0 + 1 * (x 2).val = (x 2).val; omega

/-- An element of slot `k` lies in its band's store. -/
theorem mem_band (off : Fin 3 → ℕ) (g : Fin 4) (q : Fin 2) (k : ℕ) (hk : k < 128)
    (hoff : off = ![g.val, 1032 * q.val + k, 0]) (inb : ∀ a, S1x8x128.size a = 0 ∨ off a + (![1, 129, 1] : Fin 3 → Nat) a * (S1x8x128.size a - 1) < S4x2064x128.size a)
    (hp : ∀ a, 0 < (![1, 129, 1] : Fin 3 → Nat) a) (y : S4x2064x128.Idx) (h0 : (y 0).val = g.val) (h1 : (y 1).val / 1032 = q.val) (h2 : (y 1).val % 129 = k) :
    y ∈ (⟨⟨off, S1x8x128.size, ![1, 129, 1], inb⟩, hp⟩ : Rect S4x2064x128).set := by
  have hy : (y 1).val < 2064 := (y 1).isLt
  have e : (⟨⟨off, S1x8x128.size, ![1, 129, 1], inb⟩, hp⟩ : Rect S4x2064x128).emb (ix3 (0 : Fin 1) (⟨(y 1).val / 129 % 8, by omega⟩ : Fin 8) (y 2 : Fin 128)) = y := by
    rw [emb_band off g q k hk hoff inb hp]
    funext a
    apply Fin.ext
    unfold slot
    fin_cases a
    · exact h0.symm
    · show (129 * (8 * q.val + (y 1).val / 129 % 8) + k) % 2064 = (y 1).val
      have := q.isLt; omega
    · rfl
  exact e ▸ (LoadRect.idx_mem _ _)

/-- An element of another slot lies in no band's store. -/
theorem not_mem_band (off : Fin 3 → ℕ) (g : Fin 4) (q : Fin 2) (k : ℕ) (hk : k < 128)
    (hoff : off = ![g.val, 1032 * q.val + k, 0]) (inb : ∀ a, S1x8x128.size a = 0 ∨ off a + (![1, 129, 1] : Fin 3 → Nat) a * (S1x8x128.size a - 1) < S4x2064x128.size a)
    (hp : ∀ a, 0 < (![1, 129, 1] : Fin 3 → Nat) a) (y : S4x2064x128.Idx) (h2 : (y 1).val % 129 ≠ k) :
    y ∉ (⟨⟨off, S1x8x128.size, ![1, 129, 1], inb⟩, hp⟩ : Rect S4x2064x128).set := by
  intro hy
  obtain ⟨x, hx⟩ := LoadRect.exists_idx_of_mem _ hy
  replace hx : (⟨⟨off, S1x8x128.size, ![1, 129, 1], inb⟩, hp⟩ : Rect S4x2064x128).emb x = y := hx
  rw [emb_band off g q k hk hoff inb hp] at hx
  have h1 : (x 1).val < 8 := (x 1).isLt
  have : (y 1).val = (129 * (8 * q.val + (x 1).val) + k) % 2064 := by rw [← hx]; rfl
  have := q.isLt
  omega

end Cert.KernelIdeal.Hand
-- ==== Proof.KernelIdeal.ScanLoop.lean ====
/- THE SCAN LOOP AS A WHOLE: the pieces one trip stores, what the drive scratch holds after them, and both after any number of trips. -/
module

public import proofs.«01_k».proof.Proof.KernelIdeal.ScanValue
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (v990 v992 v994 : FVec Ideal S8x128 .f32) (X_arg17 : BufTy.Contents (Elt Ideal) arg17.view.ty)

/-- A band of a table of the sixteen rows, as a block of the drive scratch. -/
def bandVal (h : Fin 16 → Fin 256 → EReal) (q g : Fin 2) : S1x8x128.Idx → Elt Ideal .f32 := fun x => bandOf h q g (ix2 (x 1) (x 2))

/-- The eight pieces a trip stores when it ends at the states `H'`, last first. -/
def tripPieces (k : Fin k0_t1_loop.trips) (H' : States) : List (View.Piece (Elt Ideal) S4x2064x128 .f32) :=
  [⟨⟨⟨k0_off16 k 1032#32, S1x8x128.size, ![1, 129, 1], k0_off16_inb k 1⟩, spos_1_129_1⟩, bandVal (fun b s => -(H' b s).2) 1 1⟩,
    ⟨⟨⟨k0_off15 k 1032#32, S1x8x128.size, ![1, 129, 1], k0_off15_inb k 1⟩, spos_1_129_1⟩, bandVal (fun b s => (H' b s).1) 1 1⟩,
    ⟨⟨⟨k0_off14 k 1032#32, S1x8x128.size, ![1, 129, 1], k0_off14_inb k 1⟩, spos_1_129_1⟩, bandVal (fun b s => -(H' b s).2) 1 0⟩,
    ⟨⟨⟨k0_off13 k 1032#32, S1x8x128.size, ![1, 129, 1], k0_off13_inb k 1⟩, spos_1_129_1⟩, bandVal (fun b s => (H' b s).1) 1 0⟩,
    ⟨⟨⟨k0_off16 k 0#32, S1x8x128.size, ![1, 129, 1], k0_off16_inb k 0⟩, spos_1_129_1⟩, bandVal (fun b s => -(H' b s).2) 0 1⟩,
    ⟨⟨⟨k0_off15 k 0#32, S1x8x128.size, ![1, 129, 1], k0_off15_inb k 0⟩, spos_1_129_1⟩, bandVal (fun b s => (H' b s).1) 0 1⟩,
    ⟨⟨⟨k0_off14 k 0#32, S1x8x128.size, ![1, 129, 1], k0_off14_inb k 0⟩, spos_1_129_1⟩, bandVal (fun b s => -(H' b s).2) 0 0⟩,
    ⟨⟨⟨k0_off13 k 0#32, S1x8x128.size, ![1, 129, 1], k0_off13_inb k 0⟩, spos_1_129_1⟩, bandVal (fun b s => (H' b s).1) 0 0⟩]

set_option maxHeartbeats 2000000 in
/-- ONE TRIP'S STORES are those pieces, at the states one step on. -/
theorem scanTrip_pieces (k : Fin k0_t1_loop.trips) (f : BufTy.Contents (Elt Ideal) arg18.view.ty) (H : States) :
    (scanTrip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 k f (carryOf H).1 (carryOf H).2.1 (carryOf H).2.2.1 (carryOf H).2.2.2.1 (carryOf H).2.2.2.2.1 (carryOf H).2.2.2.2.2.1 (carryOf H).2.2.2.2.2.2.1 (carryOf H).2.2.2.2.2.2.2).1.2 = tripPieces k (stepAll (arg17.view.read (Elt Ideal) X_arg17) (arg18.view.read (Elt Ideal) f) k.val H) := by
  have hk : k.val < 128 := Nat.lt_of_lt_of_le k.isLt k0_t1_abs.2.1
  unfold scanTrip tripPieces
  sl_unfold_run_names
  simp only [readAt_band _ f _ 3 1 k.val hk (off16_eq k 1032 (by omega)), readAt_band _ f _ 1 1 k.val hk (off15_eq k 1032 (by omega)), readAt_band _ f _ 2 1 k.val hk (off14_eq k 1032 (by omega)), readAt_band _ f _ 0 1 k.val hk (off13_eq k 1032 (by omega)), readAt_band _ f _ 3 0 k.val hk (off16_eq k 0 (by omega)), readAt_band _ f _ 1 0 k.val hk (off15_eq k 0 (by omega)), readAt_band _ f _ 2 0 k.val hk (off14_eq k 0 (by omega)), readAt_band _ f _ 0 0 k.val hk (off13_eq k 0 (by omega)), View.readAt_eq_ld]
  unfold carryOf
  simp only [List.cons.injEq, Sigma.mk.injEq, heq_eq_eq, true_and, and_true]
  refine ⟨funext ?_, funext ?_, funext ?_, funext ?_, funext ?_, funext ?_, funext ?_, funext ?_⟩
  all_goals
    intro x
    change S1x8x128.Idx at x
    idx_vars x
    unfold_payloads
    pointwise [bandVal, bandOf, stepAll, stepRe, stepIm, driveRe, driveIm]
    have e0 : x1.val % 8 = x1.val := Nat.mod_eq_of_lt x1.isLt
    have e0' : (8 + x1.val) % 8 = x1.val := by omega
    have e1 : x2.val / 128 = 0 := by omega
    have e1' : (128 + x2.val) / 128 = 1 := by omega
    have e2 : x2.val % 128 = x2.val := Nat.mod_eq_of_lt x2.isLt
    have e2' : (128 + x2.val) % 128 = x2.val := by omega
    simp only [e0, e0', e1, e1', e2, e2', zero_sub]
    rfl

/-- ONE TRIP'S STORES: slot `k` of every row at the new states, everything else as it was. -/
theorem tripPieces_read (v : View sig .tc .vmem S4x2064x128 .f32) (k : Fin k0_t1_loop.trips) (f : BufTy.Contents (Elt Ideal) v.ty) (H' : States) (y : S4x2064x128.Idx) :
    v.read (Elt Ideal) (v.writes (Elt Ideal) f (tripPieces k H')) y = if (y 1).val % 129 = k.val then bandsNew H' y else v.read (Elt Ideal) f y := by
  have hk : k.val < 128 := Nat.lt_of_lt_of_le k.isLt k0_t1_abs.2.1
  have hy1 : (y 1).val < 2064 := (y 1).isLt
  have hy0 : (y 0).val < 4 := (y 0).isLt
  unfold tripPieces
  split
  · rename_i hyk
    refine View.read_writes_apply_of_pieces _ _ _ _ ?_ y ?_
    · simp only [List.forall_mem_cons, List.forall_mem_nil, and_true]
      refine ⟨fun x => ?_, fun x => ?_, fun x => ?_, fun x => ?_, fun x => ?_, fun x => ?_, fun x => ?_, fun x => ?_, fun p hp => absurd hp List.not_mem_nil⟩
      · change S1x8x128.Idx at x
        rw [emb_band _ 3 1 k.val hk (off16_eq k 1032 (by omega)) (k0_off16_inb k 1) spos_1_129_1 x]
        exact (bandsNew_im H' 3 1 (x 1) k.val hk (x 2) (by decide)).symm
      · change S1x8x128.Idx at x
        rw [emb_band _ 1 1 k.val hk (off15_eq k 1032 (by omega)) (k0_off15_inb k 1) spos_1_129_1 x]
        exact (bandsNew_re H' 1 1 (x 1) k.val hk (x 2) (by decide)).symm
      · change S1x8x128.Idx at x
        rw [emb_band _ 2 1 k.val hk (off14_eq k 1032 (by omega)) (k0_off14_inb k 1) spos_1_129_1 x]
        exact (bandsNew_im H' 2 1 (x 1) k.val hk (x 2) (by decide)).symm
      · change S1x8x128.Idx at x
        rw [emb_band _ 0 1 k.val hk (off13_eq k 1032 (by omega)) (k0_off13_inb k 1) spos_1_129_1 x]
        exact (bandsNew_re H' 0 1 (x 1) k.val hk (x 2) (by decide)).symm
      · change S1x8x128.Idx at x
        rw [emb_band _ 3 0 k.val hk (off16_eq k 0 (by omega)) (k0_off16_inb k 0) spos_1_129_1 x]
        exact (bandsNew_im H' 3 0 (x 1) k.val hk (x 2) (by decide)).symm
      · change S1x8x128.Idx at x
        rw [emb_band _ 1 0 k.val hk (off15_eq k 0 (by omega)) (k0_off15_inb k 0) spos_1_129_1 x]
        exact (bandsNew_re H' 1 0 (x 1) k.val hk (x 2) (by decide)).symm
      · change S1x8x128.Idx at x
        rw [emb_band _ 2 0 k.val hk (off14_eq k 0 (by omega)) (k0_off14_inb k 0) spos_1_129_1 x]
        exact (bandsNew_im H' 2 0 (x 1) k.val hk (x 2) (by decide)).symm
      · change S1x8x128.Idx at x
        rw [emb_band _ 0 0 k.val hk (off13_eq k 0 (by omega)) (k0_off13_inb k 0) spos_1_129_1 x]
        exact (bandsNew_re H' 0 0 (x 1) k.val hk (x 2) (by decide)).symm
    · simp only [List.exists_mem_cons_iff, List.not_mem_nil, false_and, exists_false, or_false]
      have hq : (y 1).val / 1032 = 0 ∨ (y 1).val / 1032 = 1 := by omega
      have hg : (y 0).val = 0 ∨ (y 0).val = 1 ∨ (y 0).val = 2 ∨ (y 0).val = 3 := by omega
      rcases hq with hq | hq <;> rcases hg with hg | hg | hg | hg
      · exact (Or.inr (Or.inr (Or.inr (Or.inr (Or.inr (Or.inr (Or.inr ((mem_band _ 0 0 k.val hk (off13_eq k 0 (by omega)) (k0_off13_inb k 0) spos_1_129_1 y hg hq hyk)))))))))
      · exact (Or.inr (Or.inr (Or.inr (Or.inr (Or.inr (Or.inl (mem_band _ 1 0 k.val hk (off15_eq k 0 (by omega)) (k0_off15_inb k 0) spos_1_129_1 y hg hq hyk)))))))
      · exact (Or.inr (Or.inr (Or.inr (Or.inr (Or.inr (Or.inr (Or.inl (mem_band _ 2 0 k.val hk (off14_eq k 0 (by omega)) (k0_off14_inb k 0) spos_1_129_1 y hg hq hyk))))))))
      · exact (Or.inr (Or.inr (Or.inr (Or.inr (Or.inl (mem_band _ 3 0 k.val hk (off16_eq k 0 (by omega)) (k0_off16_inb k 0) spos_1_129_1 y hg hq hyk))))))
      · exact (Or.inr (Or.inr (Or.inr (Or.inl (mem_band _ 0 1 k.val hk (off13_eq k 1032 (by omega)) (k0_off13_inb k 1) spos_1_129_1 y hg hq hyk)))))
      · exact (Or.inr (Or.inl (mem_band _ 1 1 k.val hk (off15_eq k 1032 (by omega)) (k0_off15_inb k 1) spos_1_129_1 y hg hq hyk)))
      · exact (Or.inr (Or.inr (Or.inl (mem_band _ 2 1 k.val hk (off14_eq k 1032 (by omega)) (k0_off14_inb k 1) spos_1_129_1 y hg hq hyk))))
      · exact (Or.inl (mem_band _ 3 1 k.val hk (off16_eq k 1032 (by omega)) (k0_off16_inb k 1) spos_1_129_1 y hg hq hyk))
  · rename_i hyk
    refine View.read_writes_apply_of_forall_not_mem _ _ _ _ ?_
    simp only [List.forall_mem_cons, List.forall_mem_nil, and_true]
    exact ⟨not_mem_band _ 3 1 k.val hk (off16_eq k 1032 (by omega)) (k0_off16_inb k 1) spos_1_129_1 y hyk,
      not_mem_band _ 1 1 k.val hk (off15_eq k 1032 (by omega)) (k0_off15_inb k 1) spos_1_129_1 y hyk,
      not_mem_band _ 2 1 k.val hk (off14_eq k 1032 (by omega)) (k0_off14_inb k 1) spos_1_129_1 y hyk,
      not_mem_band _ 0 1 k.val hk (off13_eq k 1032 (by omega)) (k0_off13_inb k 1) spos_1_129_1 y hyk,
      not_mem_band _ 3 0 k.val hk (off16_eq k 0 (by omega)) (k0_off16_inb k 0) spos_1_129_1 y hyk,
      not_mem_band _ 1 0 k.val hk (off15_eq k 0 (by omega)) (k0_off15_inb k 0) spos_1_129_1 y hyk,
      not_mem_band _ 2 0 k.val hk (off14_eq k 0 (by omega)) (k0_off14_inb k 0) spos_1_129_1 y hyk,
      not_mem_band _ 0 0 k.val hk (off13_eq k 0 (by omega)) (k0_off13_inb k 0) spos_1_129_1 y hyk,
      fun p hp => absurd hp List.not_mem_nil⟩

/-- The states before trip `k`. -/
def statesAt (P : S6x8x256.Idx → EReal) (U : S4x2064x128.Idx → EReal) (H0 : States) : ℕ → States
  | 0 => H0
  | k + 1 => stepAll P U k (statesAt P U H0 k)

/-- The drive scratch before trip `k`: the slots below `k` at the states after them, the others as at loop entry. -/
def planeAt (P : S6x8x256.Idx → EReal) (U : S4x2064x128.Idx → EReal) (H0 : States) (k : ℕ) (y : S4x2064x128.Idx) : EReal :=
  if (y 1).val % 129 < k then bandsNew (statesAt P U H0 ((y 1).val % 129 + 1)) y else U y

/-- After `k` trips the slots of position `k` still hold what they held at the scan's start. -/
theorem planeAt_slot (P : S6x8x256.Idx → EReal) (U : S4x2064x128.Idx → EReal) (H0 : States) (k : ℕ) (hk : k < 128) (g : Fin 4) (b : Fin 16) (l : Fin 128) :
    planeAt P U H0 k (slot g b.val k l) = U (slot g b.val k l) := by
  unfold planeAt
  have : ((slot g b.val k l) 1).val % 129 = k := by show (129 * b.val + k) % 2064 % 129 = k; omega
  rw [if_neg (by omega)]

/-- Trip `k` makes the same of the scratch after `k` trips as of the scratch at the scan's start. -/
theorem stepAll_planeAt (P : S6x8x256.Idx → EReal) (U : S4x2064x128.Idx → EReal) (H0 H : States) (k : ℕ) (hk : k < 128) :
    stepAll P (planeAt P U H0 k) k H = stepAll P U k H := by
  unfold stepAll driveRe driveIm
  simp only [planeAt_slot P U H0 k hk]

/-- One trip, its carried values given as any tuple equal to the states. -/
theorem scanTrip_value (k : Fin k0_t1_loop.trips) (f : BufTy.Contents (Elt Ideal) arg18.view.ty) (H : States) (cv : Carry Ideal) (h : cv = carryOf H) :
    (scanTrip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 k f cv.1 cv.2.1 cv.2.2.1 cv.2.2.2.1 cv.2.2.2.2.1 cv.2.2.2.2.2.1 cv.2.2.2.2.2.2.1 cv.2.2.2.2.2.2.2).1.1 = carryOf (stepAll (arg17.view.read (Elt Ideal) X_arg17) (arg18.view.read (Elt Ideal) f) k.val H)
      ∧ (scanTrip (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 k f cv.1 cv.2.1 cv.2.2.1 cv.2.2.2.1 cv.2.2.2.2.1 cv.2.2.2.2.2.1 cv.2.2.2.2.2.2.1 cv.2.2.2.2.2.2.2).1.2 = tripPieces k (stepAll (arg17.view.read (Elt Ideal) X_arg17) (arg18.view.read (Elt Ideal) f) k.val H) := by
  subst h
  exact ⟨scanTrip_carry c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 k f H, scanTrip_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 k f H⟩

/-- THE SCAN LOOP: the carried states and the drive scratch before trip `k`, from the states and the scratch at loop entry. -/
theorem scanAt_value (G : BufTy.Contents (Elt Ideal) arg18.view.ty) (H0 : States) (k : ℕ) (hk : k ≤ k0_t1_loop.trips) :
    (scanAt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G (carryOf H0) k).1 = carryOf (statesAt (arg17.view.read (Elt Ideal) X_arg17) (arg18.view.read (Elt Ideal) G) H0 k)
      ∧ arg18.view.read (Elt Ideal) (arg18.view.writes (Elt Ideal) G (scanAt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G (carryOf H0) k).2)
        = planeAt (arg17.view.read (Elt Ideal) X_arg17) (arg18.view.read (Elt Ideal) G) H0 k := by
  induction k with
  | zero => exact ⟨rfl, funext fun y => by unfold planeAt; rw [if_neg (by omega)]; rfl⟩
  | succ k ih =>
    obtain ⟨e1, e2⟩ := ih (by omega)
    have hk' : k < 128 := Nat.lt_of_lt_of_le (by omega : k < k0_t1_loop.trips) k0_t1_abs.2.1
    have hs := scanAt_succ (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 G (carryOf H0) ⟨k, by omega⟩
    dsimp only at hs
    rw [hs]
    obtain ⟨h1, h2⟩ := scanTrip_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v990 v992 v994 X_arg17 ⟨k, by omega⟩ _ _ _ e1
    rw [h1, h2, e2, stepAll_planeAt _ _ _ _ _ hk', View.writes_append]
    refine ⟨rfl, funext fun y => ?_⟩
    rw [tripPieces_read, e2]
    unfold planeAt
    dsimp only
    by_cases h : (y 1).val % 129 = k
    · rw [if_pos h, if_pos (by omega), h]; rfl
    · rw [if_neg h]
      by_cases h' : (y 1).val % 129 < k
      · rw [if_pos h', if_pos (by omega)]
      · rw [if_neg h', if_neg (by omega)]

end Cert.KernelIdeal.Hand
-- ==== Proof.KernelIdeal.Emit.lean ====
/- THE OUTPUT LOOP at its values. -/
module

public import proofs.«01_k».proof.Proof.KernelIdeal.Quant
public import proofs.«01_k».proof.Proof.KernelIdeal.ScanLoop
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty)
variable (f17 : BufTy.Contents (Elt Ideal) arg17.view.ty) (f18 : BufTy.Contents (Elt Ideal) arg18.view.ty) (f19 : BufTy.Contents (Elt Ideal) arg19.view.ty)
/-- The offsets a trip of the output loop reads and writes at. -/
theorem t2_off (k : Fin k0_t2_loop.trips) (b : Fin 12) (h : b.val = k.val) : k0_off17 k = ![(0 : Fin 4).val, 129 * b.val, 0] ∧ k0_off18 k = ![(1 : Fin 4).val, 129 * b.val, 0]
    ∧ k0_off19 k = ![(2 : Fin 4).val, 129 * b.val, 0] ∧ k0_off20 k = ![(3 : Fin 4).val, 129 * b.val, 0] ∧ k0_off21 k = ![b.val, 0, 0] := by
  rw [h]; clear h; revert k; decide +kernel

/-- A read of a box depends only on where the box starts. -/
theorem readAt_unit_congr {s : Shape} {e : EltTy} (v : View sig .tc .vmem s e) (f : BufTy.Contents (Elt Ideal) v.ty) (size : Fin s.rank → ℕ) {off off' : Fin s.rank → ℕ} (h : off = off')
    (inb : ∀ a, off a + size a ≤ s.size a) (inb' : ∀ a, off' a + size a ≤ s.size a) :
    (v.readAt (Elt Ideal) (Rect.unit (s := s) off size inb).toLoadRect f : (⟨s.rank, size⟩ : Shape).Idx → Elt Ideal e)
      = v.readAt (Elt Ideal) (Rect.unit (s := s) off' size inb').toLoadRect f := by
  subst h; rfl

/-- A plane of one row's block in the drive scratch. -/
def planeOf (G : BufTy.Contents (Elt Ideal) arg18.view.ty) (g : Fin 4) (b : Fin 12) : Vec Ideal S1x128x128 .f32 :=
  arg18.view.readAt (Elt Ideal) (Rect.unit (s := S4x2064x128) ![g.val, 129 * b.val, 0] S1x128x128.size (plane_inb g b)).toLoadRect G

/-- A batch row's plane of the second scratch, entry by entry. -/
theorem planeOf_apply (G : BufTy.Contents (Elt Ideal) arg18.view.ty) (g : Fin 4) (b : Fin 12) (j0 : Fin 1) (j1 j2 : Fin 128) :
    planeOf arg18 G g b (ix3 j0 j1 j2) = arg18.view.read (Elt Ideal) G (slot g b.val j1.val j2) := by
  show arg18.view.read (Elt Ideal) G _ = _
  congr 1
  funext a
  apply Fin.ext
  unfold slot
  fin_cases a
  · show g.val + 1 * j0.val = g.val; omega
  · show 129 * b.val + 1 * j1.val = (129 * b.val + j1.val) % 2064
    have := b.isLt; omega
  · show 0 + 1 * j2.val = j2.val; omega

/-- The output's block of one row. -/
def outVal (G : BufTy.Contents (Elt Ideal) arg18.view.ty) (b : Fin 12) : Vec Ideal S1x128x2560 .bf16 :=
  k0_pay1 (k0_pay59 (planeOf arg18 G 0 b) (planeOf arg18 G 1 b) (planeOf arg18 G 2 b) (planeOf arg18 G 3 b)
    (arg4.view.readAt (Elt Ideal) (Rect.unit (s := S2560x512) ![0, 0] S2560x512.size inb_S2560x512_S2560x512_0_0).toLoadRect X4)
    (arg5.view.readAt (Elt Ideal) (Rect.unit (s := S1x2560) ![0, 0] S1x2560.size inb_S1x2560_S1x2560_0_0).toLoadRect X5)
    (arg9.view.readAt (Elt Ideal) (Rect.unit (s := S1x2560) ![0, 0] S1x2560.size inb_S1x2560_S1x2560_0_0).toLoadRect X9)
    (slab arg1 X1 b))

/-- The piece of one row. -/
def outPiece (G : BufTy.Contents (Elt Ideal) arg18.view.ty) (b : Fin 12) : View.Piece (Elt Ideal) S12x128x2560 .bf16 :=
  ⟨Rect.unit (s := S12x128x2560) ![b.val, 0, 0] S1x128x2560.size (slab_inb b), outVal arg1 arg4 arg5 arg9 arg18 X1 X4 X5 X9 G b⟩

set_option maxHeartbeats 1000000 in
/-- What a trip of the output loop stores, from the scratch's contents. -/
theorem out_trip (G : BufTy.Contents (Elt Ideal) arg18.view.ty) (k : Fin k0_t2_loop.trips) (b : Fin 12) (h : b.val = k.val) :
    tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X4 X5 X9 G k = [outPiece arg1 arg4 arg5 arg9 arg18 X1 X4 X5 X9 G b] := by
  obtain ⟨e17, e18, e19, e20, e21⟩ := t2_off k b h
  unfold tripL_k0_t2 trip_k0_t2 outPiece outVal planeOf slab
  sl_unfold_run_names
  simp only [List.cons.injEq, Sigma.mk.injEq, heq_eq_eq, true_and, and_true, e21]
  congr 2
  · exact readAt_unit_congr arg18.view G S1x128x128.size e17 _ _
  · exact readAt_unit_congr arg18.view G S1x128x128.size e18 _ _
  · exact readAt_unit_congr arg18.view G S1x128x128.size e19 _ _
  · exact readAt_unit_congr arg18.view G S1x128x128.size e20 _ _
  · exact readAt_unit_congr arg1.view X1 S1x128x2560.size e21 _ _

/-- Which pieces the loop stores. -/
theorem out_mem (G : BufTy.Contents (Elt Ideal) arg18.view.ty) (n : ℕ) (hn : n ≤ k0_t2_loop.trips) (p : View.Piece (Elt Ideal) S12x128x2560 .bf16) :
    p ∈ pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X4 X5 X9 G n ↔ ∃ b : Fin 12, b.val < n ∧ p = outPiece arg1 arg4 arg5 arg9 arg18 X1 X4 X5 X9 G b := by
  induction n with
  | zero =>
    constructor
    · intro h; exact absurd h List.not_mem_nil
    · rintro ⟨b, hb, _⟩; exact absurd hb (Nat.not_lt_zero _)
  | succ n ih =>
    have hlt : n < 12 := Nat.lt_of_lt_of_le hn k0_t2_abs.2.1
    have hs := pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X4 X5 X9 G ⟨n, hn⟩
    rw [show n + 1 = (⟨n, hn⟩ : Fin k0_t2_loop.trips).val + 1 from rfl, hs, List.mem_append, ih (Nat.le_of_succ_le hn),
      out_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X4 X5 X9 G ⟨n, hn⟩ ⟨n, hlt⟩ rfl, List.mem_singleton]
    constructor
    · rintro (h | ⟨b, hb, h⟩)
      · exact ⟨⟨n, hlt⟩, Nat.lt_succ_self n, h⟩
      · exact ⟨b, Nat.lt_succ_of_lt hb, h⟩
    · rintro ⟨b, hb, h⟩
      rcases Nat.lt_succ_iff_lt_or_eq.1 hb with h' | h'
      · exact Or.inr ⟨b, h', h⟩
      · left
        have : b = ⟨n, hlt⟩ := Fin.ext h'
        rw [← this]; exact h

/-- Row-by-row stores of a block of twelve slabs read back. -/
theorem slabs_read {e : EltTy} (v : View sig .tc .vmem S12x128x2560 e) (f : BufTy.Contents (Elt Ideal) v.ty) (L : List (View.Piece (Elt Ideal) S12x128x2560 e))
    (w : Fin 12 → S1x128x2560.Idx → Elt Ideal e)
    (hL : ∀ p, p ∈ L ↔ ∃ b : Fin 12, p = ⟨Rect.unit (s := S12x128x2560) ![b.val, 0, 0] S1x128x2560.size (slab_inb b), w b⟩) (y : S12x128x2560.Idx) :
    v.read (Elt Ideal) (v.writes (Elt Ideal) f L) y = w (y 0) (ix3 0 (y 1) (y 2)) := by
  have hemb : ∀ (b : Fin 12) (x : S1x128x2560.Idx), (Rect.unit (s := S12x128x2560) ![b.val, 0, 0] S1x128x2560.size (slab_inb b)).emb x = ix3 b (x 1) (x 2) := by
    intro b x
    have h0 : (x 0).val < 1 := (x 0).isLt
    funext a
    apply Fin.ext
    fin_cases a
    · show b.val + 1 * (x 0).val = b.val; omega
    · show 0 + 1 * (x 1).val = (x 1).val; omega
    · show 0 + 1 * (x 2).val = (x 2).val; omega
  refine View.read_writes_apply_of_pieces v f (fun y : S12x128x2560.Idx => w (y 0) (ix3 0 (y 1) (y 2))) L ?_ y ?_
  · intro p hp x
    obtain ⟨b, rfl⟩ := (hL p).1 hp
    change S1x128x2560.Idx at x
    show w b x = w ((Rect.unit (s := S12x128x2560) ![b.val, 0, 0] S1x128x2560.size (slab_inb b)).emb x 0) _
    rw [hemb b x]
    show w b x = w b (ix3 0 (x 1) (x 2))
    congr 1
    funext a
    apply Fin.ext
    have h0 : (x 0).val < 1 := (x 0).isLt
    fin_cases a
    · show (x 0).val = 0; omega
    · rfl
    · rfl
  · refine ⟨_, (hL _).2 ⟨y 0, rfl⟩, ?_⟩
    have e : (Rect.unit (s := S12x128x2560) ![(y 0).val, 0, 0] S1x128x2560.size (slab_inb (y 0))).emb (ix3 (0 : Fin 1) (y 1 : Fin 128) (y 2 : Fin 2560)) = y := by
      rw [hemb (y 0)]
      funext a
      fin_cases a <;> rfl
    have := LoadRect.idx_mem (Rect.unit (s := S12x128x2560) ![(y 0).val, 0, 0] S1x128x2560.size (slab_inb (y 0))).toLoadRect (ix3 (0 : Fin 1) (y 1 : Fin 128) (y 2 : Fin 2560))
    exact e ▸ this

/-- A batch row's slab of the input, entry by entry. -/
theorem slab_apply (b : Fin 12) (j0 : Fin 1) (j1 : Fin 128) (j2 : Fin 2560) : slab (F := Ideal) arg1 X1 b (ix3 j0 j1 j2) = arg1.view.read (Elt Ideal) X1 (ix3 b j1 j2) := by
  show arg1.view.read (Elt Ideal) X1 _ = _
  congr 1
  funext a
  apply Fin.ext
  fin_cases a
  · show b.val + 1 * j0.val = b.val; omega
  · show 0 + 1 * j1.val = j1.val; omega
  · show 0 + 1 * j2.val = j2.val; omega

/-- A whole block read is the block. -/
theorem readAt_whole2 {n m : ℕ} {e : EltTy} (v : View sig .tc .vmem (⟨2, ![n, m]⟩ : Shape) e) (f : BufTy.Contents (Elt Ideal) v.ty)
    (inb : ∀ a, (![0, 0] : Fin 2 → ℕ) a + (⟨2, ![n, m]⟩ : Shape).size a ≤ (⟨2, ![n, m]⟩ : Shape).size a) :
    v.readAt (Elt Ideal) (Rect.unit (s := (⟨2, ![n, m]⟩ : Shape)) ![0, 0] (⟨2, ![n, m]⟩ : Shape).size inb).toLoadRect f = v.read (Elt Ideal) f := by
  funext x
  show v.read (Elt Ideal) f _ = _
  congr 1
  funext a
  apply Fin.ext
  fin_cases a
  · show 0 + 1 * (x 0).val = (x 0).val; omega
  · show 0 + 1 * (x 1).val = (x 1).val; omega

/-- A slot of the scratch depends on the group and the lane as numbers alone. -/
theorem slot_congr {g g' : Fin 4} (h : g.val = g'.val) (b k : ℕ) {l l' : Fin 128} (hl : l.val = l'.val) : slot g b k l = slot g' b k l' := by
  rw [Fin.ext h, Fin.ext hl]

set_option maxHeartbeats 2000000 in
/-- THE OUTPUT'S BLOCK at an index, from the drive scratch the scan leaves. -/
theorem outVal_apply (G : BufTy.Contents (Elt Ideal) arg18.view.ty) (b : Fin 12) (t : Fin 128) (o : Fin 2560) :
    outVal arg1 arg4 arg5 arg9 arg18 X1 X4 X5 X9 G b (ix3 0 t o)
      = (∑ s : Fin 512, arg18.view.read (Elt Ideal) G (slot ⟨s.val / 128, by omega⟩ b.val t.val ⟨s.val % 128, by omega⟩) * arg4.view.read (Elt Ideal) X4 (ix2 o s))
          * arg5.view.read (Elt Ideal) X5 (ix2 0 o) + arg9.view.read (Elt Ideal) X9 (ix2 0 o) * arg1.view.read (Elt Ideal) X1 (ix3 b t o) := by
  unfold outVal
  rw [readAt_whole2, readAt_whole2, readAt_whole2]
  pointwise [k0_pay1, k0_pay59]
  simp only [slab_apply, planeOf_apply]
  refine congrArg₂ (· + ·) (congrArg₂ (· * ·) (Finset.sum_congr rfl fun x _ => congrArg₂ (· * ·) ?_ rfl) rfl) rfl
  have hx := x.isLt
  by_cases h1 : x.val < 128
  · rw [dif_pos h1]; exact congrArg _ (slot_congr (by show 0 = x.val / 128; omega) _ _ (by show x.val = x.val % 128; omega))
  rw [dif_neg h1]
  by_cases h2 : x.val - 128 < 128
  · rw [dif_pos h2]; exact congrArg _ (slot_congr (by show 1 = x.val / 128; omega) _ _ (by show x.val - 128 = x.val % 128; omega))
  rw [dif_neg h2]
  by_cases h3 : x.val - 128 - 128 < 128
  · rw [dif_pos h3]; exact congrArg _ (slot_congr (by show 2 = x.val / 128; omega) _ _ (by show x.val - 128 - 128 = x.val % 128; omega))
  · rw [dif_neg h3]; exact congrArg _ (slot_congr (by show 3 = x.val / 128; omega) _ _ (by show x.val - 128 - 128 - 128 = x.val % 128; omega))

end Cert.KernelIdeal.Hand
-- ==== Proof.KernelIdeal.State.lean ====
/- THE STATE SCRATCH, read off: the states it holds, the bands the scan starts from, the bands it ends at, and the final state stored from them. -/
module

public import proofs.«01_k».proof.Proof.KernelIdeal.ScanLoop
public import proofs.«01_k».proof.Proof.KernelIdeal.Canon
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty)
variable (f17 : BufTy.Contents (Elt Ideal) arg17.view.ty) (f18 : BufTy.Contents (Elt Ideal) arg18.view.ty) (f19 : BufTy.Contents (Elt Ideal) arg19.view.ty)
/-- An element within a box's bounds lies in it. -/
theorem mem_unit {s : Shape} (off size : Fin s.rank → ℕ) (inb : ∀ a, off a + size a ≤ s.size a) (y : s.Idx) (h : ∀ a, off a ≤ (y a).val ∧ (y a).val < off a + size a) :
    y ∈ (Rect.unit (s := s) off size inb).set := by
  have e : (Rect.unit (s := s) off size inb).emb (fun a => ⟨(y a).val - off a, by have := h a; show (y a).val - off a < size a; omega⟩) = y := by
    funext a
    apply Fin.ext
    show off a + 1 * ((y a).val - off a) = (y a).val
    have := h a
    omega
  exact e ▸ (LoadRect.idx_mem _ _)

/-- The states a state scratch holds: planes 0 and 1 the real halves, planes 2 and 3 the imaginary ones. -/
def statesOf (U : S4x16x128.Idx → EReal) : States := fun b s =>
  (U (ix3 ⟨s.val / 128, by omega⟩ b ⟨s.val % 128, by omega⟩), U (ix3 ⟨2 + s.val / 128, by omega⟩ b ⟨s.val % 128, by omega⟩))

/-- The state scratch that holds given states. -/
def tableOf (H : States) (y : S4x16x128.Idx) : EReal :=
  if (y 0).val < 2 then (H (Fin.ofNat 16 (y 1).val) (Fin.ofNat 256 (128 * (y 0).val + (y 2).val))).1
  else (H (Fin.ofNat 16 (y 1).val) (Fin.ofNat 256 (128 * ((y 0).val - 2) + (y 2).val))).2

/-- States laid out in the third scratch and read back are the states. -/
theorem statesOf_tableOf (H : States) : statesOf (tableOf H) = H := by
  funext b s
  have hs := s.isLt
  have hb : Fin.ofNat 16 b.val = b := Fin.ext (Nat.mod_eq_of_lt b.isLt)
  refine Prod.ext ?_ ?_
  · show (if s.val / 128 < 2 then _ else _) = _
    rw [if_pos (by omega)]
    show (H (Fin.ofNat 16 b.val) (Fin.ofNat 256 (128 * (s.val / 128) + s.val % 128))).1 = _
    rw [hb, show Fin.ofNat 256 (128 * (s.val / 128) + s.val % 128) = s from Fin.ext (by show (128 * (s.val / 128) + s.val % 128) % 256 = s.val; omega)]
  · show (if 2 + s.val / 128 < 2 then _ else _) = _
    rw [if_neg (by omega)]
    show (H (Fin.ofNat 16 b.val) (Fin.ofNat 256 (128 * (2 + s.val / 128 - 2) + s.val % 128))).2 = _
    rw [hb, show Fin.ofNat 256 (128 * (2 + s.val / 128 - 2) + s.val % 128) = s from Fin.ext (by show (128 * (2 + s.val / 128 - 2) + s.val % 128) % 256 = s.val; omega)]

/-- A band of a real plane of the layout holds the states' real parts. -/
theorem table_re (H : States) (g : Fin 4) (hg : g.val < 2) (q : Fin 2) (inb : ∀ a, (![g.val, 8 * q.val, 0] : Fin 3 → ℕ) a + S1x8x128.size a ≤ S4x16x128.size a) (x : S1x8x128.Idx) :
    bandOf (fun b s => (H b s).1) q ⟨g.val, hg⟩ (ix2 (x 1) (x 2)) = tableOf H ((Rect.unit (s := S4x16x128) ![g.val, 8 * q.val, 0] S1x8x128.size inb).emb x) := by
  have h0 : (x 0).val < 1 := (x 0).isLt
  have h1 : (x 1).val < 8 := (x 1).isLt
  have h2 : (x 2).val < 128 := (x 2).isLt
  have hq := q.isLt
  unfold tableOf
  show _ = if g.val + 1 * (x 0).val < 2 then (H (Fin.ofNat 16 (8 * q.val + 1 * (x 1).val)) (Fin.ofNat 256 (128 * (g.val + 1 * (x 0).val) + (0 + 1 * (x 2).val)))).1 else _
  rw [if_pos (by omega)]
  unfold bandOf
  congr 2
  · show 8 * q.val + (x 1).val = (8 * q.val + 1 * (x 1).val) % 16; omega
  · show 128 * g.val + (x 2).val = (128 * (g.val + 1 * (x 0).val) + (0 + 1 * (x 2).val)) % 256; omega

/-- A band of an imaginary plane of the layout holds the states' imaginary parts. -/
theorem table_im (H : States) (g : Fin 4) (hg : g.val - 2 < 2) (hg' : 2 ≤ g.val) (q : Fin 2) (inb : ∀ a, (![g.val, 8 * q.val, 0] : Fin 3 → ℕ) a + S1x8x128.size a ≤ S4x16x128.size a) (x : S1x8x128.Idx) :
    bandOf (fun b s => (H b s).2) q ⟨g.val - 2, hg⟩ (ix2 (x 1) (x 2)) = tableOf H ((Rect.unit (s := S4x16x128) ![g.val, 8 * q.val, 0] S1x8x128.size inb).emb x) := by
  have h0 : (x 0).val < 1 := (x 0).isLt
  have h1 : (x 1).val < 8 := (x 1).isLt
  have h2 : (x 2).val < 128 := (x 2).isLt
  have hq := q.isLt
  unfold tableOf
  show _ = if g.val + 1 * (x 0).val < 2 then _ else (H (Fin.ofNat 16 (8 * q.val + 1 * (x 1).val)) (Fin.ofNat 256 (128 * (g.val + 1 * (x 0).val - 2) + (0 + 1 * (x 2).val)))).2
  rw [if_neg (by omega)]
  unfold bandOf
  congr 2
  · show 8 * q.val + (x 1).val = (8 * q.val + 1 * (x 1).val) % 16; omega
  · show 128 * (g.val - 2) + (x 2).val = (128 * (g.val + 1 * (x 0).val - 2) + (0 + 1 * (x 2).val)) % 256; omega

/-- A band stored as a block of one plane. -/
theorem block_apply (S : FVec Ideal S8x128 .f32) (x : S1x8x128.Idx) : shapeCast S1x8x128 S shapeCasts_S8x128_S1x8x128 x = S (ix2 (x 1) (x 2)) := by
  idx_vars x
  pointwise []

/-- THE STORED BANDS read back as the table of the states. -/
theorem statePieces_read (J : BufTy.Contents (Elt Ideal) arg19.view.ty) (H : States) :
    arg19.view.read (Elt Ideal) (arg19.view.writes (Elt Ideal) J (statePieces (F := Ideal) (carryOf H))) = tableOf H := by
  funext y
  have hy1 : (y 1).val < 16 := (y 1).isLt
  have hy0 : (y 0).val < 4 := (y 0).isLt
  have hy2 : (y 2).val < 128 := (y 2).isLt
  unfold statePieces
  refine View.read_writes_apply_of_pieces _ _ _ _ ?_ y ?_
  · simp only [List.forall_mem_cons, List.forall_mem_nil, and_true]
    refine ⟨fun x => ?_, fun x => ?_, fun x => ?_, fun x => ?_, fun x => ?_, fun x => ?_, fun x => ?_, fun x => ?_, fun p hp => absurd hp List.not_mem_nil⟩
    · exact (block_apply _ x).trans (table_im H 3 (by decide) (by decide) 1 inb_S4x16x128_S1x8x128_3_8_0 x)
    · exact (block_apply _ x).trans (table_re H 1 (by decide) 1 inb_S4x16x128_S1x8x128_1_8_0 x)
    · exact (block_apply _ x).trans (table_im H 2 (by decide) (by decide) 1 inb_S4x16x128_S1x8x128_2_8_0 x)
    · exact (block_apply _ x).trans (table_re H 0 (by decide) 1 inb_S4x16x128_S1x8x128_0_8_0 x)
    · exact (block_apply _ x).trans (table_im H 3 (by decide) (by decide) 0 inb_S4x16x128_S1x8x128_3_0_0 x)
    · exact (block_apply _ x).trans (table_re H 1 (by decide) 0 inb_S4x16x128_S1x8x128_1_0_0 x)
    · exact (block_apply _ x).trans (table_im H 2 (by decide) (by decide) 0 inb_S4x16x128_S1x8x128_2_0_0 x)
    · exact (block_apply _ x).trans (table_re H 0 (by decide) 0 inb_S4x16x128_S1x8x128_0_0_0 x)
  · simp only [List.exists_mem_cons_iff, List.not_mem_nil, false_and, exists_false, or_false]
    have hb : ∀ (g p : ℕ), (y 0).val = g → p ≤ (y 1).val → (y 1).val < p + 8 → ∀ a, (![g, p, 0] : Fin 3 → ℕ) a ≤ (y a).val ∧ (y a).val < (![g, p, 0] : Fin 3 → ℕ) a + S1x8x128.size a := by
      intro g p hg h1 h2 a
      fin_cases a
      · exact ⟨hg.ge, by show (y 0).val < g + 1; omega⟩
      · exact ⟨h1, h2⟩
      · exact ⟨Nat.zero_le _, by show (y 2).val < 0 + 128; omega⟩
    have hg : (y 0).val = 0 ∨ (y 0).val = 1 ∨ (y 0).val = 2 ∨ (y 0).val = 3 := by omega
    by_cases hq : (y 1).val < 8 <;> rcases hg with hg | hg | hg | hg
    · exact Or.inr (Or.inr (Or.inr (Or.inr (Or.inr (Or.inr (Or.inr (mem_unit _ _ inb_S4x16x128_S1x8x128_0_0_0 y (hb 0 0 hg (by omega) (by omega)))))))))
    · exact Or.inr (Or.inr (Or.inr (Or.inr (Or.inr (Or.inl (mem_unit _ _ inb_S4x16x128_S1x8x128_1_0_0 y (hb 1 0 hg (by omega) (by omega))))))))
    · exact Or.inr (Or.inr (Or.inr (Or.inr (Or.inr (Or.inr (Or.inl (mem_unit _ _ inb_S4x16x128_S1x8x128_2_0_0 y (hb 2 0 hg (by omega) (by omega)))))))))
    · exact Or.inr (Or.inr (Or.inr (Or.inr (Or.inl (mem_unit _ _ inb_S4x16x128_S1x8x128_3_0_0 y (hb 3 0 hg (by omega) (by omega)))))))
    · exact Or.inr (Or.inr (Or.inr (Or.inl (mem_unit _ _ inb_S4x16x128_S1x8x128_0_8_0 y (hb 0 8 hg (by omega) (by omega))))))
    · exact Or.inr (Or.inl (mem_unit _ _ inb_S4x16x128_S1x8x128_1_8_0 y (hb 1 8 hg (by omega) (by omega))))
    · exact Or.inr (Or.inr (Or.inl (mem_unit _ _ inb_S4x16x128_S1x8x128_2_8_0 y (hb 2 8 hg (by omega) (by omega)))))
    · exact Or.inl (mem_unit _ _ inb_S4x16x128_S1x8x128_3_8_0 y (hb 3 8 hg (by omega) (by omega)))

/-- A block of one plane read as a band. -/
theorem band_read (f19 : BufTy.Contents (Elt Ideal) arg19.view.ty) (g : Fin 4) (q : Fin 2) (inb : ∀ a, (![g.val, 8 * q.val, 0] : Fin 3 → ℕ) a + S1x8x128.size a ≤ S4x16x128.size a) (x : S8x128.Idx) :
    shapeCast S8x128 (arg19.view.readAt (Elt Ideal) (Rect.unit (s := S4x16x128) ![g.val, 8 * q.val, 0] S1x8x128.size inb).toLoadRect f19 : FVec Ideal S1x8x128 .f32) shapeCasts_S1x8x128_S8x128 x
      = arg19.view.read (Elt Ideal) f19 (ix3 g ⟨8 * q.val + (x 0).val, by have := (x 0).isLt; have : (x 0).val < 8 := this; omega⟩ (x 1)) := by
  have e : ∀ v : FVec Ideal S1x8x128 .f32, shapeCast S8x128 v shapeCasts_S1x8x128_S8x128 x = v (ix3 0 (x 0) (x 1)) := by
    intro v
    idx_vars x
    pointwise []
  rw [e]
  show arg19.view.read (Elt Ideal) f19 _ = _
  congr 1
  funext a
  apply Fin.ext
  fin_cases a
  · show g.val + 1 * 0 = g.val; omega
  · show 8 * q.val + 1 * (x 0).val = 8 * q.val + (x 0).val; omega
  · show 0 + 1 * (x 1).val = (x 1).val; omega

/-- A band read of a real plane of the third scratch, entry by entry. -/
theorem band_re (U : S4x16x128.Idx → EReal) (g : Fin 2) (q : Fin 2) (x : S8x128.Idx) (h : 8 * q.val + (x 0).val < 16) :
    U (ix3 ⟨g.val, by omega⟩ ⟨8 * q.val + (x 0).val, h⟩ (x 1)) = bandOf (fun b s => (statesOf U b s).1) q g x := by
  have h1 : (x 1).val < 128 := (x 1).isLt
  unfold bandOf statesOf
  congr 1
  funext a
  apply Fin.ext
  fin_cases a
  · show g.val = (128 * g.val + (x 1).val) / 128; omega
  · rfl
  · show (x 1).val = (128 * g.val + (x 1).val) % 128; omega

/-- A band read of an imaginary plane of the third scratch, entry by entry. -/
theorem band_im (U : S4x16x128.Idx → EReal) (g : Fin 2) (q : Fin 2) (x : S8x128.Idx) (h : 8 * q.val + (x 0).val < 16) :
    U (ix3 ⟨2 + g.val, by omega⟩ ⟨8 * q.val + (x 0).val, h⟩ (x 1)) = bandOf (fun b s => (statesOf U b s).2) q g x := by
  have h1 : (x 1).val < 128 := (x 1).isLt
  unfold bandOf statesOf
  congr 1
  funext a
  apply Fin.ext
  fin_cases a
  · show 2 + g.val = 2 + (128 * g.val + (x 1).val) / 128; omega
  · rfl
  · show (x 1).val = (128 * g.val + (x 1).val) % 128; omega

/-- THE BANDS THE SCAN STARTS FROM are the states the scratch holds. -/
theorem initOf_eq : initOf (F := Ideal) arg19 f19 = carryOf (statesOf (arg19.view.read (Elt Ideal) f19)) := by
  unfold initOf carryOf
  refine Prod.ext (funext fun x => ?_) (Prod.ext (funext fun x => ?_) (Prod.ext (funext fun x => ?_) (Prod.ext (funext fun x => ?_) (Prod.ext (funext fun x => ?_) (Prod.ext (funext fun x => ?_) (Prod.ext (funext fun x => ?_) (funext fun x => ?_)))))))
  · exact (band_read arg19 f19 0 0 inb_S4x16x128_S1x8x128_0_0_0 x).trans (band_re _ 0 0 x _)
  · exact (band_read arg19 f19 2 0 inb_S4x16x128_S1x8x128_2_0_0 x).trans (band_im _ 0 0 x _)
  · exact (band_read arg19 f19 1 0 inb_S4x16x128_S1x8x128_1_0_0 x).trans (band_re _ 1 0 x _)
  · exact (band_read arg19 f19 3 0 inb_S4x16x128_S1x8x128_3_0_0 x).trans (band_im _ 1 0 x _)
  · exact (band_read arg19 f19 0 1 inb_S4x16x128_S1x8x128_0_8_0 x).trans (band_re _ 0 1 x _)
  · exact (band_read arg19 f19 2 1 inb_S4x16x128_S1x8x128_2_8_0 x).trans (band_im _ 0 1 x _)
  · exact (band_read arg19 f19 1 1 inb_S4x16x128_S1x8x128_1_8_0 x).trans (band_re _ 1 1 x _)
  · exact (band_read arg19 f19 3 1 inb_S4x16x128_S1x8x128_3_8_0 x).trans (band_im _ 1 1 x _)

/-- Twelve rows of one plane, as half of a final state. -/
theorem half_read (f : BufTy.Contents (Elt Ideal) arg19.view.ty) (g : Fin 4) (inb : ∀ a, (![g.val, 0, 0] : Fin 3 → ℕ) a + S1x12x128.size a ≤ S4x16x128.size a) (x : S12x128.Idx) :
    shapeCast S12x128 (arg19.view.readAt (Elt Ideal) (Rect.unit (s := S4x16x128) ![g.val, 0, 0] S1x12x128.size inb).toLoadRect f : FVec Ideal S1x12x128 .f32) shapeCasts_S1x12x128_S12x128 x
      = arg19.view.read (Elt Ideal) f (ix3 g ⟨(x 0).val, by have := (x 0).isLt; have : (x 0).val < 12 := this; omega⟩ (x 1)) := by
  have e : ∀ v : FVec Ideal S1x12x128 .f32, shapeCast S12x128 v shapeCasts_S1x12x128_S12x128 x = v (ix3 0 (x 0) (x 1)) := by
    intro v
    idx_vars x
    pointwise []
  rw [e]
  show arg19.view.read (Elt Ideal) f _ = _
  congr 1
  funext a
  apply Fin.ext
  fin_cases a
  · show g.val + 1 * 0 = g.val; omega
  · show 0 + 1 * (x 0).val = (x 0).val; omega
  · show 0 + 1 * (x 1).val = (x 1).val; omega

/-- A row of the batch among the sixteen. -/
def row16 (b : Fin 12) : Fin 16 := ⟨b.val, by omega⟩

/-- Where an entry of a half of the last state lies in its array. -/
theorem half_emb (U : S4x16x128.Idx → EReal) (p : Fin 4) (g : Fin 2) (off : ℕ) (hoff : off = 128 * g.val) (inb : ∀ a, (![0, off] : Fin 2 → ℕ) a + S12x128.size a ≤ S12x256.size a) (x : S12x128.Idx)
    (W : Fin 12 → Fin 256 → EReal) (hW : ∀ (b : Fin 12) (l : Fin 128), W b ⟨128 * g.val + l.val, by omega⟩ = U (ix3 p (row16 b) l)) :
    U (ix3 p ⟨(x 0).val, by have := (x 0).isLt; have : (x 0).val < 12 := this; omega⟩ (x 1)) = (fun y : S12x256.Idx => W (y 0) (y 1)) ((Rect.unit (s := S12x256) ![0, off] S12x128.size inb).emb x) := by
  subst hoff
  refine (hW (x 0) (x 1)).symm.trans ?_
  show W (x 0) _ = W _ _
  congr 1
  · apply Fin.ext; show (x 0).val = 0 + 1 * (x 0).val; omega
  · apply Fin.ext; show 128 * g.val + (x 1).val = 128 * g.val + 1 * (x 1).val; omega

/-- The two halves cover the array of the last state. -/
theorem cover2 (y : S12x256.Idx) : y ∈ (Rect.unit (s := S12x256) ![0, 128] S12x128.size inb_S12x256_S12x128_0_128).set ∨ y ∈ (Rect.unit (s := S12x256) ![0, 0] S12x128.size inb_S12x256_S12x128_0_0).set := by
  have h0 : (y 0).val < 12 := (y 0).isLt
  have h1 : (y 1).val < 256 := (y 1).isLt
  by_cases h : (y 1).val < 128
  · refine Or.inr (mem_unit _ _ _ y fun a => ?_)
    fin_cases a
    · exact ⟨Nat.zero_le _, by show (y 0).val < 0 + 12; omega⟩
    · exact ⟨Nat.zero_le _, by show (y 1).val < 0 + 128; omega⟩
  · refine Or.inl (mem_unit _ _ _ y fun a => ?_)
    fin_cases a
    · exact ⟨Nat.zero_le _, by show (y 0).val < 0 + 12; omega⟩
    · exact ⟨by show 128 ≤ (y 1).val; omega, by show (y 1).val < 128 + 128; omega⟩

/-- THE FINAL STATE'S REAL PART as stored. -/
theorem finalRe_read (v : View sig .tc .vmem S12x256 .f32) (g : BufTy.Contents (Elt Ideal) v.ty) (f : BufTy.Contents (Elt Ideal) arg19.view.ty) (y : S12x256.Idx) :
    v.read (Elt Ideal) (v.writes (Elt Ideal) g (finalRe (F := Ideal) arg19 f)) y = (statesOf (arg19.view.read (Elt Ideal) f) (row16 (y 0)) (y 1)).1 := by
  unfold finalRe
  refine View.read_writes_apply_of_pieces v g (fun y : S12x256.Idx => (statesOf (arg19.view.read (Elt Ideal) f) (row16 (y 0)) (y 1)).1) _ ?_ y ?_
  · simp only [List.forall_mem_cons, List.forall_mem_nil, and_true]
    refine ⟨fun x => ?_, fun x => ?_, fun p hp => absurd hp List.not_mem_nil⟩
    · refine (half_read arg19 f 1 inb_S4x16x128_S1x12x128_1_0_0 x).trans (half_emb _ 1 1 128 rfl inb_S12x256_S12x128_0_128 x (fun b s => (statesOf (arg19.view.read (Elt Ideal) f) (row16 b) s).1) fun b l => ?_)
      refine congrArg (arg19.view.read (Elt Ideal) f) (funext fun a => Fin.ext ?_); have := l.isLt; fin_cases a
      · show (128 * 1 + l.val) / 128 = 1; omega
      · rfl
      · show (128 * 1 + l.val) % 128 = l.val; omega
    · refine (half_read arg19 f 0 inb_S4x16x128_S1x12x128_0_0_0 x).trans (half_emb _ 0 0 0 rfl inb_S12x256_S12x128_0_0 x (fun b s => (statesOf (arg19.view.read (Elt Ideal) f) (row16 b) s).1) fun b l => ?_)
      refine congrArg (arg19.view.read (Elt Ideal) f) (funext fun a => Fin.ext ?_); have := l.isLt; fin_cases a
      · show (128 * 0 + l.val) / 128 = 0; omega
      · rfl
      · show (128 * 0 + l.val) % 128 = l.val; omega
  · simp only [List.exists_mem_cons_iff, List.not_mem_nil, false_and, exists_false, or_false]
    exact cover2 y

/-- THE FINAL STATE'S IMAGINARY PART as stored. -/
theorem finalIm_read (v : View sig .tc .vmem S12x256 .f32) (g : BufTy.Contents (Elt Ideal) v.ty) (f : BufTy.Contents (Elt Ideal) arg19.view.ty) (y : S12x256.Idx) :
    v.read (Elt Ideal) (v.writes (Elt Ideal) g (finalIm (F := Ideal) arg19 f)) y = (statesOf (arg19.view.read (Elt Ideal) f) (row16 (y 0)) (y 1)).2 := by
  unfold finalIm
  refine View.read_writes_apply_of_pieces v g (fun y : S12x256.Idx => (statesOf (arg19.view.read (Elt Ideal) f) (row16 (y 0)) (y 1)).2) _ ?_ y ?_
  · simp only [List.forall_mem_cons, List.forall_mem_nil, and_true]
    refine ⟨fun x => ?_, fun x => ?_, fun p hp => absurd hp List.not_mem_nil⟩
    · refine (half_read arg19 f 3 inb_S4x16x128_S1x12x128_3_0_0 x).trans (half_emb _ 3 1 128 rfl inb_S12x256_S12x128_0_128 x (fun b s => (statesOf (arg19.view.read (Elt Ideal) f) (row16 b) s).2) fun b l => ?_)
      refine congrArg (arg19.view.read (Elt Ideal) f) (funext fun a => Fin.ext ?_); have := l.isLt; fin_cases a
      · show 2 + (128 * 1 + l.val) / 128 = 3; omega
      · rfl
      · show (128 * 1 + l.val) % 128 = l.val; omega
    · refine (half_read arg19 f 2 inb_S4x16x128_S1x12x128_2_0_0 x).trans (half_emb _ 2 0 0 rfl inb_S12x256_S12x128_0_0 x (fun b s => (statesOf (arg19.view.read (Elt Ideal) f) (row16 b) s).2) fun b l => ?_)
      refine congrArg (arg19.view.read (Elt Ideal) f) (funext fun a => Fin.ext ?_); have := l.isLt; fin_cases a
      · show 2 + (128 * 0 + l.val) / 128 = 2; omega
      · rfl
      · show (128 * 0 + l.val) % 128 = l.val; omega
  · simp only [List.exists_mem_cons_iff, List.not_mem_nil, false_and, exists_false, or_false]
    exact cover2 y

end Cert.KernelIdeal.Hand
-- ==== Proof.KernelIdeal.Stores.lean ====
/- WHAT A RUN OF THE BODY STORES, read back: the drive, the codes, the scales and the output. -/
module

public import proofs.«01_k».proof.Proof.KernelIdeal.Quant
public import proofs.«01_k».proof.Proof.KernelIdeal.Emit
public import proofs.«01_k».proof.Proof.KernelIdeal.State
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty)
variable (f17 : BufTy.Contents (Elt Ideal) arg17.view.ty) (f18 : BufTy.Contents (Elt Ideal) arg18.view.ty) (f19 : BufTy.Contents (Elt Ideal) arg19.view.ty)
/-- Every batch row is in the list of batch rows. -/
theorem mem_rows (b : Fin 12) : b ∈ rows := by revert b; decide +kernel

/-- A three-dimensional array read at an index is the array read at the index's coordinates. -/
theorem eta3 {n m p : ℕ} {α : Type} (v : (⟨3, ![n, m, p]⟩ : Shape).Idx → α) (x : (⟨3, ![n, m, p]⟩ : Shape).Idx) : v x = v (ix3 (x 0 : Fin n) (x 1 : Fin m) (x 2 : Fin p)) := by
  congr 1
  funext a
  fin_cases a <;> rfl

/-- The drive at an index of the scratch. -/
def driveTable (y : S4x2064x128.Idx) : EReal :=
  driveAt (slab (F := Ideal) arg1 X1 (Fin.ofNat 12 ((y 1).val / 129))) (bmat (F := Ideal) arg2 X2) (Fin.ofNat 128 ((y 1).val % 129)) (Fin.ofNat 512 (128 * (y 0).val + (y 2).val))

/-- The layout of the drives at a batch row's slot. -/
theorem driveTable_slot (g : Fin 4) (b : Fin 12) (k : ℕ) (hk : k < 128) (l : Fin 128) :
    driveTable arg1 arg2 X1 X2 (slot g b.val k l) = driveAt (slab (F := Ideal) arg1 X1 b) (bmat (F := Ideal) arg2 X2) ⟨k, hk⟩ ⟨128 * g.val + l.val, by omega⟩ := by
  have hb := b.isLt
  have h1 : (129 * b.val + k) % 2064 = 129 * b.val + k := Nat.mod_eq_of_lt (by omega)
  unfold driveTable
  show driveAt (slab (F := Ideal) arg1 X1 (Fin.ofNat 12 ((129 * b.val + k) % 2064 / 129))) _ (Fin.ofNat 128 ((129 * b.val + k) % 2064 % 129)) (Fin.ofNat 512 (128 * g.val + l.val)) = _
  rw [h1, show Fin.ofNat 12 ((129 * b.val + k) / 129) = b from Fin.ext (by show (129 * b.val + k) / 129 % 12 = b.val; omega),
    show Fin.ofNat 128 ((129 * b.val + k) % 129) = ⟨k, hk⟩ from Fin.ext (by show (129 * b.val + k) % 129 % 128 = k; omega),
    show Fin.ofNat 512 (128 * g.val + l.val) = ⟨128 * g.val + l.val, by omega⟩ from Fin.ext (Nat.mod_eq_of_lt (by omega))]

/-- Where an entry of a batch row's plane lies in the second scratch. -/
theorem plane_emb (g : Fin 4) (b : Fin 12) (x : S1x128x128.Idx) :
    (Rect.unit (s := S4x2064x128) ![g.val, 129 * b.val, 0] S1x128x128.size (plane_inb g b)).emb x = slot g b.val (x 1).val (x 2) := by
  have h0 : (x 0).val < 1 := (x 0).isLt
  have h1 : (x 1).val < 128 := (x 1).isLt
  have hb := b.isLt
  funext a
  apply Fin.ext
  unfold slot
  fin_cases a
  · show g.val + 1 * (x 0).val = g.val; omega
  · show 129 * b.val + 1 * (x 1).val = (129 * b.val + (x 1).val) % 2064; omega
  · show 0 + 1 * (x 2).val = (x 2).val; omega

/-- A store of a batch row's plane leaves the drives' values at every entry of it. -/
theorem plane_piece (g : Fin 4) (b : Fin 12) (v : Vec Ideal S1x128x128 .f32) (hv : ∀ (j0 : Fin 1) (j1 j2 : Fin 128), v (ix3 j0 j1 j2) = driveAt (slab (F := Ideal) arg1 X1 b) (bmat (F := Ideal) arg2 X2) j1 ⟨128 * g.val + j2.val, by omega⟩)
    (x : S1x128x128.Idx) : v x = driveTable arg1 arg2 X1 X2 ((Rect.unit (s := S4x2064x128) ![g.val, 129 * b.val, 0] S1x128x128.size (plane_inb g b)).emb x) := by
  rw [plane_emb, driveTable_slot arg1 arg2 X1 X2 g b (x 1).val (x 1).isLt (x 2), eta3 v x]
  exact hv (x 0) (x 1) (x 2)

/-- A drive depends on the state's number alone. -/
theorem idx_congr (v : S1x128x2560.Idx → EReal) (w : S512x2560.Idx → EReal) (t : Fin 128) {s s' : Fin 512} (h : s.val = s'.val) : driveAt v w t s = driveAt v w t s' := by
  rw [Fin.ext h]

/-- THE DRIVE `project` leaves in the scratch's slots of the twelve rows. -/
theorem drive_read (f18 : BufTy.Contents (Elt Ideal) arg18.view.ty) (g : Fin 4) (b : Fin 12) (k : ℕ) (hk : k < 128) (l : Fin 128) :
    arg18.view.read (Elt Ideal) (arg18.view.writes (Elt Ideal) f18 (drivePieces (F := Ideal) arg1 arg2 X1 X2)) (slot g b.val k l)
      = driveAt (slab (F := Ideal) arg1 X1 b) (bmat (F := Ideal) arg2 X2) ⟨k, hk⟩ ⟨128 * g.val + l.val, by omega⟩ := by
  rw [← driveTable_slot arg1 arg2 X1 X2 g b k hk l]
  refine View.read_writes_apply_of_pieces arg18.view f18 (driveTable arg1 arg2 X1 X2) _ ?_ _ ?_
  · intro p hp
    unfold drivePieces at hp
    rw [List.mem_flatMap] at hp
    obtain ⟨b, _, hp⟩ := hp
    simp only [List.mem_cons, List.not_mem_nil, or_false] at hp
    rcases hp with rfl | rfl | rfl | rfl
    · exact plane_piece arg1 arg2 X1 X2 3 b _ fun j0 j1 j2 => (plane3_apply _ _ j0 j1 j2).trans (idx_congr _ _ _ (by show 384 + j2.val = 128 * 3 + j2.val; omega))
    · exact plane_piece arg1 arg2 X1 X2 2 b _ fun j0 j1 j2 => (plane2_apply _ _ j0 j1 j2).trans (idx_congr _ _ _ (by show 256 + j2.val = 128 * 2 + j2.val; omega))
    · exact plane_piece arg1 arg2 X1 X2 1 b _ fun j0 j1 j2 => (plane1_apply _ _ j0 j1 j2).trans (idx_congr _ _ _ (by show 128 + j2.val = 128 * 1 + j2.val; omega))
    · exact plane_piece arg1 arg2 X1 X2 0 b _ fun j0 j1 j2 => (plane0_apply _ _ j0 j1 j2).trans (idx_congr _ _ _ (by show j2.val = 128 * 0 + j2.val; omega))
  · have hm : slot g b.val k l ∈ (Rect.unit (s := S4x2064x128) ![g.val, 129 * b.val, 0] S1x128x128.size (plane_inb g b)).set := by
      have := LoadRect.idx_mem (Rect.unit (s := S4x2064x128) ![g.val, 129 * b.val, 0] S1x128x128.size (plane_inb g b)).toLoadRect (ix3 (0 : Fin 1) (⟨k, hk⟩ : Fin 128) l)
      exact (plane_emb g b (ix3 (0 : Fin 1) (⟨k, hk⟩ : Fin 128) l)) ▸ this
    have hex : ∃ w, (⟨Rect.unit (s := S4x2064x128) ![g.val, 129 * b.val, 0] S1x128x128.size (plane_inb g b), w⟩ : View.Piece (Elt Ideal) S4x2064x128 .f32) ∈ drivePieces (F := Ideal) arg1 arg2 X1 X2 := by
      fin_cases g
      · exact ⟨_, List.mem_flatMap.2 ⟨b, mem_rows b, List.mem_cons_of_mem _ (List.mem_cons_of_mem _ (List.mem_cons_of_mem _ List.mem_cons_self))⟩⟩
      · exact ⟨_, List.mem_flatMap.2 ⟨b, mem_rows b, List.mem_cons_of_mem _ (List.mem_cons_of_mem _ List.mem_cons_self)⟩⟩
      · exact ⟨_, List.mem_flatMap.2 ⟨b, mem_rows b, List.mem_cons_of_mem _ List.mem_cons_self⟩⟩
      · exact ⟨_, List.mem_flatMap.2 ⟨b, mem_rows b, List.mem_cons_self⟩⟩
    obtain ⟨w, hw⟩ := hex
    exact ⟨_, hw, hm⟩

/-- THE CODES' BLOCK as stored. -/
theorem code_read (v : View sig .tc .vmem S12x128x2560 .fp8e4m3) (f : BufTy.Contents (Elt Ideal) v.ty) (y : S12x128x2560.Idx) :
    v.read (Elt Ideal) (v.writes (Elt Ideal) f (codePieces (F := Ideal) arg1 X1)) y = Cert.Spec.code Cert.Spec.invK (rowOf (slab (F := Ideal) arg1 X1 (y 0)) (y 1)) (y 2) := by
  refine (slabs_read v f _ (fun b => codesOf (F := Ideal) (slab (F := Ideal) arg1 X1 b)) (fun p => ?_) y).trans (codesOf_apply _ _ _ _)
  unfold codePieces
  rw [List.mem_map]
  constructor
  · rintro ⟨b, _, h⟩; exact ⟨b, h.symm⟩
  · rintro ⟨b, h⟩; exact ⟨b, mem_rows b, h.symm⟩

/-- Where an entry of a batch row's scales lies in the array of scales. -/
theorem scale_emb (b : Fin 12) (x : S1x128.Idx) :
    ((Rect.unit (s := S12x2048) (scaleOff i b) S1x128.size (scale_inb i b)).emb x 0).val = b.val ∧ ((Rect.unit (s := S12x2048) (scaleOff i b) S1x128.size (scale_inb i b)).emb x 1).val = 128 * (i 0).val + (x 1).val := by
  have h0 : (x 0).val < 1 := (x 0).isLt
  constructor
  · show scaleOff i b 0 + 1 * (x 0).val = b.val
    rw [scaleOff_eq]; show b.val + 1 * (x 0).val = b.val; omega
  · show scaleOff i b 1 + 1 * (x 1).val = _
    rw [scaleOff_eq]; show 128 * (i 0).val + 1 * (x 1).val = _; omega

/-- THE SCALES as stored: the point's 128 columns at the rows' scales, the others as they were. -/
theorem scale_read (v : View sig .tc .vmem S12x2048 .f32) (f : BufTy.Contents (Elt Ideal) v.ty) (y : S12x2048.Idx) :
    v.read (Elt Ideal) (v.writes (Elt Ideal) f (scalePieces (F := Ideal) i arg1 X1)) y
      = if 128 * (i 0).val ≤ (y 1).val ∧ (y 1).val < 128 * (i 0).val + 128 then Cert.Spec.scaleK (rowOf (slab (F := Ideal) arg1 X1 (y 0)) (Fin.ofNat 128 ((y 1).val - 128 * (i 0).val)))
        else v.read (Elt Ideal) f y := by
  split
  · rename_i h
    have hy0 : (y 0).val < 12 := (y 0).isLt
    refine View.read_writes_apply_of_pieces v f (fun y : S12x2048.Idx => Cert.Spec.scaleK (rowOf (slab (F := Ideal) arg1 X1 (y 0)) (Fin.ofNat 128 ((y 1).val - 128 * (i 0).val)))) _ ?_ y ?_
    · intro p hp
      unfold scalePieces at hp
      rw [List.mem_map] at hp
      obtain ⟨b, _, rfl⟩ := hp
      intro x
      change S1x128.Idx at x
      obtain ⟨e0, e1⟩ := scale_emb i b x
      have hx1 : (x 1).val < 128 := (x 1).isLt
      show scalesOf (F := Ideal) (slab (F := Ideal) arg1 X1 b) x = _
      have hx : x = ix2 (x 0 : Fin 1) (x 1 : Fin 128) := by funext a; fin_cases a <;> rfl
      refine ((congrArg _ hx).trans (scalesOf_apply _ (x 0) (x 1))).trans ?_
      show _ = Cert.Spec.scaleK (rowOf (slab (F := Ideal) arg1 X1 ((Rect.unit (s := S12x2048) (scaleOff i b) S1x128.size (scale_inb i b)).emb x 0)) (Fin.ofNat 128 (((Rect.unit (s := S12x2048) (scaleOff i b) S1x128.size (scale_inb i b)).emb x 1).val - 128 * (i 0).val)))
      rw [e1, show (Rect.unit (s := S12x2048) (scaleOff i b) S1x128.size (scale_inb i b)).emb x 0 = b from Fin.ext e0,
        show Fin.ofNat 128 (128 * (i 0).val + (x 1).val - 128 * (i 0).val) = x 1 from Fin.ext (by show (128 * (i 0).val + (x 1).val - 128 * (i 0).val) % 128 = (x 1).val; omega)]
    · refine ⟨_, by unfold scalePieces; exact List.mem_map.2 ⟨y 0, mem_rows (y 0), rfl⟩, ?_⟩
      refine mem_unit _ _ (scale_inb i (y 0)) y fun a => ?_
      rw [show scaleOff i (y 0) = _ from scaleOff_eq i (y 0)]
      fin_cases a
      · exact ⟨le_refl _, by show (y 0).val < (y 0).val + 1; omega⟩
      · exact h
  · rename_i h
    refine View.read_writes_apply_of_forall_not_mem _ _ _ _ ?_
    intro p hp
    unfold scalePieces at hp
    rw [List.mem_map] at hp
    obtain ⟨b, _, rfl⟩ := hp
    intro hy
    obtain ⟨x, hx⟩ := LoadRect.exists_idx_of_mem _ hy
    replace hx : (Rect.unit (s := S12x2048) (scaleOff i b) S1x128.size (scale_inb i b)).emb x = y := hx
    change S1x128.Idx at x
    have hx1 : (x 1).val < 128 := (x 1).isLt
    have e := (scale_emb i b x).2
    rw [hx] at e
    omega

/-- THE OUTPUT'S BLOCK as stored. -/
theorem out_read (v : View sig .tc .vmem S12x128x2560 .bf16) (f : BufTy.Contents (Elt Ideal) v.ty) (G : BufTy.Contents (Elt Ideal) arg18.view.ty) (b : Fin 12) (t : Fin 128) (o : Fin 2560) :
    v.read (Elt Ideal) (v.writes (Elt Ideal) f (outPieces (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X4 X5 X9 G)) (ix3 b t o)
      = (∑ s : Fin 512, arg18.view.read (Elt Ideal) G (slot ⟨s.val / 128, by omega⟩ b.val t.val ⟨s.val % 128, by omega⟩) * arg4.view.read (Elt Ideal) X4 (ix2 o s))
          * arg5.view.read (Elt Ideal) X5 (ix2 0 o) + arg9.view.read (Elt Ideal) X9 (ix2 0 o) * arg1.view.read (Elt Ideal) X1 (ix3 b t o) := by
  refine (slabs_read v f _ (outVal arg1 arg4 arg5 arg9 arg18 X1 X4 X5 X9 G) (fun p => ?_) (ix3 b t o)).trans (outVal_apply _ _ _ _ _ _ _ _ _ _ b t o)
  unfold outPieces
  rw [out_mem c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X4 X5 X9 G _ (le_refl _)]
  have htr : k0_t2_loop.trips = 12 := by decide +kernel
  constructor
  · rintro ⟨b, _, h⟩; exact ⟨b, h⟩
  · rintro ⟨b, h⟩; exact ⟨b, by show b.val < k0_t2_loop.trips; rw [htr]; exact b.isLt, h⟩

end Cert.KernelIdeal.Hand
-- ==== Proof.KernelIdeal.First.lean ====
/- THE FIRST POINT in the same terms. -/
module

public import proofs.«01_k».proof.Proof.KernelIdeal.Canon
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
variable (f17 : BufTy.Contents (Elt F) arg17.view.ty) (f18 : BufTy.Contents (Elt F) arg18.view.ty) (f19 : BufTy.Contents (Elt F) arg19.view.ty)

/-- The pieces of the parameter scratch. -/
def paramPieces : List (View.Piece (Elt F) S6x8x256 .f32) :=
  [⟨Rect.unit (s := S6x8x256) ![5, 0, 0] S1x8x256.size inb_S6x8x256_S1x8x256_5_0_0, k0_pay23 (k0_pay16 (arg6.view.readAt (Elt F) (Rect.unit (s := S1x256) ![0, 0] S1x256.size inb_S1x256_S1x256_0_0).toLoadRect X6) (arg7.view.readAt (Elt F) (Rect.unit (s := S1x256) ![0, 0] S1x256.size inb_S1x256_S1x256_0_0).toLoadRect X7) (arg8.view.readAt (Elt F) (Rect.unit (s := S1x256) ![0, 0] S1x256.size inb_S1x256_S1x256_0_0).toLoadRect X8) (arg3.view.readAt (Elt F) (Rect.unit (s := S2x256) ![0, 0] S2x256.size inb_S2x256_S2x256_0_0).toLoadRect X3))⟩,
    ⟨Rect.unit (s := S6x8x256) ![4, 0, 0] S1x8x256.size inb_S6x8x256_S1x8x256_4_0_0, k0_pay22 (k0_pay15 (arg6.view.readAt (Elt F) (Rect.unit (s := S1x256) ![0, 0] S1x256.size inb_S1x256_S1x256_0_0).toLoadRect X6) (arg7.view.readAt (Elt F) (Rect.unit (s := S1x256) ![0, 0] S1x256.size inb_S1x256_S1x256_0_0).toLoadRect X7) (arg8.view.readAt (Elt F) (Rect.unit (s := S1x256) ![0, 0] S1x256.size inb_S1x256_S1x256_0_0).toLoadRect X8) (arg3.view.readAt (Elt F) (Rect.unit (s := S2x256) ![0, 0] S2x256.size inb_S2x256_S2x256_0_0).toLoadRect X3))⟩,
    ⟨Rect.unit (s := S6x8x256) ![3, 0, 0] S1x8x256.size inb_S6x8x256_S1x8x256_3_0_0, k0_pay21 (k0_pay14 (arg6.view.readAt (Elt F) (Rect.unit (s := S1x256) ![0, 0] S1x256.size inb_S1x256_S1x256_0_0).toLoadRect X6) (arg7.view.readAt (Elt F) (Rect.unit (s := S1x256) ![0, 0] S1x256.size inb_S1x256_S1x256_0_0).toLoadRect X7) (arg8.view.readAt (Elt F) (Rect.unit (s := S1x256) ![0, 0] S1x256.size inb_S1x256_S1x256_0_0).toLoadRect X8) (arg3.view.readAt (Elt F) (Rect.unit (s := S2x256) ![0, 0] S2x256.size inb_S2x256_S2x256_0_0).toLoadRect X3))⟩,
    ⟨Rect.unit (s := S6x8x256) ![2, 0, 0] S1x8x256.size inb_S6x8x256_S1x8x256_2_0_0, k0_pay20 (k0_pay13 (arg6.view.readAt (Elt F) (Rect.unit (s := S1x256) ![0, 0] S1x256.size inb_S1x256_S1x256_0_0).toLoadRect X6) (arg7.view.readAt (Elt F) (Rect.unit (s := S1x256) ![0, 0] S1x256.size inb_S1x256_S1x256_0_0).toLoadRect X7) (arg8.view.readAt (Elt F) (Rect.unit (s := S1x256) ![0, 0] S1x256.size inb_S1x256_S1x256_0_0).toLoadRect X8) (arg3.view.readAt (Elt F) (Rect.unit (s := S2x256) ![0, 0] S2x256.size inb_S2x256_S2x256_0_0).toLoadRect X3))⟩,
    ⟨Rect.unit (s := S6x8x256) ![1, 0, 0] S1x8x256.size inb_S6x8x256_S1x8x256_1_0_0, k0_pay19 (k0_pay18 (arg6.view.readAt (Elt F) (Rect.unit (s := S1x256) ![0, 0] S1x256.size inb_S1x256_S1x256_0_0).toLoadRect X6) (arg7.view.readAt (Elt F) (Rect.unit (s := S1x256) ![0, 0] S1x256.size inb_S1x256_S1x256_0_0).toLoadRect X7) (arg8.view.readAt (Elt F) (Rect.unit (s := S1x256) ![0, 0] S1x256.size inb_S1x256_S1x256_0_0).toLoadRect X8))⟩,
    ⟨Rect.unit (s := S6x8x256) ![0, 0, 0] S1x8x256.size inb_S6x8x256_S1x8x256_0_0_0, k0_pay17 (arg6.view.readAt (Elt F) (Rect.unit (s := S1x256) ![0, 0] S1x256.size inb_S1x256_S1x256_0_0).toLoadRect X6) (arg7.view.readAt (Elt F) (Rect.unit (s := S1x256) ![0, 0] S1x256.size inb_S1x256_S1x256_0_0).toLoadRect X7) (arg8.view.readAt (Elt F) (Rect.unit (s := S1x256) ![0, 0] S1x256.size inb_S1x256_S1x256_0_0).toLoadRect X8)⟩]

/-- The pieces of the state scratch at the first point: zero, then the initial state's four halves. -/
def startPieces : List (View.Piece (Elt F) S4x16x128 .f32) :=
  [⟨Rect.unit (s := S4x16x128) ![3, 0, 0] S1x12x128.size inb_S4x16x128_S1x12x128_3_0_0, k0_pay63 (arg11.view.readAt (Elt F) (Rect.unit (s := S12x256) ![0, 128] S12x128.size inb_S12x256_S12x128_0_128).toLoadRect X11)⟩,
    ⟨Rect.unit (s := S4x16x128) ![1, 0, 0] S1x12x128.size inb_S4x16x128_S1x12x128_1_0_0, k0_pay62 (arg10.view.readAt (Elt F) (Rect.unit (s := S12x256) ![0, 128] S12x128.size inb_S12x256_S12x128_0_128).toLoadRect X10)⟩,
    ⟨Rect.unit (s := S4x16x128) ![2, 0, 0] S1x12x128.size inb_S4x16x128_S1x12x128_2_0_0, k0_pay61 (arg11.view.readAt (Elt F) (Rect.unit (s := S12x256) ![0, 0] S12x128.size inb_S12x256_S12x128_0_0).toLoadRect X11)⟩,
    ⟨Rect.unit (s := S4x16x128) ![0, 0, 0] S1x12x128.size inb_S4x16x128_S1x12x128_0_0_0, k0_pay60 (arg10.view.readAt (Elt F) (Rect.unit (s := S12x256) ![0, 0] S12x128.size inb_S12x256_S12x128_0_0).toLoadRect X10)⟩,
    ⟨Rect.unit (s := S4x16x128) ![0, 0, 0] S4x16x128.size inb_S4x16x128_S4x16x128_0_0_0, k0_pay24⟩]

/-- The drive scratch cleared. -/
def clearPieces : List (View.Piece (Elt F) S4x2064x128 .f32) :=
  [⟨Rect.unit (s := S4x2064x128) ![0, 0, 0] S4x2064x128.size inb_S4x2064x128_S4x2064x128_0_0_0, k0_pay25⟩]

set_option maxHeartbeats 4000000 in
/-- THE FIRST POINT is the same over the scratches as the first point sets them. -/
theorem runFirst_eq (hc) :
    (runFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X3 X4 X5 X6 X7 X8 X9 X10 X11 f17 f18 f19 hc).1
      = bodyVal c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X4 X5 X9 (arg17.view.writes (Elt F) arg17.view.junk (paramPieces arg3 arg6 arg7 arg8 X3 X6 X7 X8))
          (arg18.view.writes (Elt F) arg18.view.junk clearPieces) (arg19.view.writes (Elt F) arg19.view.junk (startPieces arg10 arg11 X10 X11))
          (arg19.view.writes (Elt F) arg19.view.junk (startPieces arg10 arg11 X10 X11)) := by
  unfold runFirst
  simp only [bodyVal, ← View.writes_append]
  rfl

end Cert.KernelIdeal.Hand
-- ==== Proof.KernelIdeal.Params.lean ====
/- THE PARAMETERS the first point stores. -/
module

public import proofs.«01_k».proof.Proof.KernelIdeal.First
public import proofs.«01_k».proof.Proof.Spec
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section

variable (A : Cert.Spec.Args) (v6 v7 v8 : Vec Ideal S1x256 .f32) (w : Vec Ideal S2x256 .f32)
variable (h6 : ∀ n, v6 (ix2 0 n) = A.lre n) (h7 : ∀ n, v7 (ix2 0 n) = A.lim n) (h8 : ∀ n, v8 (ix2 0 n) = A.ldt n) (hw : ∀ p n, w (ix2 p n) = A.bs p n)

/-- The six planes of the parameter scratch. -/
def paramAt (A : Cert.Spec.Args) (p : Fin 6) (n : Fin 256) : EReal :=
  match p with
  | 0 => Cert.Spec.lamRe A n
  | 1 => Cert.Spec.lamIm A n
  | 2 => Cert.Spec.coRe A n * A.bs 0 n
  | 3 => Cert.Spec.coIm A n * A.bs 1 n
  | 4 => Cert.Spec.coRe A n * A.bs 1 n
  | 5 => Cert.Spec.coIm A n * A.bs 0 n

include h6 h7 h8 hw in
/-- The stored parameter row 0 (eigenvalue, real part), entry by entry. -/
theorem par0_apply (j0 : Fin 1) (j1 : Fin 8) (n : Fin 256) : k0_pay17 (F := Ideal) v6 v7 v8 (ix3 j0 j1 n) = paramAt A 0 n := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  simp only [h6, h7, h8, hw]
  rfl

include h6 h7 h8 hw in
/-- The stored parameter row 1 (eigenvalue, imaginary part), entry by entry. -/
theorem par1_apply (j0 : Fin 1) (j1 : Fin 8) (n : Fin 256) : k0_pay19 (F := Ideal) (k0_pay18 v6 v7 v8) (ix3 j0 j1 n) = paramAt A 1 n := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  simp only [h6, h7, h8, hw]
  rfl

include h6 h7 h8 hw in
/-- The stored parameter row 2 (input factor on the real half, for the real part), entry by entry. -/
theorem par2_apply (j0 : Fin 1) (j1 : Fin 8) (n : Fin 256) : k0_pay20 (F := Ideal) (k0_pay13 v6 v7 v8 w) (ix3 j0 j1 n) = paramAt A 2 n := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  simp only [h6, h7, h8, hw]
  rfl

include h6 h7 h8 hw in
/-- The stored parameter row 3 (input factor on the imaginary half, for the real part), entry by entry. -/
theorem par3_apply (j0 : Fin 1) (j1 : Fin 8) (n : Fin 256) : k0_pay21 (F := Ideal) (k0_pay14 v6 v7 v8 w) (ix3 j0 j1 n) = paramAt A 3 n := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  simp only [h6, h7, h8, hw]
  rfl

include h6 h7 h8 hw in
/-- The stored parameter row 4 (input factor on the imaginary half, for the imaginary part), entry by entry. -/
theorem par4_apply (j0 : Fin 1) (j1 : Fin 8) (n : Fin 256) : k0_pay22 (F := Ideal) (k0_pay15 v6 v7 v8 w) (ix3 j0 j1 n) = paramAt A 4 n := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  simp only [h6, h7, h8, hw]
  rfl

include h6 h7 h8 hw in
/-- The stored parameter row 5 (input factor on the real half, for the imaginary part), entry by entry. -/
theorem par5_apply (j0 : Fin 1) (j1 : Fin 8) (n : Fin 256) : k0_pay23 (F := Ideal) (k0_pay16 v6 v7 v8 w) (ix3 j0 j1 n) = paramAt A 5 n := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  simp only [h6, h7, h8, hw]
  rfl

end

end Cert.KernelIdeal.Hand
-- ==== Proof.KernelIdeal.Value.lean ====
/- ONE RUN OF THE BODY, in the layer's terms: from the layer's state after `128 T` steps it leaves the outputs, codes and scales of the next 128 steps and the state after them. -/
module

public import proofs.«01_k».proof.Proof.KernelIdeal.Stores
public import proofs.«01_k».proof.Proof.KernelIdeal.Params
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty)
variable (f17 : BufTy.Contents (Elt Ideal) arg17.view.ty) (f18 : BufTy.Contents (Elt Ideal) arg18.view.ty) (f19 : BufTy.Contents (Elt Ideal) arg19.view.ty)
open Cert.Spec (scaleK invK)

/-- Time `k` of point `T`. -/
def col (T k : ℕ) : Fin 2048 := Fin.ofNat 2048 (128 * T + k)

/-- The scan's drive of twelve rows is the layer's. -/
def Drives (A : Cert.Spec.Args) (T : ℕ) (U : S4x2064x128.Idx → EReal) : Prop :=
  ∀ (g : Fin 4) (b : Fin 12) (k : ℕ), k < 128 → ∀ l : Fin 128, U (slot g b.val k l) = Cert.Spec.bu invK A b (col T k) ⟨128 * g.val + l.val, by omega⟩ * scaleK (A.x b (col T k))

/-- The parameter scratch holds the layer's parameters. -/
def Params (A : Cert.Spec.Args) (P : S6x8x256.Idx → EReal) : Prop := ∀ (p : Fin 6) (r : Fin 8) (n : Fin 256), P (ix3 p r n) = paramAt A p n

/-- The states of the batch's twelve rows are the layer's after `t` steps. -/
def StatesOk (A : Cert.Spec.Args) (t : ℕ) (H : States) : Prop := ∀ (b : Fin 12) (n : Fin 256), H (row16 b) n = Cert.Spec.state scaleK invK A t b n

/-- THE SCAN'S STATES are the recurrence's. -/
theorem statesAt_spec (A : Cert.Spec.Args) (T : ℕ) (P : S6x8x256.Idx → EReal) (U : S4x2064x128.Idx → EReal) (H0 : States) (hP : Params A P) (hU : Drives A T U) (h0 : StatesOk A (128 * T) H0) :
    ∀ k, k ≤ 128 → StatesOk A (128 * T + k) (statesAt P U H0 k)
  | 0, _ => h0
  | k + 1, hk => by
    have ih := statesAt_spec A T P U H0 hP hU h0 k (by omega)
    intro b n
    have eR : driveRe U k (row16 b) n = Cert.Spec.buRe invK A b (col T k) n * scaleK (A.x b (col T k)) := by
      refine (hU _ b k (by omega) _).trans ?_
      unfold Cert.Spec.buRe
      congr 2
      apply Fin.ext; show 128 * (n.val / 128) + n.val % 128 = n.val; omega
    have eI : driveIm U k (row16 b) n = Cert.Spec.buIm invK A b (col T k) n * scaleK (A.x b (col T k)) := by
      refine (hU _ b k (by omega) _).trans ?_
      unfold Cert.Spec.buIm
      congr 2
      apply Fin.ext; show 128 * (2 + n.val / 128) + n.val % 128 = 256 + n.val; omega
    have hc : Fin.ofNat 2048 (128 * T + k) = col T k := rfl
    refine Prod.ext ?_ ?_
    · show stepRe P (driveRe U k (row16 b) n) (driveIm U k (row16 b) n) (statesAt P U H0 k (row16 b) n) (row16 b) n = _
      rw [eR, eI, ih b n]
      unfold stepRe
      rw [hP, hP, hP, hP]
      show (Cert.Spec.coRe A n * A.bs 0 n) * _ - (Cert.Spec.coIm A n * A.bs 1 n) * _ + (Cert.Spec.lamRe A n * _ - Cert.Spec.lamIm A n * _) = (Cert.Spec.lamRe A n * _ - Cert.Spec.lamIm A n * _) + Cert.Spec.driveR scaleK invK A b (Fin.ofNat 2048 (128 * T + k)) n
      rw [hc, add_comm]
      unfold Cert.Spec.driveR
      refine congrArg₂ (· + ·) rfl (congrArg₂ (· - ·) ?_ ?_) <;> ac_rfl
    · show stepIm P (driveRe U k (row16 b) n) (driveIm U k (row16 b) n) (statesAt P U H0 k (row16 b) n) (row16 b) n = _
      rw [eR, eI, ih b n]
      unfold stepIm
      rw [hP, hP, hP, hP]
      show (Cert.Spec.coRe A n * A.bs 1 n) * _ + (Cert.Spec.coIm A n * A.bs 0 n) * _ + (Cert.Spec.lamRe A n * _ + Cert.Spec.lamIm A n * _) = (Cert.Spec.lamRe A n * _ + Cert.Spec.lamIm A n * _) + Cert.Spec.driveI scaleK invK A b (Fin.ofNat 2048 (128 * T + k)) n
      rw [hc, add_comm]
      unfold Cert.Spec.driveI
      refine congrArg₂ (· + ·) rfl (congrArg₂ (· + ·) ?_ ?_) <;> ac_rfl

/-- A slot the scan has passed, as the output matrix meets it. -/
theorem passed_slot (A : Cert.Spec.Args) (T : ℕ) (P : S6x8x256.Idx → EReal) (U : S4x2064x128.Idx → EReal) (H0 : States) (hP : Params A P) (hU : Drives A T U) (h0 : StatesOk A (128 * T) H0)
    (b : Fin 12) (t : Fin 128) (s : Fin 512) :
    planeAt P U H0 128 (slot ⟨s.val / 128, by omega⟩ b.val t.val ⟨s.val % 128, by omega⟩) = Cert.Spec.both (Cert.Spec.state scaleK invK A (128 * T + t.val + 1) b) s := by
  have hb := b.isLt
  have ht := t.isLt
  have hs := s.isLt
  have hst := statesAt_spec A T P U H0 hP hU h0 (t.val + 1) (by omega)
  have e1 : (129 * b.val + t.val) % 2064 % 129 = t.val := by omega
  unfold planeAt
  show (if (129 * b.val + t.val) % 2064 % 129 < 128 then bandsNew (statesAt P U H0 ((129 * b.val + t.val) % 2064 % 129 + 1)) _ else _) = _
  rw [e1, if_pos ht]
  have er : Fin.ofNat 16 ((129 * b.val + t.val) % 2064 / 129) = row16 b := Fin.ext (by show (129 * b.val + t.val) % 2064 / 129 % 16 = b.val; omega)
  unfold bandsNew Cert.Spec.both
  show (if s.val / 128 < 2 then (statesAt P U H0 (t.val + 1) (Fin.ofNat 16 ((129 * b.val + t.val) % 2064 / 129)) (Fin.ofNat 256 (128 * (s.val / 128) + s.val % 128))).1
    else -(statesAt P U H0 (t.val + 1) (Fin.ofNat 16 ((129 * b.val + t.val) % 2064 / 129)) (Fin.ofNat 256 (128 * (s.val / 128 - 2) + s.val % 128))).2) = _
  rw [er]
  by_cases h : s.val < 256
  · rw [if_pos (by omega), dif_pos h, hst b]
    rw [show Fin.ofNat 256 (128 * (s.val / 128) + s.val % 128) = ⟨s.val, h⟩ from Fin.ext (by show (128 * (s.val / 128) + s.val % 128) % 256 = s.val; omega)]
    rfl
  · rw [if_neg (by omega), dif_neg h, hst b]
    rw [show Fin.ofNat 256 (128 * (s.val / 128 - 2) + s.val % 128) = ⟨s.val - 256, by omega⟩ from Fin.ext (by show (128 * (s.val / 128 - 2) + s.val % 128) % 256 = s.val - 256; omega)]
    rfl

/-- The input windows hold the layer's arguments, the first of them point `T`'s block. -/
structure Ins (A : Cert.Spec.Args) (T : ℕ) : Prop where
  x : ∀ (b : Fin 12) (k : Fin 128) (o : Fin 2560), arg1.view.read (Elt Ideal) X1 (ix3 b k o) = A.x b (col T k.val) o
  b : ∀ (s : Fin 512) (k : Fin 2560), arg2.view.read (Elt Ideal) X2 (ix2 s k) = A.bw s k
  c : ∀ (o : Fin 2560) (s : Fin 512), arg4.view.read (Elt Ideal) X4 (ix2 o s) = A.cw o s
  cs : ∀ o : Fin 2560, arg5.view.read (Elt Ideal) X5 (ix2 0 o) = A.cs o
  d : ∀ o : Fin 2560, arg9.view.read (Elt Ideal) X9 (ix2 0 o) = A.d o

/-- The matrix the body reads is the whole of its window. -/
theorem bmat_eq : bmat (F := Ideal) arg2 X2 = arg2.view.read (Elt Ideal) X2 := readAt_whole2 arg2.view X2 _

/-- A row of a slab is the input's row at the tile's position. -/
theorem row_eq (A : Cert.Spec.Args) (T : ℕ) (hx : ∀ (b : Fin 12) (k : Fin 128) (o : Fin 2560), arg1.view.read (Elt Ideal) X1 (ix3 b k o) = A.x b (col T k.val) o) (b : Fin 12) (k : Fin 128) :
    rowOf (slab (F := Ideal) arg1 X1 b) k = A.x b (col T k.val) := by
  funext o
  exact (slab_apply arg1 X1 b 0 k o).trans (hx b k o)

/-- After the projection the second scratch holds the tile's drives at every batch row's slots. -/
theorem drives_of (A : Cert.Spec.Args) (T : ℕ) (h : Ins arg1 arg2 arg4 arg5 arg9 X1 X2 X4 X5 X9 A T) : Drives A T (arg18.view.read (Elt Ideal) (arg18.view.writes (Elt Ideal) f18 (drivePieces (F := Ideal) arg1 arg2 X1 X2))) := by
  intro g b k hk l
  rw [drive_read arg1 arg2 arg18 X1 X2 f18 g b k hk l]
  unfold driveAt Cert.Spec.bu
  rw [row_eq arg1 X1 A T h.x b ⟨k, hk⟩, bmat_eq]
  simp only [h.b]

/-- What one run of the body must leave, as a statement of its eight values. -/
structure Leaves (A : Cert.Spec.Args) (T : ℕ) (B : List (View.Piece (Elt Ideal) S12x128x2560 .bf16) × List (View.Piece (Elt Ideal) S12x256 .f32) × List (View.Piece (Elt Ideal) S12x256 .f32) × List (View.Piece (Elt Ideal) S12x128x2560 .fp8e4m3) × List (View.Piece (Elt Ideal) S12x2048 .f32) × BufTy.Contents (Elt Ideal) arg17.view.ty × BufTy.Contents (Elt Ideal) arg18.view.ty × BufTy.Contents (Elt Ideal) arg19.view.ty) : Prop where
  y : ∀ (v : View sig .tc .vmem S12x128x2560 .bf16) (f : BufTy.Contents (Elt Ideal) v.ty) (b : Fin 12) (t : Fin 128) (o : Fin 2560),
    v.read (Elt Ideal) (v.writes (Elt Ideal) f B.1) (ix3 b t o) = Cert.Spec.out A (Cert.Spec.state scaleK invK A (128 * T + t.val + 1) b) (A.x b (col T t.val)) o
  re : ∀ (v : View sig .tc .vmem S12x256 .f32) (f : BufTy.Contents (Elt Ideal) v.ty) (y : S12x256.Idx), v.read (Elt Ideal) (v.writes (Elt Ideal) f B.2.1) y = (Cert.Spec.state scaleK invK A (128 * T + 128) (y 0) (y 1)).1
  im : ∀ (v : View sig .tc .vmem S12x256 .f32) (f : BufTy.Contents (Elt Ideal) v.ty) (y : S12x256.Idx), v.read (Elt Ideal) (v.writes (Elt Ideal) f B.2.2.1) y = (Cert.Spec.state scaleK invK A (128 * T + 128) (y 0) (y 1)).2
  xc : ∀ (v : View sig .tc .vmem S12x128x2560 .fp8e4m3) (f : BufTy.Contents (Elt Ideal) v.ty) (b : Fin 12) (t : Fin 128) (o : Fin 2560),
    v.read (Elt Ideal) (v.writes (Elt Ideal) f B.2.2.2.1) (ix3 b t o) = Cert.Spec.code invK (A.x b (col T t.val)) o
  xs : ∀ (v : View sig .tc .vmem S12x2048 .f32) (f : BufTy.Contents (Elt Ideal) v.ty) (y : S12x2048.Idx), v.read (Elt Ideal) (v.writes (Elt Ideal) f B.2.2.2.2.1) y
    = if 128 * T ≤ (y 1).val ∧ (y 1).val < 128 * T + 128 then scaleK (A.x (y 0) (y 1)) else v.read (Elt Ideal) f y
  par : Params A (arg17.view.read (Elt Ideal) B.2.2.2.2.2.1)
  st : StatesOk A (128 * T + 128) (statesOf (arg19.view.read (Elt Ideal) B.2.2.2.2.2.2.2))

set_option maxHeartbeats 1000000 in
/-- ONE RUN OF THE BODY leaves the layer's values for its 128 time steps. -/
theorem body_leaves (A : Cert.Spec.Args) (J : BufTy.Contents (Elt Ideal) arg19.view.ty) (h : Ins arg1 arg2 arg4 arg5 arg9 X1 X2 X4 X5 X9 A (i 0).val) (hP : Params A (arg17.view.read (Elt Ideal) f17))
    (hS : StatesOk A (128 * (i 0).val) (statesOf (arg19.view.read (Elt Ideal) f19))) :
    Leaves arg17 arg18 arg19 A (i 0).val (bodyVal (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X4 X5 X9 f17 f18 f19 J) := by
  have hT : (i 0).val < 16 := (i 0).isLt
  have htr : k0_t1_loop.trips = 128 := by decide +kernel
  have hU := drives_of arg1 arg2 arg4 arg5 arg9 arg18 X1 X2 X4 X5 X9 f18 A (i 0).val h
  obtain ⟨s1, s2⟩ := scanAt_value c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (initOf (F := Ideal) arg19 f19).1 (initOf (F := Ideal) arg19 f19).2.1 (initOf (F := Ideal) arg19 f19).2.2.1 f17
    (arg18.view.writes (Elt Ideal) f18 (drivePieces (F := Ideal) arg1 arg2 X1 X2)) (statesOf (arg19.view.read (Elt Ideal) f19)) k0_t1_loop.trips (le_refl _)
  rw [← initOf_eq arg19 f19] at s1 s2
  have e1 : (scanned (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f17 f19 (arg18.view.writes (Elt Ideal) f18 (drivePieces (F := Ideal) arg1 arg2 X1 X2))).1 = _ := s1
  have e2 : arg18.view.read (Elt Ideal) (arg18.view.writes (Elt Ideal) (arg18.view.writes (Elt Ideal) f18 (drivePieces (F := Ideal) arg1 arg2 X1 X2)) (scanned (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f17 f19 (arg18.view.writes (Elt Ideal) f18 (drivePieces (F := Ideal) arg1 arg2 X1 X2))).2) = _ := s2
  rw [htr] at e1 e2
  clear s1 s2
  have hend := statesAt_spec A (i 0).val _ _ _ hP hU hS 128 (le_refl _)
  have hst : StatesOk A (128 * (i 0).val + 128) (statesOf (arg19.view.read (Elt Ideal) (bodyVal (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X2 X4 X5 X9 f17 f18 f19 J).2.2.2.2.2.2.2)) := by
    show StatesOk A _ (statesOf (arg19.view.read (Elt Ideal) (arg19.view.writes (Elt Ideal) J (statePieces (F := Ideal) (scanned (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f17 f19 (arg18.view.writes (Elt Ideal) f18 (drivePieces (F := Ideal) arg1 arg2 X1 X2))).1))))
    rw [e1, statePieces_read, statesOf_tableOf]
    exact hend
  refine ⟨?_, ?_, ?_, ?_, ?_, hP, hst⟩
  · intro v f b t o
    refine (out_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X1 X4 X5 X9 v f _ b t o).trans ?_
    unfold Cert.Spec.out
    rw [h.cs, h.d, h.x]
    refine congrArg₂ (· + ·) (congrArg₂ (· * ·) (Finset.sum_congr rfl fun s _ => congrArg₂ (· * ·) ?_ (h.c o s)) rfl) rfl
    exact (congrFun e2 _).trans (passed_slot A (i 0).val _ _ _ hP hU hS b t s)
  · intro v f y
    exact (finalRe_read arg19 v f _ y).trans (congrArg Prod.fst (hst (y 0) (y 1)))
  · intro v f y
    exact (finalIm_read arg19 v f _ y).trans (congrArg Prod.snd (hst (y 0) (y 1)))
  · intro v f b t o
    refine (code_read arg1 X1 v f (ix3 b t o)).trans ?_
    exact congrArg (fun r => Cert.Spec.code invK r o) (row_eq arg1 X1 A _ h.x b t)
  · intro v f y
    refine (scale_read i arg1 X1 v f y).trans ?_
    split
    · rename_i hy
      refine congrArg scaleK ((row_eq arg1 X1 A _ h.x (y 0) _).trans (congrArg (A.x (y 0)) (Fin.ext ?_)))
      show (128 * (i 0).val + ((y 1).val - 128 * (i 0).val) % 128) % 2048 = (y 1).val
      omega
    · rfl

end Cert.KernelIdeal.Hand
-- ==== Proof.KernelIdeal.Start.lean ====
/- WHAT THE FIRST POINT FINDS IN ITS SCRATCHES after it has set them: the discretised parameters and the initial states. -/
module

public import proofs.«01_k».proof.Proof.KernelIdeal.Value
public import proofs.«01_k».proof.Proof.KernelIdeal.First
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (c : Dev nD) (i : grid0.Coords) (arg1 : Memref sig .tc .vmem S12x128x2560 .bf16) (harg1 : arg1.IsWhole) (arg2 : Memref sig .tc .vmem S512x2560 .fp8e4m3) (harg2 : arg2.IsWhole) (arg3 : Memref sig .tc .vmem S2x256 .f32) (harg3 : arg3.IsWhole) (arg4 : Memref sig .tc .vmem S2560x512 .fp8e4m3) (harg4 : arg4.IsWhole) (arg5 : Memref sig .tc .vmem S1x2560 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x2560 .f32) (harg9 : arg9.IsWhole) (arg10 : Memref sig .tc .vmem S12x256 .f32) (harg10 : arg10.IsWhole) (arg11 : Memref sig .tc .vmem S12x256 .f32) (harg11 : arg11.IsWhole) (arg12 : Memref sig .tc .vmem S12x128x2560 .bf16) (harg12 : arg12.IsWhole) (arg13 : Memref sig .tc .vmem S12x256 .f32) (harg13 : arg13.IsWhole) (arg14 : Memref sig .tc .vmem S12x256 .f32) (harg14 : arg14.IsWhole) (arg15 : Memref sig .tc .vmem S12x128x2560 .fp8e4m3) (harg15 : arg15.IsWhole) (arg16 : Memref sig .tc .vmem S12x2048 .f32) (harg16 : arg16.IsWhole) (arg17 : Memref sig .tc .vmem S6x8x256 .f32) (harg17 : arg17.IsWhole) (arg18 : Memref sig .tc .vmem S4x2064x128 .f32) (harg18 : arg18.IsWhole) (arg19 : Memref sig .tc .vmem S4x16x128 .f32) (harg19 : arg19.IsWhole)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty)
variable (f17 : BufTy.Contents (Elt Ideal) arg17.view.ty) (f18 : BufTy.Contents (Elt Ideal) arg18.view.ty) (f19 : BufTy.Contents (Elt Ideal) arg19.view.ty)
/-- Where an entry of a parameter row lies in the first scratch. -/
theorem param_emb (A : Cert.Spec.Args) (p : Fin 6) (inb : ∀ a, (![p.val, 0, 0] : Fin 3 → ℕ) a + S1x8x256.size a ≤ S6x8x256.size a) (x : S1x8x256.Idx) :
    paramAt A p (x 2) = (fun y : S6x8x256.Idx => paramAt A (y 0) (y 2)) ((Rect.unit (s := S6x8x256) ![p.val, 0, 0] S1x8x256.size inb).emb x) := by
  have h0 : (x 0).val < 1 := (x 0).isLt
  refine congrArg₂ (paramAt A) (Fin.ext ?_) (Fin.ext ?_)
  · show p.val = p.val + 1 * (x 0).val; omega
  · show (x 2).val = 0 + 1 * (x 2).val; omega

/-- A store of a parameter row leaves the parameter's value at every entry of it. -/
theorem param_piece (A : Cert.Spec.Args) (p : Fin 6) (v : S1x8x256.Idx → EReal) (hv : ∀ (a : Fin 1) (b : Fin 8) (n : Fin 256), v (ix3 a b n) = paramAt A p n)
    (inb : ∀ a, (![p.val, 0, 0] : Fin 3 → ℕ) a + S1x8x256.size a ≤ S6x8x256.size a) (x : S1x8x256.Idx) :
    v x = (fun y : S6x8x256.Idx => paramAt A (y 0) (y 2)) ((Rect.unit (s := S6x8x256) ![p.val, 0, 0] S1x8x256.size inb).emb x) :=
  ((eta3 (n := 1) (m := 8) (p := 256) v x).trans (hv _ _ _)).trans (param_emb A p inb x)

set_option maxHeartbeats 1000000 in
/-- The first point's parameter scratch holds the discretised parameters. -/
theorem start_params (A : Cert.Spec.Args) (f : BufTy.Contents (Elt Ideal) arg17.view.ty) (h3 : ∀ p n, arg3.view.read (Elt Ideal) X3 (ix2 p n) = A.bs p n)
    (h6 : ∀ n, arg6.view.read (Elt Ideal) X6 (ix2 0 n) = A.lre n) (h7 : ∀ n, arg7.view.read (Elt Ideal) X7 (ix2 0 n) = A.lim n) (h8 : ∀ n, arg8.view.read (Elt Ideal) X8 (ix2 0 n) = A.ldt n) :
    Params A (arg17.view.read (Elt Ideal) (arg17.view.writes (Elt Ideal) f (paramPieces arg3 arg6 arg7 arg8 X3 X6 X7 X8))) := by
  intro p r n
  have h3' : ∀ (p : Fin 2) (n : Fin 256), arg3.view.readAt (Elt Ideal) (Rect.unit (s := S2x256) ![0, 0] S2x256.size inb_S2x256_S2x256_0_0).toLoadRect X3 (ix2 p n) = A.bs p n := fun p n => by
    rw [← h3]; exact congrFun (readAt_whole2 arg3.view X3 _) _
  have h6' : ∀ n : Fin 256, arg6.view.readAt (Elt Ideal) (Rect.unit (s := S1x256) ![0, 0] S1x256.size inb_S1x256_S1x256_0_0).toLoadRect X6 (ix2 0 n) = A.lre n := fun n => by
    rw [← h6]; exact congrFun (readAt_whole2 arg6.view X6 _) _
  have h7' : ∀ n : Fin 256, arg7.view.readAt (Elt Ideal) (Rect.unit (s := S1x256) ![0, 0] S1x256.size inb_S1x256_S1x256_0_0).toLoadRect X7 (ix2 0 n) = A.lim n := fun n => by
    rw [← h7]; exact congrFun (readAt_whole2 arg7.view X7 _) _
  have h8' : ∀ n : Fin 256, arg8.view.readAt (Elt Ideal) (Rect.unit (s := S1x256) ![0, 0] S1x256.size inb_S1x256_S1x256_0_0).toLoadRect X8 (ix2 0 n) = A.ldt n := fun n => by
    rw [← h8]; exact congrFun (readAt_whole2 arg8.view X8 _) _
  unfold paramPieces
  refine View.read_writes_apply_of_pieces arg17.view f (fun y : S6x8x256.Idx => paramAt A (y 0) (y 2)) _ ?_ (ix3 p r n) ?_
  · simp only [List.forall_mem_cons]
    refine ⟨?_, ?_, ?_, ?_, ?_, ?_, fun p hp => absurd hp List.not_mem_nil⟩
    · exact fun x => param_piece A 5 _ (fun a b n => par5_apply A _ _ _ _ h6' h7' h8' h3' a b n) _ x
    · exact fun x => param_piece A 4 _ (fun a b n => par4_apply A _ _ _ _ h6' h7' h8' h3' a b n) _ x
    · exact fun x => param_piece A 3 _ (fun a b n => par3_apply A _ _ _ _ h6' h7' h8' h3' a b n) _ x
    · exact fun x => param_piece A 2 _ (fun a b n => par2_apply A _ _ _ _ h6' h7' h8' h3' a b n) _ x
    · exact fun x => param_piece A 1 _ (fun a b n => par1_apply A _ _ _ _ h6' h7' h8' h3' a b n) _ x
    · exact fun x => param_piece A 0 _ (fun a b n => par0_apply A _ _ _ _ h6' h7' h8' h3' a b n) _ x
  · have hp : ∀ a, (![p.val, 0, 0] : Fin 3 → ℕ) a ≤ (ix3 p r n a).val ∧ (ix3 p r n a).val < (![p.val, 0, 0] : Fin 3 → ℕ) a + S1x8x256.size a := by
      intro a
      have h1 := r.isLt
      have h2 := n.isLt
      fin_cases a
      · show p.val ≤ p.val ∧ p.val < p.val + 1; omega
      · show 0 ≤ r.val ∧ r.val < 0 + 8; omega
      · show 0 ≤ n.val ∧ n.val < 0 + 256; omega
    fin_cases p
    · exact ⟨_, .tail _ (.tail _ (.tail _ (.tail _ (.tail _ (.head _))))), mem_unit _ _ inb_S6x8x256_S1x8x256_0_0_0 _ hp⟩
    · exact ⟨_, .tail _ (.tail _ (.tail _ (.tail _ (.head _)))), mem_unit _ _ inb_S6x8x256_S1x8x256_1_0_0 _ hp⟩
    · exact ⟨_, .tail _ (.tail _ (.tail _ (.head _))), mem_unit _ _ inb_S6x8x256_S1x8x256_2_0_0 _ hp⟩
    · exact ⟨_, .tail _ (.tail _ (.head _)), mem_unit _ _ inb_S6x8x256_S1x8x256_3_0_0 _ hp⟩
    · exact ⟨_, .tail _ (.head _), mem_unit _ _ inb_S6x8x256_S1x8x256_4_0_0 _ hp⟩
    · exact ⟨_, .head _, mem_unit _ _ inb_S6x8x256_S1x8x256_5_0_0 _ hp⟩

/-- The initial states as a table of sixteen rows. -/
def startOf (A : Cert.Spec.Args) : States := fun b s => (A.hre (Fin.ofNat 12 b.val) s, A.him (Fin.ofNat 12 b.val) s)

/-- A block of the initial state is stored with its entries in place. -/
theorem start_block (v : FVec Ideal S12x128 .f32) (x : S1x12x128.Idx) : shapeCast S1x12x128 v shapeCasts_S12x128_S1x12x128 x = v (ix2 (x 1) (x 2)) := by
  idx_vars x
  pointwise []

/-- A half of the initial state is read with its entries in place. -/
theorem start_half (v : View sig .tc .vmem S12x256 .f32) (X : BufTy.Contents (Elt Ideal) v.ty) (h : Fin 12 → Fin 256 → EReal) (hX : ∀ b n, v.read (Elt Ideal) X (ix2 b n) = h b n)
    (off : ℕ) (inb : ∀ a, (![0, off] : Fin 2 → ℕ) a + S12x128.size a ≤ S12x256.size a) (b : Fin 12) (l : Fin 128) (hl : off + l.val < 256) :
    v.readAt (Elt Ideal) (Rect.unit (s := S12x256) ![0, off] S12x128.size inb).toLoadRect X (ix2 b l) = h b ⟨off + l.val, hl⟩ := by
  rw [← hX]
  show v.read (Elt Ideal) X _ = _
  congr 1
  funext a
  apply Fin.ext
  fin_cases a
  · show 0 + 1 * b.val = b.val; omega
  · show off + 1 * l.val = off + l.val; omega

/-- The carried state's real planes are stored from the initial state's real part. -/
theorem start_re (A : Cert.Spec.Args) (g : Fin 4) (hg : g.val < 2) (inb : ∀ a, (![g.val, 0, 0] : Fin 3 → ℕ) a + S1x12x128.size a ≤ S4x16x128.size a) (x : S1x12x128.Idx) (hl : 128 * g.val + (x 2).val < 256) :
    A.hre (x 1) ⟨128 * g.val + (x 2).val, hl⟩ = tableOf (startOf A) ((Rect.unit (s := S4x16x128) ![g.val, 0, 0] S1x12x128.size inb).emb x) := by
  have h0 : (x 0).val < 1 := (x 0).isLt
  have h1 : (x 1).val < 12 := (x 1).isLt
  have h2 : (x 2).val < 128 := (x 2).isLt
  unfold tableOf
  show _ = if g.val + 1 * (x 0).val < 2 then (startOf A (Fin.ofNat 16 (0 + 1 * (x 1).val)) (Fin.ofNat 256 (128 * (g.val + 1 * (x 0).val) + (0 + 1 * (x 2).val)))).1 else _
  rw [if_pos (by omega)]
  refine congrArg₂ A.hre (Fin.ext ?_) (Fin.ext ?_)
  · show (x 1).val = (0 + 1 * (x 1).val) % 16 % 12; omega
  · show 128 * g.val + (x 2).val = (128 * (g.val + 1 * (x 0).val) + (0 + 1 * (x 2).val)) % 256; omega

/-- The carried state's imaginary planes are stored from the initial state's imaginary part. -/
theorem start_im (A : Cert.Spec.Args) (g : Fin 4) (hg : 2 ≤ g.val) (inb : ∀ a, (![g.val, 0, 0] : Fin 3 → ℕ) a + S1x12x128.size a ≤ S4x16x128.size a) (x : S1x12x128.Idx) (hl : 128 * (g.val - 2) + (x 2).val < 256) :
    A.him (x 1) ⟨128 * (g.val - 2) + (x 2).val, hl⟩ = tableOf (startOf A) ((Rect.unit (s := S4x16x128) ![g.val, 0, 0] S1x12x128.size inb).emb x) := by
  have h0 : (x 0).val < 1 := (x 0).isLt
  have h1 : (x 1).val < 12 := (x 1).isLt
  have h2 : (x 2).val < 128 := (x 2).isLt
  unfold tableOf
  show _ = if g.val + 1 * (x 0).val < 2 then _ else (startOf A (Fin.ofNat 16 (0 + 1 * (x 1).val)) (Fin.ofNat 256 (128 * (g.val + 1 * (x 0).val - 2) + (0 + 1 * (x 2).val)))).2
  rw [if_neg (by omega)]
  refine congrArg₂ A.him (Fin.ext ?_) (Fin.ext ?_)
  · show (x 1).val = (0 + 1 * (x 1).val) % 16 % 12; omega
  · show 128 * (g.val - 2) + (x 2).val = (128 * (g.val + 1 * (x 0).val - 2) + (0 + 1 * (x 2).val)) % 256; omega

set_option maxHeartbeats 1000000 in
/-- The first point's state scratch holds the initial states in its first twelve rows. -/
theorem start_table (A : Cert.Spec.Args) (f : BufTy.Contents (Elt Ideal) arg19.view.ty) (h10 : ∀ b n, arg10.view.read (Elt Ideal) X10 (ix2 b n) = A.hre b n)
    (h11 : ∀ b n, arg11.view.read (Elt Ideal) X11 (ix2 b n) = A.him b n) (g : Fin 4) (b : Fin 12) (l : Fin 128) :
    arg19.view.read (Elt Ideal) (arg19.view.writes (Elt Ideal) f (startPieces arg10 arg11 X10 X11)) (ix3 g (row16 b) l) = tableOf (startOf A) (ix3 g (row16 b) l) := by
  unfold startPieces
  rw [show ∀ a b c d e : View.Piece (Elt Ideal) S4x16x128 .f32, [a, b, c, d, e] = [a, b, c, d] ++ [e] from fun _ _ _ _ _ => rfl, View.writes_append]
  refine View.read_writes_apply_of_pieces arg19.view _ (show S4x16x128.Idx → Elt Ideal .f32 from tableOf (startOf A)) _ ?_ _ ?_
  · simp only [List.forall_mem_cons]
    refine ⟨?_, ?_, ?_, ?_, fun p hp => absurd hp List.not_mem_nil⟩
    · intro x
      have h2 : (x 2).val < 128 := (x 2).isLt
      refine (start_block _ x).trans ((start_half arg11.view X11 A.him h11 128 _ (x 1) (x 2) (by omega)).trans ?_)
      exact start_im A 3 (by decide) _ x (by show 128 * 1 + (x 2).val < 256; omega)
    · intro x
      have h2 : (x 2).val < 128 := (x 2).isLt
      refine (start_block _ x).trans ((start_half arg10.view X10 A.hre h10 128 _ (x 1) (x 2) (by omega)).trans ?_)
      exact start_re A 1 (by decide) _ x (by show 128 * 1 + (x 2).val < 256; omega)
    · intro x
      have h2 : (x 2).val < 128 := (x 2).isLt
      refine (start_block _ x).trans ((start_half arg11.view X11 A.him h11 0 _ (x 1) (x 2) (by omega)).trans ?_)
      exact start_im A 2 (by decide) _ x (by show 128 * 0 + (x 2).val < 256; omega)
    · intro x
      have h2 : (x 2).val < 128 := (x 2).isLt
      refine (start_block _ x).trans ((start_half arg10.view X10 A.hre h10 0 _ (x 1) (x 2) (by omega)).trans ?_)
      exact start_re A 0 (by decide) _ x (by show 128 * 0 + (x 2).val < 256; omega)
  · have hp : ∀ a, (![g.val, 0, 0] : Fin 3 → ℕ) a ≤ (ix3 g (row16 b) l a).val ∧ (ix3 g (row16 b) l a).val < (![g.val, 0, 0] : Fin 3 → ℕ) a + S1x12x128.size a := by
      intro a
      have h1 := b.isLt
      have h2 := l.isLt
      fin_cases a
      · show g.val ≤ g.val ∧ g.val < g.val + 1; omega
      · show 0 ≤ b.val ∧ b.val < 0 + 12; omega
      · show 0 ≤ l.val ∧ l.val < 0 + 128; omega
    fin_cases g
    · exact ⟨_, .tail _ (.tail _ (.tail _ (.head _))), mem_unit _ _ inb_S4x16x128_S1x12x128_0_0_0 _ hp⟩
    · exact ⟨_, .tail _ (.head _), mem_unit _ _ inb_S4x16x128_S1x12x128_1_0_0 _ hp⟩
    · exact ⟨_, .tail _ (.tail _ (.head _)), mem_unit _ _ inb_S4x16x128_S1x12x128_2_0_0 _ hp⟩
    · exact ⟨_, .head _, mem_unit _ _ inb_S4x16x128_S1x12x128_3_0_0 _ hp⟩

/-- The states the first point starts from. -/
theorem start_states (A : Cert.Spec.Args) (f : BufTy.Contents (Elt Ideal) arg19.view.ty) (h10 : ∀ b n, arg10.view.read (Elt Ideal) X10 (ix2 b n) = A.hre b n)
    (h11 : ∀ b n, arg11.view.read (Elt Ideal) X11 (ix2 b n) = A.him b n) :
    StatesOk A 0 (statesOf (arg19.view.read (Elt Ideal) (arg19.view.writes (Elt Ideal) f (startPieces arg10 arg11 X10 X11)))) := by
  intro b n
  have e := start_table arg10 arg11 arg19 X10 X11 A f h10 h11
  show (_, _) = (A.hre b n, A.him b n)
  refine Prod.ext ((e _ b _).trans ?_) ((e _ b _).trans ?_)
  · refine (congrArg (fun H : States => (H (row16 b) n).1) (statesOf_tableOf (startOf A))).trans ?_
    exact congrArg (fun q => A.hre q n) (Fin.ext (Nat.mod_eq_of_lt b.isLt))
  · refine (congrArg (fun H : States => (H (row16 b) n).2) (statesOf_tableOf (startOf A))).trans ?_
    exact congrArg (fun q => A.him q n) (Fin.ext (Nat.mod_eq_of_lt b.isLt))

end Cert.KernelIdeal.Hand
-- ==== Proof.KernelIdeal.Reads.lean ====
/- WHAT THE INPUT WINDOWS HOLD: the arguments, at an index of a block. -/
module

public import proofs.«01_k».proof.Proof.KernelIdeal.Start
public import proofs.«01_k».proof.Proof.KernelIdeal.Run
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The layer's arguments on a core. -/
abbrev argsAt : Cert.Spec.Args := Cert.Spec.argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Which block of each input array a grid point reads. -/
theorem idx : ∀ t : Fin cfg0.N, win0_0.index t = ![0, t.val, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

/-- The block of array 0 holds the input. -/
theorem in0 (t : Fin cfg0.N) (b : Fin 12) (k : Fin 128) (o : Fin 2560) : iblk m c 0 t (ix3 b k o) = (argsAt m c).x b (col t.val k.val) o := by
  show _ = m ((c : Thread nD τ).loc main_arg0) (ix3 b (col t.val k.val) o)
  blk_ext [iblk, idx t, V_main_arg0 m c]
  show t.val * 128 + k.val = (128 * t.val + k.val) % 2048
  omega

/-- The block of array 2 holds the input matrix's scales. -/
theorem in2 (t : Fin cfg0.N) (p : Fin 2) (n : Fin 256) : iblk m c 2 t (ix2 p n) = (argsAt m c).bs p n := by
  show _ = m ((c : Thread nD τ).loc main_arg2) (ix2 p n)
  blk_ext [iblk, idx t, V_main_arg2 m c]

/-- The block of array 9 holds the initial state's real part. -/
theorem in9 (t : Fin cfg0.N) (b : Fin 12) (n : Fin 256) : iblk m c 9 t (ix2 b n) = (argsAt m c).hre b n := by
  show _ = m ((c : Thread nD τ).loc main_arg9) (ix2 b n)
  blk_ext [iblk, idx t, V_main_arg9 m c]

/-- The block of array 10 holds the initial state's imaginary part. -/
theorem in10 (t : Fin cfg0.N) (b : Fin 12) (n : Fin 256) : iblk m c 10 t (ix2 b n) = (argsAt m c).him b n := by
  show _ = m ((c : Thread nD τ).loc main_arg10) (ix2 b n)
  blk_ext [iblk, idx t, V_main_arg10 m c]

/-- The block of array 1 holds the input matrix's codes. -/
theorem in1 (t : Fin cfg0.N) (s : Fin 512) (k : Fin 2560) : iblk m c 1 t (ix2 s k) = (argsAt m c).bw s k := by
  show _ = m ((c : Thread nD τ).loc main_arg1) (ix3 ⟨s.val / 256, by omega⟩ ⟨s.val % 256, by omega⟩ k)
  blk_ext! [iblk, idx t]

/-- The block of array 3 holds the output matrix's codes. -/
theorem in3 (t : Fin cfg0.N) (o : Fin 2560) (s : Fin 512) : iblk m c 3 t (ix2 o s) = (argsAt m c).cw o s := by
  show _ = m ((c : Thread nD τ).loc main_arg3) (ix3 o ⟨s.val / 256, by omega⟩ ⟨s.val % 256, by omega⟩)
  blk_ext! [iblk, idx t]

/-- The block of array 4 holds the output matrix's scales. -/
theorem in4 (t : Fin cfg0.N) (n : Fin 2560) : iblk m c 4 t (ix2 0 n) = (argsAt m c).cs n := by
  show _ = m ((c : Thread nD τ).loc main_arg4) (ix1 n)
  blk_ext! [iblk, idx t]

/-- The block of array 5 holds the eigenvalues' real parts. -/
theorem in5 (t : Fin cfg0.N) (n : Fin 256) : iblk m c 5 t (ix2 0 n) = (argsAt m c).lre n := by
  show _ = m ((c : Thread nD τ).loc main_arg5) (ix1 n)
  blk_ext! [iblk, idx t]

/-- The block of array 6 holds the eigenvalues' imaginary parts. -/
theorem in6 (t : Fin cfg0.N) (n : Fin 256) : iblk m c 6 t (ix2 0 n) = (argsAt m c).lim n := by
  show _ = m ((c : Thread nD τ).loc main_arg6) (ix1 n)
  blk_ext! [iblk, idx t]

/-- The block of array 7 holds the logarithms of the steps. -/
theorem in7 (t : Fin cfg0.N) (n : Fin 256) : iblk m c 7 t (ix2 0 n) = (argsAt m c).ldt n := by
  show _ = m ((c : Thread nD τ).loc main_arg7) (ix1 n)
  blk_ext! [iblk, idx t]

/-- The block of array 8 holds the skip term's factors. -/
theorem in8 (t : Fin cfg0.N) (n : Fin 2560) : iblk m c 8 t (ix2 0 n) = (argsAt m c).d n := by
  show _ = m ((c : Thread nD τ).loc main_arg8) (ix1 n)
  blk_ext! [iblk, idx t]

end Cert.KernelIdeal.Hand
-- ==== Proof.KernelIdeal.Track.lean ====
/- THE KERNEL'S RUN, STEP BY STEP: what the windows and scratches hold at every point. -/
module

public import proofs.«01_k».proof.Proof.KernelIdeal.Reads
public import proofs.«01_k».proof.Proof.KernelIdeal.Value
public import proofs.«01_k».proof.Proof.KernelIdeal.First
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Idealize.ShloMosaic.Pipeline
open Cert.Spec (scaleK invK)

variable (m : (ℓ : Loc nD τ sig) → Buf (Elt Ideal) ℓ)

/-- What the run keeps: the parameter scratch, the states in the state scratch, and what each output window is left at. -/
def trackOf (A : Cert.Spec.Args) : Track Ideal where
  rel w := match w with
    | ⟨11, _⟩ => fun t _ X => ∀ (b : Fin 12) (k : Fin 128) (o : Fin 2560), (show S12x128x2560.Idx → EReal from X) (ix3 b k o) = Cert.Spec.out A (Cert.Spec.state scaleK invK A (128 * t.val + k.val + 1) b) (A.x b (col t.val k.val)) o
    | ⟨12, _⟩ => fun t _ X => ∀ y : S12x256.Idx, (show S12x256.Idx → EReal from X) y = (Cert.Spec.state scaleK invK A (128 * t.val + 128) (y 0) (y 1)).1
    | ⟨13, _⟩ => fun t _ X => ∀ y : S12x256.Idx, (show S12x256.Idx → EReal from X) y = (Cert.Spec.state scaleK invK A (128 * t.val + 128) (y 0) (y 1)).2
    | ⟨14, _⟩ => fun t _ X => ∀ (b : Fin 12) (k : Fin 128) (o : Fin 2560), (show S12x128x2560.Idx → EReal from X) (ix3 b k o) = Cert.Spec.code invK (A.x b (col t.val k.val)) o
    | ⟨15, _⟩ => fun t Y X => ∀ y : S12x2048.Idx, (show S12x2048.Idx → EReal from X) y
        = if 128 * t.val ≤ (y 1).val ∧ (y 1).val < 128 * t.val + 128 then scaleK (A.x (y 0) (y 1)) else (show S12x2048.Idx → EReal from Y) y
    | _ => fun _ _ _ => True
  inv k s17 _ s19 := k = 0 ∨ (Params A ((Memref.whole cc0_scratch0 : Memref sig .tc .vmem S6x8x256 .f32).view.read (Elt Ideal) s17)
    ∧ StatesOk A (128 * k) (statesOf ((Memref.whole cc0_scratch2 : Memref sig .tc .vmem S4x16x128 .f32).view.read (Elt Ideal) s19)))

/-- The track of a core: what its arguments make of the windows and the scratches. -/
abbrev T (c : Dev nD) : Track Ideal := trackOf (argsAt m c)

/-- An input's window is left as it was found. -/
theorem keep_of (c : Dev nD) (w : Fin cfg0.W) (hw : w.val < 11) (t : Fin cfg0.N) (Y X : (cfg0.win w).block.Idx → Elt Ideal (cfg0.win w).elt)
    (h : (rdat m (T m) c).after w t Y X) : X = Y := (if_pos hw).mp h

/-- What an input window may be found at is a block fetched from its array. -/
theorem found_of (c : Dev nD) (w : Fin cfg0.W) (hw : w.val < 11) (ho : (cfg0.win w).isOut = false)
    (hclip : ∀ t t' : Fin cfg0.N, (cfg0.win w).index t = (cfg0.win w).index t' → (cfg0.win w).clip (cfg0.grid.coords t) = (cfg0.win w).clip (cfg0.grid.coords t'))
    (t : Fin cfg0.N) (Y) (h : (rdat m (T m) c).Finds w t Y) : ∃ d, Y = (rdat m (T m) c).fetched w t d :=
  RDat.finds_in_eq_fetched (rdat m (T m) c) w ho hclip (keep_of m c w hw) t Y h

/-- A grid point finds in window 0 the block of array 0. -/
theorem found0 (c : Dev nD) (t : Fin cfg0.N) (Y) (h : (rdat m (T m) c).Finds 0 t Y) : Y = iblk m c 0 t := by
  obtain ⟨d, hd⟩ := found_of m c 0 (by decide) rfl (fun _ _ _ => rfl) t Y h
  rw [hd]; unfold RDat.fetched RDat.blockOf iblk; rfl
/-- A grid point finds in window 1 the block of array 1. -/
theorem found1 (c : Dev nD) (t : Fin cfg0.N) (Y) (h : (rdat m (T m) c).Finds 1 t Y) : Y = iblk m c 1 t := by
  obtain ⟨d, hd⟩ := found_of m c 1 (by decide) rfl (fun _ _ _ => rfl) t Y h
  rw [hd]; unfold RDat.fetched RDat.blockOf iblk; rfl
/-- A grid point finds in window 2 the block of array 2. -/
theorem found2 (c : Dev nD) (t : Fin cfg0.N) (Y) (h : (rdat m (T m) c).Finds 2 t Y) : Y = iblk m c 2 t := by
  obtain ⟨d, hd⟩ := found_of m c 2 (by decide) rfl (fun _ _ _ => rfl) t Y h
  rw [hd]; unfold RDat.fetched RDat.blockOf iblk; rfl
/-- A grid point finds in window 3 the block of array 3. -/
theorem found3 (c : Dev nD) (t : Fin cfg0.N) (Y) (h : (rdat m (T m) c).Finds 3 t Y) : Y = iblk m c 3 t := by
  obtain ⟨d, hd⟩ := found_of m c 3 (by decide) rfl (fun _ _ _ => rfl) t Y h
  rw [hd]; unfold RDat.fetched RDat.blockOf iblk; rfl
/-- A grid point finds in window 4 the block of array 4. -/
theorem found4 (c : Dev nD) (t : Fin cfg0.N) (Y) (h : (rdat m (T m) c).Finds 4 t Y) : Y = iblk m c 4 t := by
  obtain ⟨d, hd⟩ := found_of m c 4 (by decide) rfl (fun _ _ _ => rfl) t Y h
  rw [hd]; unfold RDat.fetched RDat.blockOf iblk; rfl
/-- A grid point finds in window 5 the block of array 5. -/
theorem found5 (c : Dev nD) (t : Fin cfg0.N) (Y) (h : (rdat m (T m) c).Finds 5 t Y) : Y = iblk m c 5 t := by
  obtain ⟨d, hd⟩ := found_of m c 5 (by decide) rfl (fun _ _ _ => rfl) t Y h
  rw [hd]; unfold RDat.fetched RDat.blockOf iblk; rfl
/-- A grid point finds in window 6 the block of array 6. -/
theorem found6 (c : Dev nD) (t : Fin cfg0.N) (Y) (h : (rdat m (T m) c).Finds 6 t Y) : Y = iblk m c 6 t := by
  obtain ⟨d, hd⟩ := found_of m c 6 (by decide) rfl (fun _ _ _ => rfl) t Y h
  rw [hd]; unfold RDat.fetched RDat.blockOf iblk; rfl
/-- A grid point finds in window 7 the block of array 7. -/
theorem found7 (c : Dev nD) (t : Fin cfg0.N) (Y) (h : (rdat m (T m) c).Finds 7 t Y) : Y = iblk m c 7 t := by
  obtain ⟨d, hd⟩ := found_of m c 7 (by decide) rfl (fun _ _ _ => rfl) t Y h
  rw [hd]; unfold RDat.fetched RDat.blockOf iblk; rfl
/-- A grid point finds in window 8 the block of array 8. -/
theorem found8 (c : Dev nD) (t : Fin cfg0.N) (Y) (h : (rdat m (T m) c).Finds 8 t Y) : Y = iblk m c 8 t := by
  obtain ⟨d, hd⟩ := found_of m c 8 (by decide) rfl (fun _ _ _ => rfl) t Y h
  rw [hd]; unfold RDat.fetched RDat.blockOf iblk; rfl
/-- A grid point finds in window 9 the block of array 9. -/
theorem found9 (c : Dev nD) (t : Fin cfg0.N) (Y) (h : (rdat m (T m) c).Finds 9 t Y) : Y = iblk m c 9 t := by
  obtain ⟨d, hd⟩ := found_of m c 9 (by decide) rfl (fun _ _ _ => rfl) t Y h
  rw [hd]; unfold RDat.fetched RDat.blockOf iblk; rfl
/-- A grid point finds in window 10 the block of array 10. -/
theorem found10 (c : Dev nD) (t : Fin cfg0.N) (Y) (h : (rdat m (T m) c).Finds 10 t Y) : Y = iblk m c 10 t := by
  obtain ⟨d, hd⟩ := found_of m c 10 (by decide) rfl (fun _ _ _ => rfl) t Y h
  rw [hd]; unfold RDat.fetched RDat.blockOf iblk; rfl

/-- A grid point's coordinate is its number. -/
theorem coords_eq : ∀ t : Fin cfg0.N, (grid0.coords t 0).val = t.val := (by decide +kernel : ∀ t : Fin grid0.N, _)
/-- The kernel's test for the first grid point is true at the first alone. -/
theorem first_iff : ∀ t : Fin cfg0.N, (Scalar.cmpi .ne (Scalar.extui (Scalar.cmpi .eq (BitVec.ofNat 32 (grid0.coords t 0).val) 0#32) : BitVec 32) 0#32 = 1#1) ↔ t.val = 0 :=
  (by decide +kernel : ∀ t : Fin grid0.N, _)

section At
variable (c : Dev nD) (t : Fin cfg0.N) (X : (w : Fin cfg0.W) → BufTy.Contents (Elt Ideal) ((cfg0.win w).stage (cfg0.slots t w)).view.ty)
  (hF : ∀ w, (rdat m (T m) c).Finds w t (((cfg0.win w).stage (cfg0.slots t w)).view.read (Elt Ideal) (X w)))
include hF

/-- The windows a grid point finds hold the layer's arguments. -/
theorem ins_at : Ins (win0_0.stage (cfg0.slots t 0)) (win0_1.stage (cfg0.slots t 1)) (win0_3.stage (cfg0.slots t 3)) (win0_4.stage (cfg0.slots t 4)) (win0_8.stage (cfg0.slots t 8)) (X 0) (X 1) (X 3) (X 4) (X 8) (argsAt m c) (grid0.coords t 0).val where
  x b k o := by
    rw [coords_eq]
    exact (congrFun (found0 m c t _ (hF 0)) (ix3 b k o)).trans (in0 m c t b k o)
  b s k := (congrFun (found1 m c t _ (hF 1)) (ix2 s k)).trans (in1 m c t s k)
  c o s := (congrFun (found3 m c t _ (hF 3)) (ix2 o s)).trans (in3 m c t o s)
  cs o := (congrFun (found4 m c t _ (hF 4)) (ix2 0 o)).trans (in4 m c t o)
  d o := (congrFun (found8 m c t _ (hF 8)) (ix2 0 o)).trans (in8 m c t o)

set_option maxHeartbeats 1000000 in
/-- EVERY RUN OF THE BODY leaves the layer's values. -/
theorem leaves_at (s17 : Sc0 Ideal) (s18 : Sc1 Ideal) (s19 : Sc2 Ideal) (hI : (T m c).inv t.val s17 s18 s19) :
    Leaves (Memref.whole cc0_scratch0) (Memref.whole cc0_scratch1) (Memref.whole cc0_scratch2) (argsAt m c) (grid0.coords t 0).val (runAt c t X s17 s18 s19).1 := by
  unfold runAt
  by_cases hc : Scalar.cmpi .ne (Scalar.extui (Scalar.cmpi .eq (BitVec.ofNat 32 (grid0.coords t 0).val) 0#32) : BitVec 32) 0#32 = 1#1
  · rw [dif_pos hc, runFirst_eq]
    refine body_leaves _ _ _ _ _ _ _ _ _ _ _ _ _ _ _ _ _ _ _ _ _ _ _ _ _ _ _ _ _ _ _ _ _ _ _ _ _ _ _ _ _ _ _ _ _ _ _ _ _ _ (ins_at m c t X hF) ?_ ?_
    · exact start_params _ _ _ _ _ _ _ _ _ _ _ (fun p n => (congrFun (found2 m c t _ (hF 2)) (ix2 p n)).trans (in2 m c t p n))
        (fun n => (congrFun (found5 m c t _ (hF 5)) (ix2 0 n)).trans (in5 m c t n)) (fun n => (congrFun (found6 m c t _ (hF 6)) (ix2 0 n)).trans (in6 m c t n))
        (fun n => (congrFun (found7 m c t _ (hF 7)) (ix2 0 n)).trans (in7 m c t n))
    · rw [coords_eq, (first_iff t).1 hc]
      exact start_states _ _ _ _ _ _ _ (fun b n => (congrFun (found9 m c t _ (hF 9)) (ix2 b n)).trans (in9 m c t b n))
        (fun b n => (congrFun (found10 m c t _ (hF 10)) (ix2 b n)).trans (in10 m c t b n))
  · rw [dif_neg hc, runLater_eq]
    rcases hI with h | ⟨hP, hS⟩
    · exact absurd ((first_iff t).2 h) hc
    · refine body_leaves _ _ _ _ _ _ _ _ _ _ _ _ _ _ _ _ _ _ _ _ _ _ _ _ _ _ _ _ _ _ _ _ _ _ _ _ _ _ _ _ _ _ _ _ _ _ _ _ _ _ (ins_at m c t X hF) hP ?_
      rw [coords_eq]
      exact hS

end At

/-- THE STEP. -/
theorem step_ok (c : Dev nD) : Step m (T m) c := by
  intro t X hF s17 s18 s19 hI
  have L := leaves_at m c t X hF s17 s18 s19 hI
  rw [coords_eq] at L
  refine ⟨Or.inr ⟨L.par, ?_⟩, ?_, ?_, ?_, ?_, ?_⟩
  · have := L.st
    rw [show 128 * (t.val + 1) = 128 * t.val + 128 by omega]
    exact this
  · exact fun b k o => L.y _ _ b k o
  · exact fun y => L.re _ _ y
  · exact fun y => L.im _ _ y
  · exact fun b k o => L.xc _ _ b k o
  · exact fun y => L.xs _ _ y

/-- Before the first grid point nothing is asked of the scratches. -/
theorem start_ok (c : Dev nD) (s17 : Sc0 Ideal) (s18 : Sc1 Ideal) (s19 : Sc2 Ideal) : (T m c).inv 0 s17 s18 s19 := Or.inl rfl

end Cert.KernelIdeal.Hand
-- ==== Proof.KernelIdeal.Results.lean ====
/- THE KERNEL'S RESULTS, read off the run. -/
module

public import proofs.«01_k».proof.Proof.KernelIdeal.Track
public import Idealize.ShloMosaic.Lib.Pipeline.ArrRel
public import Idealize.ShloMosaic.Lib.Pipeline.ValueKit.Partial
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Idealize.ShloMosaic.Pipeline
open Cert.Spec (scaleK invK)

variable (m : (ℓ : Loc nD τ sig) → Buf (Elt Ideal) ℓ) (c : Dev nD)

/-- What the body leaves in an output's window stands in the track's relation. -/
theorem rel_of (w : Fin cfg0.W) (hw : ¬ w.val < 11) (t : Fin cfg0.N) (X : (cfg0.win w).block.Idx → Elt Ideal (cfg0.win w).elt)
    (h : (rdat m (T m) c).Leaves w t X) : ∃ Y, (rdat m (T m) c).Finds w t Y ∧ (T m c).rel w t Y X := by
  obtain ⟨Y, h1, h2⟩ := h
  exact ⟨Y, h1, (if_neg hw).mp h2⟩

/-- THE SCALES FILL IN POINT BY POINT: after point `n` the block holds the scales of the first `128 (n + 1)` steps. -/
theorem scales_upto : ∀ (n : ℕ) (hn : n < cfg0.N) (X : (cfg0.win 15).block.Idx → Elt Ideal (cfg0.win 15).elt), (rdat m (T m) c).Leaves 15 ⟨n, hn⟩ X →
    ∀ y : S12x2048.Idx, (y 1).val < 128 * (n + 1) → (show S12x2048.Idx → EReal from X) y = scaleK ((argsAt m c).x (y 0) (y 1)) := by
  intro n
  induction n with
  | zero =>
    intro hn X hX y hy
    obtain ⟨Y, -, hR⟩ := rel_of m c 15 (by decide) _ X hX
    refine (hR y).trans (if_pos ?_)
    show 128 * 0 ≤ (y 1).val ∧ (y 1).val < 128 * 0 + 128
    omega
  | succ n ih =>
    intro hn X hX y hy
    obtain ⟨Y, hF, hR⟩ := rel_of m c 15 (by decide) _ X hX
    refine (hR y).trans ?_
    show (if 128 * (n + 1) ≤ (y 1).val ∧ (y 1).val < 128 * (n + 1) + 128 then _ else _) = _
    by_cases h : 128 * (n + 1) ≤ (y 1).val
    · exact if_pos ⟨h, by omega⟩
    · refine (if_neg fun q => h q.1).trans ?_
      have hN : n + 1 < 16 := by have := N_0; exact this ▸ hn
      rcases (RDat.finds_of_pos (rdat m (T m) c) (w := 15) (t := ⟨n + 1, hn⟩) rfl (Nat.succ_ne_zero n) Y).1 hF with q | q
      · exfalso
        have : n % 16 = 15 := (flush0_15 ⟨n, Nat.lt_of_succ_lt hn⟩).1 q
        omega
      · exact ih (by omega) Y q y (by omega)

/-- The output's and the codes' blocks lie along the positions, one for each grid point. -/
theorem blocks : ∀ t : Fin cfg0.N, win0_11.index t = ![0, t.val, 0] ∧ win0_14.index t = ![0, t.val, 0] := (by decide +kernel : ∀ t : Fin grid0.N, _)

/-- The last point. -/
abbrev tLast : Fin cfg0.N := ⟨15, by decide +kernel⟩

/-- A position of a tile, counted from the array's start. -/
theorem col_val (T k : ℕ) (h : 128 * T + k < 2048) : (col T k).val = 128 * T + k := Nat.mod_eq_of_lt h

/-- Where an entry of an output tile lies in the output array. -/
theorem emb11 (t : Fin cfg0.N) (y : S12x128x2560.Idx) : (show S12x2048x2560.Idx from ((cfg0.win 11).blk t).view.emb y) = ix3 (y 0) (col t.val (y 1).val) (y 2) := by
  have e := (blocks t).1
  have ht : t.val < 16 := t.isLt
  have hy : (y 1).val < 128 := (y 1).isLt
  funext a
  apply Fin.ext
  fin_cases a
  · show ((((cfg0.win 11).blk t).view.emb y) 0 : ℕ) = (y 0).val
    blk_simp [e]
  · show ((((cfg0.win 11).blk t).view.emb y) 1 : ℕ) = (128 * t.val + (y 1).val) % 2048
    blk_simp [e]
    omega
  · show ((((cfg0.win 11).blk t).view.emb y) 2 : ℕ) = (y 2).val
    blk_simp [e]

/-- Where an entry of a tile of codes lies in the array of codes. -/
theorem emb14 (t : Fin cfg0.N) (y : S12x128x2560.Idx) : (show S12x2048x2560.Idx from ((cfg0.win 14).blk t).view.emb y) = ix3 (y 0) (col t.val (y 1).val) (y 2) := by
  have e := (blocks t).2
  have ht : t.val < 16 := t.isLt
  have hy : (y 1).val < 128 := (y 1).isLt
  funext a
  apply Fin.ext
  fin_cases a
  · show ((((cfg0.win 14).blk t).view.emb y) 0 : ℕ) = (y 0).val
    blk_simp [e]
  · show ((((cfg0.win 14).blk t).view.emb y) 1 : ℕ) = (128 * t.val + (y 1).val) % 2048
    blk_simp [e]
    omega
  · show ((((cfg0.win 14).blk t).view.emb y) 2 : ℕ) = (y 2).val
    blk_simp [e]

/-- The first result at a tile's position. -/
theorem resY_col (A : Cert.Spec.Args) (b : Fin 12) (T k : ℕ) (o : Fin 2560) (h : 128 * T + k < 2048) :
    Cert.Spec.resY scaleK invK A (ix3 b (col T k) o) = Cert.Spec.out A (Cert.Spec.state scaleK invK A (128 * T + k + 1) b) (A.x b (col T k)) o := by
  show Cert.Spec.out A (Cert.Spec.state scaleK invK A ((col T k).val + 1) b) (A.x b (col T k)) o = _
  rw [col_val T k h]

/-- A tile read at an index is the tile read at the index's coordinates. -/
theorem eta_row (v : S12x128x2560.Idx → EReal) (x : S12x128x2560.Idx) : v x = v (ix3 (x 0) (x 1) (x 2)) := eta3 (n := 12) (m := 128) (p := 2560) v x

variable {r : PUnit × MemSt nD τ sig (Elt Ideal)} (h : RDat.FramePost (cfgs 0) (fun c => rdat m (T m) c) (V m) r)
include h

/-- THE KERNEL'S FIVE RESULTS. -/
theorem results :
    r.2.mem ((c.tc : Thread nD τ).loc main_v7_0) = (show S12x2048x2560.Idx → Elt Ideal .bf16 from Cert.Spec.resY scaleK invK (argsAt m c))
      ∧ r.2.mem ((c.tc : Thread nD τ).loc main_v7_1) = (show S12x256.Idx → Elt Ideal .f32 from Cert.Spec.resRe scaleK invK (argsAt m c))
      ∧ r.2.mem ((c.tc : Thread nD τ).loc main_v7_2) = (show S12x256.Idx → Elt Ideal .f32 from Cert.Spec.resIm scaleK invK (argsAt m c))
      ∧ r.2.mem ((c.tc : Thread nD τ).loc main_v7_3) = (show S12x2048x2560.Idx → Elt Ideal .fp8e4m3 from Cert.Spec.resC invK (argsAt m c))
      ∧ r.2.mem ((c.tc : Thread nD τ).loc main_v7_4) = (show S12x2048.Idx → Elt Ideal .f32 from Cert.Spec.resS scaleK (argsAt m c)) := by
  obtain ⟨after, hL, hA⟩ := RDat.FramePost.exists_exact h c
  refine ⟨(hA 11).trans ?_, (hA 12).trans ?_, (hA 13).trans ?_, (hA 14).trans ?_, (hA 15).trans ?_⟩
  · refine Dat.arrAt_eq_of_covers _ 11 _ (by decide +kernel) fun t hf y => ?_
    obtain ⟨Y, -, hR⟩ := rel_of m c 11 (by decide) t _ (hL 11 t hf)
    have ht : t.val < 16 := t.isLt
    have hy : (y 1).val < 128 := (y 1).isLt
    refine (eta_row (show S12x128x2560.Idx → EReal from after 11 t) y).trans ((hR (y 0) (y 1) (y 2)).trans ?_)
    refine (resY_col (argsAt m c) (y 0) t.val (y 1).val (y 2) (by omega)).symm.trans ?_
    exact congrArg (Cert.Spec.resY scaleK invK (argsAt m c)) (emb11 t y).symm
  · refine Dat.arrAt_eq_of_after_last _ 12 tLast (by decide +kernel) _ fun j => ?_
    obtain ⟨Y, -, hR⟩ := rel_of m c 12 (by decide) tLast _ (hL 12 tLast ((flush0_12 tLast).2 rfl))
    exact hR j
  · refine Dat.arrAt_eq_of_after_last _ 13 tLast (by decide +kernel) _ fun j => ?_
    obtain ⟨Y, -, hR⟩ := rel_of m c 13 (by decide) tLast _ (hL 13 tLast ((flush0_13 tLast).2 rfl))
    exact hR j
  · refine Dat.arrAt_eq_of_covers _ 14 _ (by decide +kernel) fun t hf y => ?_
    obtain ⟨Y, -, hR⟩ := rel_of m c 14 (by decide) t _ (hL 14 t hf)
    refine (eta_row (show S12x128x2560.Idx → EReal from after 14 t) y).trans ((hR (y 0) (y 1) (y 2)).trans ?_)
    exact congrArg (Cert.Spec.resC invK (argsAt m c)) (emb14 t y).symm
  · refine Dat.arrAt_eq_of_after_last _ 15 tLast (by decide +kernel) _ fun j => ?_
    exact scales_upto m c 15 _ _ (hL 15 tLast ((flush0_15 tLast).2 rfl)) j (j 1).isLt

end Cert.KernelIdeal.Hand
-- ==== Proof.ReferenceIdeal.RTrip.lean ====
module

public import proofs.«01_k».proof.Proof.Gen.ReferenceIdeal.Frame
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

/-- A step's scales are its rows' scales. -/
theorem pay5_apply (v : Vec Ideal S12x1x2560 .bf16) (b : Fin 12) (z : Fin 1) : k0_pay5 v (ix2 b z) = Cert.Spec.scaleR (fun k => v (ix3 b 0 k)) := by
  pointwise [k0_pay2, k0_pay3, k0_pay5]
  rfl
/-- A step's codes are its rows' codes. -/
theorem pay4_apply (v : Vec Ideal S12x1x2560 .bf16) (b : Fin 12) (k : Fin 2560) : k0_pay4 v (ix2 b k) = Cert.Spec.code Cert.Spec.invR (fun k => v (ix3 b 0 k)) k := by
  pointwise [k0_pay2, k0_pay3, k0_pay4]
  rfl
variable (v11 v13 v22 v26 : FVec Ideal S1x256 .f32) (h i : FVec Ideal S12x256 .f32) (c : FVec Ideal S12x2560 .fp8e4m3) (s : FVec Ideal S12x1 .f32) (w w' : Vec Ideal S1x256x2560 .fp8e4m3) (q q' : FVec Ideal S1x256 .f32)
/-- A step's scaled projection on the real half, entry by entry. -/
theorem pay7_apply (b : Fin 12) (n : Fin 256) : k0_pay7 c s (k0_pay6 w) (constant S12x256 .f32 0x00000000#32) q (ix2 b n)
   = (∑ k : Fin 2560, c (ix2 b k) * w (ix3 0 n k)) * (s (ix2 b 0) * q (ix2 0 n)) := by
  pointwise [k0_pay7, k0_pay6]
/-- A step's scaled projection on the imaginary half, entry by entry. -/
theorem pay8_apply (b : Fin 12) (n : Fin 256) : k0_pay8 c s w q (ix2 b n)
   = (∑ k : Fin 2560, c (ix2 b k) * w (ix3 0 n k)) * (s (ix2 b 0) * q (ix2 0 n)) := by
  pointwise [k0_pay8]
/-- A step's new state, real part, entry by entry. -/
theorem pay9_apply (C) (b : Fin 12) (n : Fin 256) : k0_pay9 v11 v13 v22 v26 h i c s (k0_pay6 w) C w' q q' (ix2 b n)
   = (v11 (ix2 0 n) * h (ix2 b n) - v13 (ix2 0 n) * i (ix2 b n)) + (v22 (ix2 0 n) * k0_pay7 c s (k0_pay6 w) C q (ix2 b n) - v26 (ix2 0 n) * k0_pay8 c s w' q' (ix2 b n)) := by
  pointwise [k0_pay9]
/-- A step's new state, imaginary part, entry by entry. -/
theorem pay10_apply (C) (b : Fin 12) (n : Fin 256) : k0_pay10 v11 v13 v22 v26 h i c s (k0_pay6 w) C w' q q' (ix2 b n)
   = (v11 (ix2 0 n) * i (ix2 b n) + v13 (ix2 0 n) * h (ix2 b n)) + (v22 (ix2 0 n) * k0_pay8 c s w' q' (ix2 b n) + v26 (ix2 0 n) * k0_pay7 c s (k0_pay6 w) C q (ix2 b n)) := by
  pointwise [k0_pay10]
/-- A step's output projection, entry by entry. -/
theorem pay11_apply (C) (cw : Vec Ideal S2560x512 .fp8e4m3) (b : Fin 12) (o : Fin 2560) : k0_pay11 v11 v13 v22 v26 h i c s (k0_pay6 w) C w' q q' cw (ix2 b o)
   = ∑ s' : Fin 512, Cert.Spec.both (fun n => (k0_pay9 v11 v13 v22 v26 h i c s (k0_pay6 w) C w' q q' (ix2 b n), k0_pay10 v11 v13 v22 v26 h i c s (k0_pay6 w) C w' q q' (ix2 b n))) s' * cw (ix2 o s') := by
  pointwise [k0_pay11]
  refine Eq.trans ?_ (Fin.sum_univ_add (a := 256) (b := 256) _).symm
  refine congrArg₂ (· + ·) (Finset.sum_congr rfl fun x _ => ?_) (Finset.sum_congr rfl fun x _ => ?_)
  · unfold Cert.Spec.both
    rw [dif_pos (show (Fin.castAdd 256 x).val < 256 from x.isLt)]
    rfl
  · unfold Cert.Spec.both
    rw [dif_neg (show ¬ (Fin.natAdd 256 x).val < 256 from by show ¬ 256 + x.val < 256; omega), sub_eq_add_neg, zero_add]
    have e : (⟨(Fin.natAdd 256 x).val - 256, by have := x.isLt; show 256 + x.val - 256 < 256; omega⟩ : Fin 256) = x := Fin.ext (by show 256 + x.val - 256 = x.val; omega)
    rw [e]
    rfl
/-- A step's output, its projection scaled and the skip term added, entry by entry. -/
theorem pay31_apply (v : Vec Ideal S12x1x2560 .bf16) (M : FVec Ideal S12x2560 .f32) (cs d : Vec Ideal S1x2560 .f32) (b : Fin 12) (z : Fin 1) (o : Fin 2560) :
    k0_pay31 (k0_pay2 v) M (k0_pay12 cs) d (ix3 b z o) = M (ix2 b o) * cs (ix2 0 o) + d (ix2 0 o) * v (ix3 b 0 o) := by
  pointwise [k0_pay31, k0_pay2, k0_pay12]
end Cert.ReferenceIdeal.Hand
-- ==== Proof.ReferenceIdeal.RState.lean ====
/- THE REFERENCE'S LOOP IS THE RECURRENCE: its carried pair after each trip, and the output steps it stores. -/
module

public import proofs.«01_k».proof.Proof.Gen.ReferenceIdeal.Frame
public import proofs.«01_k».proof.Proof.ReferenceIdeal.RTrip
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

/-- A step reads its own position's row. -/
theorem off1_eq (k : Fin k0_t1_loop.trips) : k0_off1 k = ![0, k.val, 0] := by
  have e : ∀ k : Fin k0_t1_loop.trips, k0_off1 k 1 = k.val := by decide +kernel
  funext a
  fin_cases a
  · rfl
  · exact e k
  · rfl

/-- The step a trip reads its input at. -/
abbrev stepOf (k : Fin k0_t1_loop.trips) : Fin 2048 := Fin.ofNat 2048 k.val

/-- There are 2048 steps. -/
theorem trips_eq : k0_t1_loop.trips = 2048 := by decide +kernel

/-- Where an entry of a step's row lies in the input. -/
theorem row_emb (k : Fin k0_t1_loop.trips) (inb) (x : S12x1x2560.Idx) :
    (Rect.unit (s := S12x2048x2560) (k0_off1 k) S12x1x2560.size inb).emb x = ix3 (n0 := 12) (n1 := 2048) (n2 := 2560) (x 0) (stepOf k) (x 2) := by
  have h1 : (x 1).val < 1 := (x 1).isLt
  have hk : k.val < 2048 := trips_eq ▸ k.isLt
  have e := off1_eq k
  funext a
  apply Fin.ext
  fin_cases a
  · show k0_off1 k 0 + 1 * (x 0).val = (x 0).val
    rw [e]; show 0 + 1 * (x 0).val = (x 0).val; omega
  · show k0_off1 k 1 + 1 * (x 1).val = k.val % 2048
    rw [e]; show k.val + 1 * (x 1).val = k.val % 2048; omega
  · show k0_off1 k 2 + 1 * (x 2).val = (x 2).val
    rw [e]; show 0 + 1 * (x 2).val = (x 2).val; omega

variable (c : Dev nD)
variable (arg0 : Memref sig .tc .vmem S12x2048x2560 .bf16)
variable (harg0 : arg0.IsWhole)
variable (arg1 : Memref sig .tc .vmem S2x256x2560 .fp8e4m3)
variable (harg1 : arg1.IsWhole)
variable (arg2 : Memref sig .tc .vmem S2x256 .f32)
variable (harg2 : arg2.IsWhole)
variable (arg3 : Memref sig .tc .vmem S2560x512 .fp8e4m3)
variable (harg3 : arg3.IsWhole)
variable (arg4 : Memref sig .tc .vmem S1x2560 .f32)
variable (harg4 : arg4.IsWhole)
variable (arg5 : Memref sig .tc .vmem S1x256 .f32)
variable (harg5 : arg5.IsWhole)
variable (arg6 : Memref sig .tc .vmem S1x256 .f32)
variable (harg6 : arg6.IsWhole)
variable (arg7 : Memref sig .tc .vmem S1x256 .f32)
variable (harg7 : arg7.IsWhole)
variable (arg8 : Memref sig .tc .vmem S1x2560 .f32)
variable (harg8 : arg8.IsWhole)
variable (arg9 : Memref sig .tc .vmem S12x256 .f32)
variable (harg9 : arg9.IsWhole)
variable (arg10 : Memref sig .tc .vmem S12x256 .f32)
variable (harg10 : arg10.IsWhole)
variable (arg11 : Memref sig .tc .vmem S12x2048x2560 .bf16)
variable (harg11 : arg11.IsWhole)
variable (arg12 : Memref sig .tc .vmem S12x256 .f32)
variable (harg12 : arg12.IsWhole)
variable (arg13 : Memref sig .tc .vmem S12x256 .f32)
variable (harg13 : arg13.IsWhole)
variable (arg14 : Memref sig .tc .vmem S12x2048x2560 .fp8e4m3)
variable (harg14 : arg14.IsWhole)
variable (arg15 : Memref sig .tc .vmem S12x2048 .f32)
variable (harg15 : arg15.IsWhole)
variable (arg16 : Memref sig .tc .vmem S12x2048x2560 .f32)
variable (harg16 : arg16.IsWhole)
variable (v11 : FVec Ideal S1x256 .f32)
variable (v13 : FVec Ideal S1x256 .f32)
variable (v22 : FVec Ideal S1x256 .f32)
variable (v26 : FVec Ideal S1x256 .f32)
variable (v28 : FVec Ideal S12x2048x2560 .f32)
variable (v31 : FVec Ideal S12x2048x1 .f32)
variable (v44 : FVec Ideal S12x2048x254 .f32)
variable (X_arg0 : BufTy.Contents (Elt Ideal) arg0.view.ty)
variable (X_arg1 : BufTy.Contents (Elt Ideal) arg1.view.ty)
variable (X_arg2 : BufTy.Contents (Elt Ideal) arg2.view.ty)
variable (X_arg3 : BufTy.Contents (Elt Ideal) arg3.view.ty)
variable (X_arg4 : BufTy.Contents (Elt Ideal) arg4.view.ty)
variable (X_arg8 : BufTy.Contents (Elt Ideal) arg8.view.ty)
/-- What the loop reads, as the layer's arguments. -/
structure RIns (A : Cert.Spec.Args) : Prop where
  x : ∀ b t k, arg0.view.read (Elt Ideal) X_arg0 (ix3 b t k) = A.x b t k
  b0 : ∀ (n : Fin 256) k, arg1.view.read (Elt Ideal) X_arg1 (ix3 0 n k) = A.bw ⟨n.val, by omega⟩ k
  b1 : ∀ (n : Fin 256) k, arg1.view.read (Elt Ideal) X_arg1 (ix3 1 n k) = A.bw ⟨256 + n.val, by omega⟩ k
  bs : ∀ p n, arg2.view.read (Elt Ideal) X_arg2 (ix2 p n) = A.bs p n
  cw : ∀ o s, arg3.view.read (Elt Ideal) X_arg3 (ix2 o s) = A.cw o s
  cs : ∀ o, arg4.view.read (Elt Ideal) X_arg4 (ix2 0 o) = A.cs o
  d : ∀ o, arg8.view.read (Elt Ideal) X_arg8 (ix2 0 o) = A.d o
  lr : ∀ n, v11 (ix2 0 n) = Cert.Spec.lamRe A n
  li : ∀ n, v13 (ix2 0 n) = Cert.Spec.lamIm A n
  cr : ∀ n, v22 (ix2 0 n) = Cert.Spec.coRe A n
  ci : ∀ n, v26 (ix2 0 n) = Cert.Spec.coIm A n

section Step
variable (A : Cert.Spec.Args) (t : Fin 2048) (h i : FVec Ideal S12x256 .f32) (v : Vec Ideal S12x1x2560 .bf16) (w w' : Vec Ideal S1x256x2560 .fp8e4m3) (q q' : FVec Ideal S1x256 .f32)

/-- One step's real part. -/
theorem step_re (lr : ∀ n, v11 (ix2 0 n) = Cert.Spec.lamRe A n) (li : ∀ n, v13 (ix2 0 n) = Cert.Spec.lamIm A n) (cr : ∀ n, v22 (ix2 0 n) = Cert.Spec.coRe A n) (ci : ∀ n, v26 (ix2 0 n) = Cert.Spec.coIm A n)
    (hv : ∀ b k, v (ix3 b 0 k) = A.x b t k) (hw : ∀ n k, w (ix3 0 n k) = A.bw ⟨n.val, by omega⟩ k) (hw' : ∀ n k, w' (ix3 0 n k) = A.bw ⟨256 + n.val, by omega⟩ k)
    (hq : ∀ n, q (ix2 0 n) = A.bs 0 n) (hq' : ∀ n, q' (ix2 0 n) = A.bs 1 n) (b : Fin 12) (n : Fin 256) :
    k0_pay9 v11 v13 v22 v26 h i (k0_pay4 v) (k0_pay5 v) (k0_pay6 w) (constant S12x256 .f32 0x00000000#32) w' q q' (ix2 b n)
      = (Cert.Spec.lamRe A n * h (ix2 b n) - Cert.Spec.lamIm A n * i (ix2 b n)) + Cert.Spec.driveR Cert.Spec.scaleR Cert.Spec.invR A b t n := by
  rw [pay9_apply, pay7_apply, pay8_apply, lr, li, cr, ci, hq, hq', pay5_apply]
  simp only [pay4_apply, hv, hw, hw']
  rfl

/-- One step's imaginary part. -/
theorem step_im (lr : ∀ n, v11 (ix2 0 n) = Cert.Spec.lamRe A n) (li : ∀ n, v13 (ix2 0 n) = Cert.Spec.lamIm A n) (cr : ∀ n, v22 (ix2 0 n) = Cert.Spec.coRe A n) (ci : ∀ n, v26 (ix2 0 n) = Cert.Spec.coIm A n)
    (hv : ∀ b k, v (ix3 b 0 k) = A.x b t k) (hw : ∀ n k, w (ix3 0 n k) = A.bw ⟨n.val, by omega⟩ k) (hw' : ∀ n k, w' (ix3 0 n k) = A.bw ⟨256 + n.val, by omega⟩ k)
    (hq : ∀ n, q (ix2 0 n) = A.bs 0 n) (hq' : ∀ n, q' (ix2 0 n) = A.bs 1 n) (b : Fin 12) (n : Fin 256) :
    k0_pay10 v11 v13 v22 v26 h i (k0_pay4 v) (k0_pay5 v) (k0_pay6 w) (constant S12x256 .f32 0x00000000#32) w' q q' (ix2 b n)
      = (Cert.Spec.lamRe A n * i (ix2 b n) + Cert.Spec.lamIm A n * h (ix2 b n)) + Cert.Spec.driveI Cert.Spec.scaleR Cert.Spec.invR A b t n := by
  rw [pay10_apply, pay7_apply, pay8_apply, lr, li, cr, ci, hq, hq', pay5_apply]
  simp only [pay4_apply, hv, hw, hw']
  rfl
end Step

variable {c arg0 arg1 arg2 arg3 arg4 arg8 v11 v13 v22 v26 X_arg0 X_arg1 X_arg2 X_arg3 X_arg4 X_arg8}
variable {A : Cert.Spec.Args} (H : RIns arg0 arg1 arg2 arg3 arg4 arg8 v11 v13 v22 v26 X_arg0 X_arg1 X_arg2 X_arg3 X_arg4 X_arg8 A)
include H

/-- The row a step reads is the input's row at its position. -/
theorem RIns.row (k : Fin k0_t1_loop.trips) (inb) (b : Fin 12) (o : Fin 2560) :
    arg0.view.readAt (Elt Ideal) (Rect.unit (s := S12x2048x2560) (k0_off1 k) S12x1x2560.size inb).toLoadRect X_arg0 (ix3 b 0 o) = A.x b (stepOf k) o := by
  rw [← H.x]
  exact congrArg (arg0.view.read (Elt Ideal) X_arg0) (row_emb k inb (ix3 b 0 o))

/-- The first half of the input matrix, as a step reads it. -/
theorem RIns.w0 (inb) (n : Fin 256) (k : Fin 2560) :
    arg1.view.readAt (Elt Ideal) (Rect.unit (s := S2x256x2560) ![0, 0, 0] S1x256x2560.size inb).toLoadRect X_arg1 (ix3 0 n k) = A.bw ⟨n.val, by omega⟩ k := by
  rw [← H.b0]
  refine congrArg (arg1.view.read (Elt Ideal) X_arg1) ?_
  funext a
  apply Fin.ext
  fin_cases a
  · rfl
  · show 0 + 1 * n.val = n.val; omega
  · show 0 + 1 * k.val = k.val; omega

/-- The second half of the input matrix, as a step reads it. -/
theorem RIns.w1 (inb) (n : Fin 256) (k : Fin 2560) :
    arg1.view.readAt (Elt Ideal) (Rect.unit (s := S2x256x2560) ![1, 0, 0] S1x256x2560.size inb).toLoadRect X_arg1 (ix3 0 n k) = A.bw ⟨256 + n.val, by omega⟩ k := by
  rw [← H.b1]
  refine congrArg (arg1.view.read (Elt Ideal) X_arg1) ?_
  funext a
  apply Fin.ext
  fin_cases a
  · rfl
  · show 0 + 1 * n.val = n.val; omega
  · show 0 + 1 * k.val = k.val; omega

/-- The input matrix's scales, as a step reads them. -/
theorem RIns.q (p : Fin 2) (inb) (n : Fin 256) :
    arg2.view.readAt (Elt Ideal) (Rect.unit (s := S2x256) ![p.val, 0] S1x256.size inb).toLoadRect X_arg2 (ix2 0 n) = A.bs p n := by
  rw [← H.bs]
  refine congrArg (arg2.view.read (Elt Ideal) X_arg2) ?_
  funext a
  apply Fin.ext
  fin_cases a
  · rfl
  · show 0 + 1 * n.val = n.val; omega

/-- The output matrix, as a step reads it. -/
theorem RIns.c' (inb) (o : Fin 2560) (s : Fin 512) :
    arg3.view.readAt (Elt Ideal) (Rect.unit (s := S2560x512) ![0, 0] S2560x512.size inb).toLoadRect X_arg3 (ix2 o s) = A.cw o s := by
  rw [← H.cw]
  refine congrArg (arg3.view.read (Elt Ideal) X_arg3) ?_
  funext a
  apply Fin.ext
  fin_cases a
  · show 0 + 1 * o.val = o.val; omega
  · show 0 + 1 * s.val = s.val; omega

/-- The output matrix's scales, as a step reads them. -/
theorem RIns.cs' (inb) (o : Fin 2560) :
    arg4.view.readAt (Elt Ideal) (Rect.unit (s := S1x2560) ![0, 0] S1x2560.size inb).toLoadRect X_arg4 (ix2 0 o) = A.cs o := by
  rw [← H.cs]
  refine congrArg (arg4.view.read (Elt Ideal) X_arg4) ?_
  funext a
  apply Fin.ext
  fin_cases a
  · rfl
  · show 0 + 1 * o.val = o.val; omega

/-- The skip term's factors, as a step reads them. -/
theorem RIns.d' (inb) (o : Fin 2560) :
    arg8.view.readAt (Elt Ideal) (Rect.unit (s := S1x2560) ![0, 0] S1x2560.size inb).toLoadRect X_arg8 (ix2 0 o) = A.d o := by
  rw [← H.d]
  refine congrArg (arg8.view.read (Elt Ideal) X_arg8) ?_
  funext a
  apply Fin.ext
  fin_cases a
  · rfl
  · show 0 + 1 * o.val = o.val; omega

/-- A pair of arrays holds the states after `t` steps. -/
def Holds (A : Cert.Spec.Args) (t : ℕ) (acc : Vec Ideal S12x256 .f32 × Vec Ideal S12x256 .f32) : Prop :=
  ∀ b n, acc.1 (ix2 b n) = (Cert.Spec.state Cert.Spec.scaleR Cert.Spec.invR A t b n).1 ∧ acc.2 (ix2 b n) = (Cert.Spec.state Cert.Spec.scaleR Cert.Spec.invR A t b n).2

set_option maxHeartbeats 2000000 in
/-- ONE TRIP IS ONE STEP OF THE RECURRENCE. -/
theorem trip_state (k : Fin k0_t1_loop.trips) (acc : Vec Ideal S12x256 .f32 × Vec Ideal S12x256 .f32) (hacc : Holds A k.val acc) :
    Holds A (k.val + 1) ((trip_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v22 v26 v28 v31 v44 X_arg0 X_arg1 X_arg2 X_arg3 X_arg4 X_arg8 k).1 acc) := by
  unfold trip_k0_t1
  dsimp only
  sl_unfold_run_names
  dsimp only
  intro b n
  refine ⟨(step_re v11 v13 v22 v26 A (stepOf k) _ _ _ _ _ _ _ H.lr H.li H.cr H.ci (H.row k _) (H.w0 _) (H.w1 _) (H.q 0 _) (H.q 1 _) b n).trans ?_,
    (step_im v11 v13 v22 v26 A (stepOf k) _ _ _ _ _ _ _ H.lr H.li H.cr H.ci (H.row k _) (H.w0 _) (H.w1 _) (H.q 0 _) (H.q 1 _) b n).trans ?_⟩
  · rw [(hacc b n).1, (hacc b n).2]; rfl
  · rw [(hacc b n).1, (hacc b n).2]; rfl

set_option maxHeartbeats 2000000 in
/-- ONE TRIP STORES ONE STEP'S OUTPUT. -/
theorem trip_piece (k : Fin k0_t1_loop.trips) (acc : Vec Ideal S12x256 .f32 × Vec Ideal S12x256 .f32) (hacc : Holds A k.val acc) :
    ∃ v, (trip_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v22 v26 v28 v31 v44 X_arg0 X_arg1 X_arg2 X_arg3 X_arg4 X_arg8 k).2.1 acc = [⟨Rect.unit (s := S12x2048x2560) (k0_off1 k) S12x1x2560.size (k0_off1_inb k), v⟩]
      ∧ ∀ x, v x = Cert.Spec.resY Cert.Spec.scaleR Cert.Spec.invR A ((Rect.unit (s := S12x2048x2560) (k0_off1 k) S12x1x2560.size (k0_off1_inb k)).emb x) := by
  unfold trip_k0_t1
  dsimp only
  sl_unfold_run_names
  dsimp only
  refine ⟨_, rfl, fun x => ?_⟩
  have hk : k.val < 2048 := trips_eq ▸ k.isLt
  rw [row_emb]
  idx_vars x
  rw [pay31_apply, pay11_apply, H.row, H.cs', H.d']
  simp only [H.c']
  show _ = Cert.Spec.out A (Cert.Spec.state Cert.Spec.scaleR Cert.Spec.invR A ((stepOf k).val + 1) _) (A.x _ (stepOf k)) _
  rw [show (stepOf k).val = k.val from Nat.mod_eq_of_lt hk]
  unfold Cert.Spec.out
  refine congrArg (fun q => q * _ + _) (Finset.sum_congr rfl fun s _ => congrArg (fun q => Cert.Spec.both q s * _) (funext fun n => Prod.ext ?_ ?_))
  · refine (step_re v11 v13 v22 v26 A (stepOf k) _ _ _ _ _ _ _ H.lr H.li H.cr H.ci (H.row k _) (H.w0 _) (H.w1 _) (H.q 0 _) (H.q 1 _) _ n).trans ?_
    rw [(hacc _ n).1, (hacc _ n).2]; rfl
  · refine (step_im v11 v13 v22 v26 A (stepOf k) _ _ _ _ _ _ _ H.lr H.li H.cr H.ci (H.row k _) (H.w0 _) (H.w1 _) (H.q 0 _) (H.q 1 _) _ n).trans ?_
    rw [(hacc _ n).1, (hacc _ n).2]; rfl

/-- THE LOOP AFTER ANY NUMBER OF TRIPS: the states, and every piece stored so far a step's output. -/
theorem loop_holds (init : Vec Ideal S12x256 .f32 × Vec Ideal S12x256 .f32) (h0 : Holds A 0 init) : ∀ k, k ≤ 2048 →
    Holds A k (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v22 v26 v28 v31 v44 X_arg0 X_arg1 X_arg2 X_arg3 X_arg4 X_arg8 init k).1
      ∧ (∀ p ∈ (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v22 v26 v28 v31 v44 X_arg0 X_arg1 X_arg2 X_arg3 X_arg4 X_arg8 init k).2, ∀ x, p.2 x = (show S12x2048x2560.Idx → Elt Ideal .f32 from Cert.Spec.resY Cert.Spec.scaleR Cert.Spec.invR A) (p.1.emb x))
      ∧ ∀ y : S12x2048x2560.Idx, (y 1).val < k → ∃ p ∈ (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v22 v26 v28 v31 v44 X_arg0 X_arg1 X_arg2 X_arg3 X_arg4 X_arg8 init k).2, y ∈ p.1.set := by
  intro k
  induction k with
  | zero => exact fun _ => ⟨h0, fun p hp => absurd hp List.not_mem_nil, fun y hy => absurd hy (Nat.not_lt_zero _)⟩
  | succ k ih =>
    intro hk
    obtain ⟨i1, i2, i3⟩ := ih (by omega)
    have hkt : k < k0_t1_loop.trips := by rw [trips_eq]; omega
    have e := st_k0_t1_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v22 v26 v28 v31 v44 X_arg0 X_arg1 X_arg2 X_arg3 X_arg4 X_arg8 init ⟨k, hkt⟩
    have e' : st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v22 v26 v28 v31 v44 X_arg0 X_arg1 X_arg2 X_arg3 X_arg4 X_arg8 init (k + 1) = _ := e
    rw [e']
    obtain ⟨v, hv, hx⟩ := trip_piece harg0 harg1 harg2 harg3 harg4 arg5 harg5 arg6 harg6 arg7 harg7 harg8 arg9 harg9 arg10 harg10 arg11 harg11 arg12 harg12 arg13 harg13 arg14 harg14 arg15 harg15 arg16 harg16 v28 v31 v44 H ⟨k, hkt⟩ _ i1
    refine ⟨trip_state harg0 harg1 harg2 harg3 harg4 arg5 harg5 arg6 harg6 arg7 harg7 harg8 arg9 harg9 arg10 harg10 arg11 harg11 arg12 harg12 arg13 harg13 arg14 harg14 arg15 harg15 arg16 harg16 v28 v31 v44 H ⟨k, hkt⟩ _ i1, ?_, ?_⟩
    · intro p hp
      rcases List.mem_append.1 hp with hp | hp
      · replace hp : p ∈ (trip_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v22 v26 v28 v31 v44 X_arg0 X_arg1 X_arg2 X_arg3 X_arg4 X_arg8 ⟨k, hkt⟩).2.1 _ := hp
        rw [hv, List.mem_singleton] at hp
        subst hp
        exact hx
      · exact i2 p hp
    · intro y hy
      by_cases hyk : (y 1).val < k
      · obtain ⟨p, hp, hm⟩ := i3 y hyk
        exact ⟨p, List.mem_append_right _ hp, hm⟩
      · refine ⟨_, List.mem_append_left _ (show _ ∈ (trip_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v22 v26 v28 v31 v44 X_arg0 X_arg1 X_arg2 X_arg3 X_arg4 X_arg8 ⟨k, hkt⟩).2.1 _ from hv ▸ List.mem_singleton_self _), ?_⟩
        have := LoadRect.idx_mem (Rect.unit (s := S12x2048x2560) (k0_off1 ⟨k, hkt⟩) S12x1x2560.size (k0_off1_inb ⟨k, hkt⟩)).toLoadRect (ix3 (n0 := 12) (n1 := 1) (n2 := 2560) (y 0) 0 (y 2))
        have ey : (Rect.unit (s := S12x2048x2560) (k0_off1 ⟨k, hkt⟩) S12x1x2560.size (k0_off1_inb ⟨k, hkt⟩)).emb (ix3 (n0 := 12) (n1 := 1) (n2 := 2560) (y 0) 0 (y 2)) = y := by
          rw [row_emb]
          funext a
          apply Fin.ext
          fin_cases a
          · rfl
          · show k % 2048 = (y 1).val; omega
          · rfl
        exact ey ▸ this

end Cert.ReferenceIdeal.Hand
-- ==== Proof.ReferenceIdeal.RQuant.lean ====
module

public import proofs.«01_k».proof.Proof.Gen.ReferenceIdeal.Frame
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

/-- The greatest magnitudes the reference computes are the rows' greatest magnitudes. -/
theorem pay25_apply (v : Vec Ideal S12x2048x2560 .bf16) (b : Fin 12) (t : Fin 2048) (z : Fin 1) : k0_pay25 v (ix3 b t z) = Cert.Spec.amax (fun k => v (ix3 b t k)) := by
  pointwise [k0_pay24, k0_pay25]
  rfl
/-- A column of row values laid along the powers, entry by entry. -/
theorem bc1 (v : FVec Ideal S12x2048x1 .f32) (b : Fin 12) (t : Fin 2048) (x : Fin 254) : broadcastTo S12x2048x254 v broadcasts_S12x2048x1_S12x2048x254 (ix3 b t x) = v (ix3 b t 0) := by
  pointwise []

/-- The powers laid along the rows, entry by entry. -/
theorem bc2 (v : FVec Ideal S1x1x254 .f32) (b : Fin 12) (t : Fin 2048) (x : Fin 254) : broadcastTo S12x2048x254 v broadcasts_S1x1x254_S12x2048x254 (ix3 b t x) = v (ix3 0 0 x) := by
  pointwise []

/-- The table of powers of two, entry by entry. -/
theorem bc3 (x : Fin 254) (c : EReal) : (exp2 (subf (sitofp .f32 (iota .tc S1x1x254 32 [2] iota_S1x1x254_d2_w32)) (broadcast S1x1x254 c)) : FVec Ideal S1x1x254 .f32) (ix3 0 0 x) = Ideal.exp2 (((BitVec.ofNat 32 x.val).toInt : ℝ) - c) := by
  pointwise []
  rfl

/-- The comparison with the powers, entry by entry. -/
theorem bc4 (v w : FVec Ideal S12x2048x254 .f32) (b : Fin 12) (t : Fin 2048) (x : Fin 254)  (c d : EReal) : select (cmpf .oge v w) (broadcast S12x2048x254 c) (broadcast S12x2048x254 d : FVec Ideal S12x2048x254 .f32) (ix3 b t x) = if w (ix3 b t x) ≤ v (ix3 b t x) then c else d := by
  pointwise []

/-- A column times a constant, entry by entry. -/
theorem bc5 (a : FVec Ideal S12x2048x1 .f32) (c : EReal) (b : Fin 12) (t : Fin 2048) (z : Fin 1) : mulf a (broadcast S12x2048x1 c : FVec Ideal S12x2048x1 .f32) (ix3 b t z) = a (ix3 b t z) * c := rfl
/-- A constant's value is the value of its bits. -/
theorem bc6 (w : BitVec 32) : (FloatOps.ofBits .f32 w : Ideal .f32) = Ideal.ofBits .f32 w := rfl

/-- Which powers a row's scaled magnitude reaches, entry by entry. -/
theorem pay26_apply (v : Vec Ideal S12x2048x2560 .bf16) (b : Fin 12) (t : Fin 2048) (x : Fin 254) : k0_pay26 v (ix3 b t x) =
   if Ideal.exp2 (((BitVec.ofNat 32 x.val).toInt : ℝ) - Ideal.ofBits .f32 1123811328#32) ≤ Cert.Spec.scaled (fun k => v (ix3 b t k)) then (1 : EReal) else 0 := by
  delta k0_pay26
  refine (bc4 _ _ b t x _ _).trans ?_
  rw [bc1, bc2, bc3]
  rw [bc5, pay25_apply]
  simp only [bc6, Ideal.ofBits_one_f32, Ideal.ofBits_zero_f32, Cert.Spec.scaled]
  exact if_congr Iff.rfl rfl rfl

/-- The exponent from that, entry by entry. -/
theorem pay27_apply (a : FVec Ideal S12x2048x1 .f32) (w : FVec Ideal S12x2048x254 .f32) (b : Fin 12) (t : Fin 2048) (z : Fin 1) : k0_pay27 a w (ix3 b t z) =
   if a (ix3 b t 0) = 0 then (0 : EReal) else (∑ x : Fin 254, w (ix3 b t x)) - Ideal.ofBits .f32 1123811328#32 := by
  obtain rfl : z = 0 := Subsingleton.elim _ _
  pointwise [k0_pay27]
/-- The exponents the reference computes are the rows' exponents. -/
theorem exp_apply (v : Vec Ideal S12x2048x2560 .bf16) (b : Fin 12) (t : Fin 2048) (z : Fin 1) : k0_pay27 (k0_pay25 v) (k0_pay26 v) (ix3 b t z) = Cert.Spec.expR (fun k => v (ix3 b t k)) := by
  rw [pay27_apply, pay25_apply]
  simp only [pay26_apply]
  rfl
/-- The scales, opened to the exponents. -/
theorem pay29_open (a : FVec Ideal S12x2048x1 .f32) (w : FVec Ideal S12x2048x254 .f32) (b : Fin 12) (t : Fin 2048) : k0_pay29 a w (ix2 b t) = Ideal.exp2 (k0_pay27 a w (ix3 b t 0)) := by
  pointwise [k0_pay29]
  rfl
/-- The codes, opened to the exponents. -/
theorem pay28_open (v : FVec Ideal S12x2048x2560 .f32) (a : FVec Ideal S12x2048x1 .f32) (w : FVec Ideal S12x2048x254 .f32) (b : Fin 12) (t : Fin 2048) (k : Fin 2560) :
    k0_pay28 v a w (ix3 b t k) = min (Ideal.ofBits .f32 1138753536#32) (max (Ideal.ofBits .f32 3286237184#32) (v (ix3 b t k) * Ideal.exp2 (0 - k0_pay27 a w (ix3 b t 0)))) := by
  pointwise [k0_pay28]
  rfl

/-- The scales' result at a row. -/
theorem pay29_apply (v : Vec Ideal S12x2048x2560 .bf16) (b : Fin 12) (t : Fin 2048) : k0_pay29 (k0_pay25 v) (k0_pay26 v) (ix2 b t) = Cert.Spec.scaleR (fun k => v (ix3 b t k)) :=
  (pay29_open _ _ b t).trans (congrArg Ideal.exp2 (exp_apply v b t 0))

/-- The codes' result at an element. -/
theorem pay28_apply (v : Vec Ideal S12x2048x2560 .bf16) (b : Fin 12) (t : Fin 2048) (k : Fin 2560) :
    k0_pay28 (k0_pay24 v) (k0_pay25 v) (k0_pay26 v) (ix3 b t k) = Cert.Spec.code Cert.Spec.invR (fun k => v (ix3 b t k)) k := by
  rw [pay28_open, exp_apply]
  rfl

end Cert.ReferenceIdeal.Hand
-- ==== Proof.ReferenceIdeal.Reads.lean ====
/- WHAT THE INPUT WINDOWS HOLD: the arguments, at an index of a block. -/
module

public import proofs.«01_k».proof.Proof.Gen.ReferenceIdeal.Frame
public import proofs.«01_k».proof.Proof.ReferenceIdeal.RState
public import proofs.«01_k».proof.Proof.ReferenceIdeal.RQuant
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

/-- The layer's arguments on a core. -/
abbrev argsAt : Cert.Spec.Args := Cert.Spec.argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Which block of each input array a grid point reads. -/
theorem idx : ∀ t : Fin cfg0.N, win0_0.index t = ![0, 0, 0] ∧ win0_1.index t = ![0, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

/-- The block of array 0 holds the input. -/
theorem in0 (t : Fin cfg0.N) (b : Fin 12) (k : Fin 2048) (o : Fin 2560) : iblk m c 0 t (ix3 b k o) = (argsAt m c).x b k o := by
  show _ = m ((c : Thread nD τ).loc main_arg0) (ix3 b k o)
  blk_ext [iblk, idx t, V_main_arg0 m c]

/-- The block of array 2 holds the input matrix's scales. -/
theorem in2 (t : Fin cfg0.N) (p : Fin 2) (n : Fin 256) : iblk m c 2 t (ix2 p n) = (argsAt m c).bs p n := by
  show _ = m ((c : Thread nD τ).loc main_arg2) (ix2 p n)
  blk_ext [iblk, idx t, V_main_arg2 m c]

/-- The block of array 9 holds the initial state's real part. -/
theorem in9 (t : Fin cfg0.N) (b : Fin 12) (n : Fin 256) : iblk m c 9 t (ix2 b n) = (argsAt m c).hre b n := by
  show _ = m ((c : Thread nD τ).loc main_arg9) (ix2 b n)
  blk_ext [iblk, idx t, V_main_arg9 m c]

/-- The block of array 10 holds the initial state's imaginary part. -/
theorem in10 (t : Fin cfg0.N) (b : Fin 12) (n : Fin 256) : iblk m c 10 t (ix2 b n) = (argsAt m c).him b n := by
  show _ = m ((c : Thread nD τ).loc main_arg10) (ix2 b n)
  blk_ext [iblk, idx t, V_main_arg10 m c]

/-- The block of array 1 holds the input matrix's codes. -/
theorem in1 (t : Fin cfg0.N) (p : Fin 2) (n : Fin 256) (k : Fin 2560) : iblk m c 1 t (ix3 p n k) = m ((c : Thread nD τ).loc main_arg1) (ix3 p n k) := by
  show _ = m ((c : Thread nD τ).loc main_arg1) (ix3 p n k)
  blk_ext! [iblk, idx t]

/-- The block of array 3 holds the output matrix's codes. -/
theorem in3 (t : Fin cfg0.N) (o : Fin 2560) (s : Fin 512) : iblk m c 3 t (ix2 o s) = (argsAt m c).cw o s := by
  show _ = m ((c : Thread nD τ).loc main_arg3) (ix3 o ⟨s.val / 256, by omega⟩ ⟨s.val % 256, by omega⟩)
  blk_ext! [iblk, idx t]

/-- The block of array 4 holds the output matrix's scales. -/
theorem in4 (t : Fin cfg0.N) (n : Fin 2560) : iblk m c 4 t (ix2 0 n) = (argsAt m c).cs n := by
  show _ = m ((c : Thread nD τ).loc main_arg4) (ix1 n)
  blk_ext! [iblk, idx t]

/-- The block of array 5 holds the eigenvalues' real parts. -/
theorem in5 (t : Fin cfg0.N) (n : Fin 256) : iblk m c 5 t (ix2 0 n) = (argsAt m c).lre n := by
  show _ = m ((c : Thread nD τ).loc main_arg5) (ix1 n)
  blk_ext! [iblk, idx t]

/-- The block of array 6 holds the eigenvalues' imaginary parts. -/
theorem in6 (t : Fin cfg0.N) (n : Fin 256) : iblk m c 6 t (ix2 0 n) = (argsAt m c).lim n := by
  show _ = m ((c : Thread nD τ).loc main_arg6) (ix1 n)
  blk_ext! [iblk, idx t]

/-- The block of array 7 holds the logarithms of the steps. -/
theorem in7 (t : Fin cfg0.N) (n : Fin 256) : iblk m c 7 t (ix2 0 n) = (argsAt m c).ldt n := by
  show _ = m ((c : Thread nD τ).loc main_arg7) (ix1 n)
  blk_ext! [iblk, idx t]

/-- The block of array 8 holds the skip term's factors. -/
theorem in8 (t : Fin cfg0.N) (n : Fin 2560) : iblk m c 8 t (ix2 0 n) = (argsAt m c).d n := by
  show _ = m ((c : Thread nD τ).loc main_arg8) (ix1 n)
  blk_ext! [iblk, idx t]

end Cert.ReferenceIdeal.Hand
-- ==== Proof.ReferenceIdeal.RValue.lean ====
/- THE REFERENCE'S FIVE RESULTS as the layer's. -/
module

public import proofs.«01_k».proof.Proof.Gen.ReferenceIdeal.Frame
public import proofs.«01_k».proof.Proof.ReferenceIdeal.Reads
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

section Pays
variable (A : Cert.Spec.Args) (v0 v2 v4 : Vec Ideal S1x256 .f32) (h0 : ∀ n, v0 (ix2 0 n) = A.lre n) (h2 : ∀ n, v2 (ix2 0 n) = A.lim n) (h4 : ∀ n, v4 (ix2 0 n) = A.ldt n)
include h0 h2 h4
/-- The reference's discrete eigenvalue, real part. -/
theorem pay18_spec (n : Fin 256) : k0_pay18 v0 v2 v4 (ix2 0 n) = Cert.Spec.lamRe A n := by
  unfold Cert.Spec.lamRe Cert.Spec.rad Cert.Spec.ang
  rw [← h0, ← h2, ← h4]
  pointwise [k0_pay18, k0_pay13, k0_pay14, k0_pay15, k0_pay16, k0_pay17]
/-- The reference's discrete eigenvalue, imaginary part. -/
theorem pay19_spec (n : Fin 256) : k0_pay19 v0 v2 v4 (ix2 0 n) = Cert.Spec.lamIm A n := by
  unfold Cert.Spec.lamIm Cert.Spec.rad Cert.Spec.ang
  rw [← h0, ← h2, ← h4]
  pointwise [k0_pay19, k0_pay13, k0_pay14, k0_pay15, k0_pay16, k0_pay17]
/-- The reference's input factor, real part. -/
theorem pay22_spec (n : Fin 256) : k0_pay22 v0 v2 v4 (ix2 0 n) = Cert.Spec.coRe A n := by
  unfold Cert.Spec.coRe Cert.Spec.den
  rw [← pay18_spec A v0 v2 v4 h0 h2 h4, ← pay19_spec A v0 v2 v4 h0 h2 h4, ← h0, ← h2]
  pointwise [k0_pay22, k0_pay13, k0_pay14, k0_pay20, k0_pay21]
/-- The reference's input factor, imaginary part. -/
theorem pay23_spec (n : Fin 256) : k0_pay23 v0 v2 v4 (ix2 0 n) = Cert.Spec.coIm A n := by
  unfold Cert.Spec.coIm Cert.Spec.den
  rw [← pay18_spec A v0 v2 v4 h0 h2 h4, ← pay19_spec A v0 v2 v4 h0 h2 h4, ← h0, ← h2]
  pointwise [k0_pay23, k0_pay13, k0_pay14, k0_pay20, k0_pay21]
end Pays

variable (m : (ℓ : Loc nD τ sig) → Buf (Elt Ideal) ℓ) (c : Dev nD)

/-- The reference's fifth result: the scales. -/
theorem val15 : (dats m 0 c).arrAt 15 cfg0.N = (show S12x2048.Idx → Elt Ideal .f32 from Cert.Spec.resS Cert.Spec.scaleR (argsAt m c)) := by
  refine (dats m 0 c).arrAt_eq_of_after_last 15 t0_0 (by decide +kernel) _ fun j => ?_
  blk_simp
  rw [after0_15]
  frame_out
  simp only [read_unread_whole]
  idx_vars j
  rw [pay29_apply]
  simp only [in0]
  rfl

/-- The reference's fourth result: the codes. -/
theorem val14 : (dats m 0 c).arrAt 14 cfg0.N = (show S12x2048x2560.Idx → Elt Ideal .fp8e4m3 from Cert.Spec.resC Cert.Spec.invR (argsAt m c)) := by
  refine (dats m 0 c).arrAt_eq_of_after_last 14 t0_0 (by decide +kernel) _ fun j => ?_
  blk_simp
  rw [after0_14]
  frame_out
  simp only [read_unread_whole]
  idx_vars j
  rw [pay28_apply]
  simp only [in0]
  rfl

/-- Reading the scratch back after the loop: the common values of the pieces. -/
theorem cov_apply (v : View sig .tc .vmem S12x2048x2560 .f32) (L P : List (View.Piece (Elt Ideal) S12x2048x2560 .f32)) (G : S12x2048x2560.Idx → Elt Ideal .f32)
    (hG : ∀ p ∈ L, ∀ x, p.2 x = G (p.1.emb x)) (hc : ∀ y, ∃ p ∈ L, y ∈ p.1.set) (inb) (y : S12x2048x2560.Idx) :
    k0_pay1 (F := Ideal) (v.readCov (L ++ P) (Rect.unit (s := S12x2048x2560) ![0, 0, 0] S12x2048x2560.size inb).toLoadRect) y = G y := by
  show v.read (Elt Ideal) (v.writes (Elt Ideal) v.junk (L ++ P)) ((Rect.unit (s := S12x2048x2560) ![0, 0, 0] S12x2048x2560.size inb).emb y) = _
  have e : (Rect.unit (s := S12x2048x2560) ![0, 0, 0] S12x2048x2560.size inb).emb y = y := by
    funext a
    apply Fin.ext
    fin_cases a
    · show 0 + 1 * (y 0).val = (y 0).val; omega
    · show 0 + 1 * (y 1).val = (y 1).val; omega
    · show 0 + 1 * (y 2).val = (y 2).val; omega
  rw [e, View.writes_append]
  exact View.read_writes_apply_of_pieces v _ G L hG y (hc y)

/-- The windows the reference's steps read hold the layer's arguments. -/
theorem ins_ok (h0 h1 h2 h3 h4 h8) : RIns (ms0_0 t0_0) (ms0_1 t0_0) (ms0_2 t0_0) (ms0_3 t0_0) (ms0_4 t0_0) (ms0_8 t0_0)
    (k0_pay18 (iblk m c 5 t0_0) (iblk m c 6 t0_0) (iblk m c 7 t0_0)) (k0_pay19 (iblk m c 5 t0_0) (iblk m c 6 t0_0) (iblk m c 7 t0_0))
    (k0_pay22 (iblk m c 5 t0_0) (iblk m c 6 t0_0) (iblk m c 7 t0_0)) (k0_pay23 (iblk m c 5 t0_0) (iblk m c 6 t0_0) (iblk m c 7 t0_0))
    (Memref.IsWhole.unread (m := ms0_0 t0_0) h0 (iblk m c 0 t0_0)) (Memref.IsWhole.unread (m := ms0_1 t0_0) h1 (iblk m c 1 t0_0)) (Memref.IsWhole.unread (m := ms0_2 t0_0) h2 (iblk m c 2 t0_0))
    (Memref.IsWhole.unread (m := ms0_3 t0_0) h3 (iblk m c 3 t0_0)) (Memref.IsWhole.unread (m := ms0_4 t0_0) h4 (iblk m c 4 t0_0)) (Memref.IsWhole.unread (m := ms0_8 t0_0) h8 (iblk m c 8 t0_0)) (argsAt m c) where
  x b t k := by rw [Memref.IsWhole.read_unread]; exact in0 m c t0_0 b t k
  b0 n k := by
    rw [Memref.IsWhole.read_unread]
    refine (in1 m c t0_0 0 n k).trans (congrArg (m ((c : Thread nD τ).loc main_arg1)) ?_)
    have hn := n.isLt
    funext a
    apply Fin.ext
    fin_cases a
    · show 0 = n.val / 256; omega
    · show n.val = n.val % 256; omega
    · rfl
  b1 n k := by
    rw [Memref.IsWhole.read_unread]
    refine (in1 m c t0_0 1 n k).trans (congrArg (m ((c : Thread nD τ).loc main_arg1)) ?_)
    have hn := n.isLt
    funext a
    apply Fin.ext
    fin_cases a
    · show 1 = (256 + n.val) / 256; omega
    · show n.val = (256 + n.val) % 256; omega
    · rfl
  bs p n := by rw [Memref.IsWhole.read_unread]; exact in2 m c t0_0 p n
  cw o s := by rw [Memref.IsWhole.read_unread]; exact in3 m c t0_0 o s
  cs o := by rw [Memref.IsWhole.read_unread]; exact in4 m c t0_0 o
  d o := by rw [Memref.IsWhole.read_unread]; exact in8 m c t0_0 o
  lr n := pay18_spec _ _ _ _ (in5 m c t0_0) (in6 m c t0_0) (in7 m c t0_0) n
  li n := pay19_spec _ _ _ _ (in5 m c t0_0) (in6 m c t0_0) (in7 m c t0_0) n
  cr n := pay22_spec _ _ _ _ (in5 m c t0_0) (in6 m c t0_0) (in7 m c t0_0) n
  ci n := pay23_spec _ _ _ _ (in5 m c t0_0) (in6 m c t0_0) (in7 m c t0_0) n

/-- Before the first step the loop carries the initial state. -/
theorem init_ok : Holds (argsAt m c) 0 (iblk m c 9 t0_0, iblk m c 10 t0_0) := fun b n => ⟨in9 m c t0_0 b n, in10 m c t0_0 b n⟩

/-- The loop makes 2048 steps. -/
theorem trips2048 : Scf.trips 0#32 (Scalar.addi 0#32 2048#32) 1#32 = 2048 := by decide +kernel

/-- The reference's second result: the last state's real part. -/
theorem val12 : (dats m 0 c).arrAt 12 cfg0.N = (show S12x256.Idx → Elt Ideal .f32 from Cert.Spec.resRe Cert.Spec.scaleR Cert.Spec.invR (argsAt m c)) := by
  refine (dats m 0 c).arrAt_eq_of_after_last 12 t0_0 (by decide +kernel) _ fun j => ?_
  blk_simp
  rw [after0_12]
  frame_out
  rw [trips2048]
  simp only [read_unread_whole]
  idx_vars j
  exact ((loop_holds _ _ _ _ _ _ _ _ _ _ _ _ _ _ _ _ _ _ _ _ _ _ _ _ _ _ _ _ _ _ _ (ins_ok m c _ _ _ _ _ _) _ (init_ok m c) 2048 le_rfl).1 _ _).1

/-- The reference's third result: the last state's imaginary part. -/
theorem val13 : (dats m 0 c).arrAt 13 cfg0.N = (show S12x256.Idx → Elt Ideal .f32 from Cert.Spec.resIm Cert.Spec.scaleR Cert.Spec.invR (argsAt m c)) := by
  refine (dats m 0 c).arrAt_eq_of_after_last 13 t0_0 (by decide +kernel) _ fun j => ?_
  blk_simp
  rw [after0_13]
  frame_out
  rw [trips2048]
  simp only [read_unread_whole]
  idx_vars j
  exact ((loop_holds _ _ _ _ _ _ _ _ _ _ _ _ _ _ _ _ _ _ _ _ _ _ _ _ _ _ _ _ _ _ _ (ins_ok m c _ _ _ _ _ _) _ (init_ok m c) 2048 le_rfl).1 _ _).2

/-- The reference's first result: the output. -/
theorem val11 : (dats m 0 c).arrAt 11 cfg0.N = (show S12x2048x2560.Idx → Elt Ideal .bf16 from Cert.Spec.resY Cert.Spec.scaleR Cert.Spec.invR (argsAt m c)) := by
  refine (dats m 0 c).arrAt_eq_of_after_last 11 t0_0 (by decide +kernel) _ fun j => ?_
  blk_simp
  rw [after0_11]
  unfold outsAt0 out0_A_11
  dsimp only
  frame_out
  rw [trips2048]
  simp only [read_unread_whole]
  exact cov_apply _ _ _ _ (loop_holds _ _ _ _ _ _ _ _ _ _ _ _ _ _ _ _ _ _ _ _ _ _ _ _ _ _ _ _ _ _ _ (ins_ok m c _ _ _ _ _ _) _ (init_ok m c) 2048 le_rfl).2.1 (fun y => (loop_holds _ _ _ _ _ _ _ _ _ _ _ _ _ _ _ _ _ _ _ _ _ _ _ _ _ _ _ _ _ _ _ (ins_ok m c _ _ _ _ _ _) _ (init_ok m c) 2048 le_rfl).2.2 y (y 1).isLt) _ j

end Cert.ReferenceIdeal.Hand
-- ==== Proof.Algebraic.lean ====
/- THE ALGEBRAIC CLAIM: over the extended reals the kernel and the reference give the same five results. -/
module

public import proofs.«01_k».proof.Defs
public import proofs.«01_k».proof.Proof.Range
public import proofs.«01_k».proof.Proof.KernelIdeal.Results
public import proofs.«01_k».proof.Proof.KernelIdeal.Start
public import proofs.«01_k».proof.Proof.ReferenceIdeal.RValue
public import Idealize.ShloMosaic.Adequacy
public import Idealize.ShloMosaic.Init

@[expose] public section

set_option maxRecDepth 16384

noncomputable section

namespace Cert.Algebraic

open Idealize.ShloMosaic Idealize.ShloMosaic.TcCoe Idealize.SL.Sem Idealize.ShloMosaic.Pipeline

/-- The kernel's run: every execution ends, the five results are the layer's with the kernel's quantiser, and the arguments are kept. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v7_0) = (show (⟨3, ![12, 2048, 2560]⟩ : Shape).Idx → Elt Ideal .bf16 from Cert.Spec.resY Cert.Spec.scaleK Cert.Spec.invK (Cert.KernelIdeal.Hand.argsAt m c))
        ∧ r.2.mem ((c.tc : Thread Cert.KernelIdeal.nD Cert.KernelIdeal.τ).loc Cert.KernelIdeal.main_v7_1) = (show (⟨2, ![12, 256]⟩ : Shape).Idx → Elt Ideal .f32 from Cert.Spec.resRe Cert.Spec.scaleK Cert.Spec.invK (Cert.KernelIdeal.Hand.argsAt m c))
        ∧ r.2.mem ((c.tc : Thread Cert.KernelIdeal.nD Cert.KernelIdeal.τ).loc Cert.KernelIdeal.main_v7_2) = (show (⟨2, ![12, 256]⟩ : Shape).Idx → Elt Ideal .f32 from Cert.Spec.resIm Cert.Spec.scaleK Cert.Spec.invK (Cert.KernelIdeal.Hand.argsAt m c))
        ∧ r.2.mem ((c.tc : Thread Cert.KernelIdeal.nD Cert.KernelIdeal.τ).loc Cert.KernelIdeal.main_v7_3) = (show (⟨3, ![12, 2048, 2560]⟩ : Shape).Idx → Elt Ideal .fp8e4m3 from Cert.Spec.resC Cert.Spec.invK (Cert.KernelIdeal.Hand.argsAt m c))
        ∧ r.2.mem ((c.tc : Thread Cert.KernelIdeal.nD Cert.KernelIdeal.τ).loc Cert.KernelIdeal.main_v7_4) = (show (⟨2, ![12, 2048]⟩ : Shape).Idx → Elt Ideal .f32 from Cert.Spec.resS Cert.Spec.scaleK (Cert.KernelIdeal.Hand.argsAt m c))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run _ _ _).mono (fun _ h c => by
    obtain ⟨h0, h1, h2, h3, h4⟩ := Cert.KernelIdeal.Hand.results m c h.1
    exact ⟨h0, h1, h2, h3, h4, Cert.KernelIdeal.Hand.args_kept m _ h.1 c⟩)
    (Cert.KernelIdeal.Hand.run_main m g (Cert.KernelIdeal.Hand.T m) (fun c => Cert.KernelIdeal.Hand.step_ok m c) (fun c => Cert.KernelIdeal.Hand.start_ok m c))

/-- The reference's run: every execution ends, the five results are the layer's with the reference's quantiser, and the arguments are kept. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
        r.2.mem ((c.tc : Thread Cert.ReferenceIdeal.nD Cert.ReferenceIdeal.τ).loc Cert.ReferenceIdeal.main_v6_0) = (show (⟨3, ![12, 2048, 2560]⟩ : Shape).Idx → Elt Ideal .bf16 from Cert.Spec.resY Cert.Spec.scaleR Cert.Spec.invR (Cert.ReferenceIdeal.Hand.argsAt m c))
        ∧ r.2.mem ((c.tc : Thread Cert.ReferenceIdeal.nD Cert.ReferenceIdeal.τ).loc Cert.ReferenceIdeal.main_v6_1) = (show (⟨2, ![12, 256]⟩ : Shape).Idx → Elt Ideal .f32 from Cert.Spec.resRe Cert.Spec.scaleR Cert.Spec.invR (Cert.ReferenceIdeal.Hand.argsAt m c))
        ∧ r.2.mem ((c.tc : Thread Cert.ReferenceIdeal.nD Cert.ReferenceIdeal.τ).loc Cert.ReferenceIdeal.main_v6_2) = (show (⟨2, ![12, 256]⟩ : Shape).Idx → Elt Ideal .f32 from Cert.Spec.resIm Cert.Spec.scaleR Cert.Spec.invR (Cert.ReferenceIdeal.Hand.argsAt m c))
        ∧ r.2.mem ((c.tc : Thread Cert.ReferenceIdeal.nD Cert.ReferenceIdeal.τ).loc Cert.ReferenceIdeal.main_v6_3) = (show (⟨3, ![12, 2048, 2560]⟩ : Shape).Idx → Elt Ideal .fp8e4m3 from Cert.Spec.resC Cert.Spec.invR (Cert.ReferenceIdeal.Hand.argsAt m c))
        ∧ r.2.mem ((c.tc : Thread Cert.ReferenceIdeal.nD Cert.ReferenceIdeal.τ).loc Cert.ReferenceIdeal.main_v6_4) = (show (⟨2, ![12, 2048]⟩ : Shape).Idx → Elt Ideal .f32 from Cert.Spec.resS Cert.Spec.scaleR (Cert.ReferenceIdeal.Hand.argsAt m c))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run _ _ _).mono (fun _ h c => ⟨((h.2 c).1 11).trans (Cert.ReferenceIdeal.Hand.val11 m c), ((h.2 c).1 12).trans (Cert.ReferenceIdeal.Hand.val12 m c),
      ((h.2 c).1 13).trans (Cert.ReferenceIdeal.Hand.val13 m c), ((h.2 c).1 14).trans (Cert.ReferenceIdeal.Hand.val14 m c), ((h.2 c).1 15).trans (Cert.ReferenceIdeal.Hand.val15 m c), h.1 c⟩)
    (θ_run_and (Cert.ReferenceIdeal.Gen.unchanged m g) (Cert.ReferenceIdeal.Gen.run_main m g))

section Agree

open Cert.Spec

variable (A : Args) (h : ∀ b t, InRange (A.x b t))
include h

/-- Where every row is in range the two quantisers lead to the same states. -/
theorem state_agree (t : ℕ) : state scaleK invK A t = state scaleR invR A t := state_congr _ _ _ _ A (fun b t => quant_eq _ (h b t)) t

/-- Where every row is in range the two quantisers agree, so the five results do. -/
theorem agree : resY scaleK invK A = resY scaleR invR A ∧ resRe scaleK invK A = resRe scaleR invR A ∧ resIm scaleK invK A = resIm scaleR invR A
    ∧ resC invK A = resC invR A ∧ resS scaleK A = resS scaleR A := by
  refine ⟨funext fun j => ?_, funext fun j => ?_, funext fun j => ?_, funext fun j => ?_, funext fun j => ?_⟩
  · rw [resY, resY, state_agree A h]
  · rw [resRe, resRe, state_agree A h]
  · rw [resIm, resIm, state_agree A h]
  · have e := (quant_eq _ (h (j 0) (j 1))).2
    rw [resC, resC]
    simp only [code, e]
  · exact (quant_eq _ (h (j 0) (j 1))).1

end Agree

/-- THE CLAIM: from memories whose arguments agree, every row in range, the kernel and the reference end with the same five results and their arguments kept. -/
theorem algebraic : Cert.algebraic_KernelIdeal_ReferenceIdeal_pre_rows_in_range (hKernelIdeal := Cert.KernelIdeal.Gen.facts) (hReferenceIdeal := Cert.ReferenceIdeal.Gen.facts)
    (hPre_rows_in_range := Cert.Range.facts) := by
  intro m g m' g' hP hm
  have hA : ∀ c : Dev Cert.KernelIdeal.nD, Cert.ReferenceIdeal.Hand.argsAt m' c = Cert.KernelIdeal.Hand.argsAt m c := fun c => by
    obtain ⟨e0, e1, e2, e3, e4, e5, e6, e7, e8, e9, e10⟩ := hm c
    rw [Cert.ReferenceIdeal.Hand.argsAt, e0, e1, e2, e3, e4, e5, e6, e7, e8, e9, e10]
  have hR : ∀ c : Dev Cert.KernelIdeal.nD, ∀ b t, Cert.Spec.InRange ((Cert.KernelIdeal.Hand.argsAt m c).x b t) := fun c b t => Cert.Range.range_of _ _ _ _ _ _ _ _ _ _ _ (hP c) b t
  refine ⟨fun c => (show (⟨3, ![12, 2048, 2560]⟩ : Shape).Idx → Elt Ideal .bf16 from Cert.Spec.resY Cert.Spec.scaleK Cert.Spec.invK (Cert.KernelIdeal.Hand.argsAt m c)),
    fun c => (show (⟨2, ![12, 256]⟩ : Shape).Idx → Elt Ideal .f32 from Cert.Spec.resRe Cert.Spec.scaleK Cert.Spec.invK (Cert.KernelIdeal.Hand.argsAt m c)),
    fun c => (show (⟨2, ![12, 256]⟩ : Shape).Idx → Elt Ideal .f32 from Cert.Spec.resIm Cert.Spec.scaleK Cert.Spec.invK (Cert.KernelIdeal.Hand.argsAt m c)),
    fun c => (show (⟨3, ![12, 2048, 2560]⟩ : Shape).Idx → Elt Ideal .fp8e4m3 from Cert.Spec.resC Cert.Spec.invK (Cert.KernelIdeal.Hand.argsAt m c)),
    fun c => (show (⟨2, ![12, 2048]⟩ : Shape).Idx → Elt Ideal .f32 from Cert.Spec.resS Cert.Spec.scaleK (Cert.KernelIdeal.Hand.argsAt m c)),
    kernel_run m g, (θ_run _ _ _).mono (fun r h c => ?_) (reference_run m' g')⟩
  obtain ⟨q0, q1, q2, q3, q4, hk⟩ := h c
  rw [hA c] at q0 q1 q2 q3 q4
  obtain ⟨a0, a1, a2, a3, a4⟩ := agree _ (hR c)
  exact ⟨q0.trans a0.symm, q1.trans a1.symm, q2.trans a2.symm, q3.trans a3.symm, q4.trans a4.symm, hk⟩

end Cert.Algebraic
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Run
public import proofs.«01_k».proof.Proof.KernelIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Range.facts,
  fun m ρ _ => Cert.Kernel.Hand.frame_run m ρ,
  fun m ρ _ => Cert.KernelIdeal.Hand.frame_run m ρ,
  fun m ρ _ => Cert.KernelIdeal.Hand.frame_run m ρ,
  fun m ρ _ => Cert.ReferenceIdeal.Gen.frame m ρ,
  fun m ρ _ => Cert.ReferenceIdeal.Gen.frame m ρ,
  trivial,
  Cert.Algebraic.algebraic⟩

end Cert.Proof

end
